-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn [hPre_in_range : Cert.Pre_in_range.Facts] (m : (ℓ : Loc Cert.Ffn.nD Cert.Ffn.τ Cert.Ffn.sig) → Buf (Elt Bits) ℓ) : Prop :=
  ∀ c : Dev Cert.Ffn.nD,
    (Cert.Pre_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8))) = (fun _ => 1#1)

def Pre_FfnIdeal [hPre_in_range : Cert.Pre_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))) = (fun _ => 1#1)

def Pre_FfnIdeal_routed [hPre_routed : Cert.Pre_routed.Facts] (m : (ℓ : Loc Cert.FfnIdeal.nD Cert.FfnIdeal.τ Cert.FfnIdeal.sig) → Buf (Elt Ideal) ℓ) : Prop :=
  ∀ c : Dev Cert.FfnIdeal.nD,
    (Cert.Pre_routed.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_routed [hPre_routed : Cert.Pre_routed.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_routed.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))) = (fun _ => 1#1)

def Pre_Last [hPre_in_range : Cert.Pre_in_range.Facts] (m : (ℓ : Loc Cert.Last.nD Cert.Last.τ Cert.Last.sig) → Buf (Elt Bits) ℓ) : Prop :=
  ∀ c : Dev Cert.Last.nD,
    (Cert.Pre_in_range.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7)) (m ((c.tc : Thread Cert.Last.nD Cert.Last.τ).loc Cert.Last.main_arg8))) = (fun _ => 1#1)

def Pre_LastIdeal [hPre_in_range : Cert.Pre_in_range.Facts] (m : (ℓ : Loc Cert.LastIdeal.nD Cert.LastIdeal.τ Cert.LastIdeal.sig) → Buf (Elt Ideal) ℓ) : Prop :=
  ∀ c : Dev Cert.LastIdeal.nD,
    (Cert.Pre_in_range.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8))) = (fun _ => 1#1)

def Pre_LastIdeal_routed [hPre_routed : Cert.Pre_routed.Facts] (m : (ℓ : Loc Cert.LastIdeal.nD Cert.LastIdeal.τ Cert.LastIdeal.sig) → Buf (Elt Ideal) ℓ) : Prop :=
  ∀ c : Dev Cert.LastIdeal.nD,
    (Cert.Pre_routed.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_routed [hPre_routed : Cert.Pre_routed.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_routed.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Ffn [hFfn : Cert.Ffn.Facts] [hPre_in_range : Cert.Pre_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] [hPre_in_range : Cert.Pre_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnIdeal_pre_routed [hFfnIdeal : Cert.FfnIdeal.Facts] [hPre_routed : Cert.Pre_routed.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_routed m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnRefIdeal_pre_routed [hFfnRefIdeal : Cert.FfnRefIdeal.Facts] [hPre_routed : Cert.Pre_routed.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_routed m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Last [hLast : Cert.Last.Facts] [hPre_in_range : Cert.Pre_in_range.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] [hPre_in_range : Cert.Pre_in_range.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastIdeal_pre_routed [hLastIdeal : Cert.LastIdeal.Facts] [hPre_routed : Cert.Pre_routed.Facts] : Prop :=
  ∀ (m : (ℓ : Loc Cert.LastIdeal.nD Cert.LastIdeal.τ Cert.LastIdeal.sig) → Buf (Elt Ideal) ℓ) (g : Dev Cert.LastIdeal.nD → PrngReg), Pre_LastIdeal_routed m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_LastRefIdeal_pre_routed [hLastRefIdeal : Cert.LastRefIdeal.Facts] [hPre_routed : Cert.Pre_routed.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_routed m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Ffn_FfnIdeal : Prop :=
  True

def algebraic_FfnIdeal_FfnRefIdeal_pre_routed [hFfnIdeal : Cert.FfnIdeal.Facts] [hFfnRefIdeal : Cert.FfnRefIdeal.Facts] [hPre_routed : Cert.Pre_routed.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_routed m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v22)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Last_LastIdeal : Prop :=
  True

def algebraic_LastIdeal_LastRefIdeal_pre_routed [hLastIdeal : Cert.LastIdeal.Facts] [hLastRefIdeal : Cert.LastRefIdeal.Facts] [hPre_routed : Cert.Pre_routed.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_routed m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v22)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v22) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v72) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v11)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)) (v3 : (c : Dev Cert.ProjIdeal.nD) → Buf (Elt Ideal) ((c.tc : Thread Cert.ProjIdeal.nD Cert.ProjIdeal.τ).loc Cert.ProjIdeal.main_v11_3)) (v4 : (c : Dev Cert.ProjIdeal.nD) → Buf (Elt Ideal) ((c.tc : Thread Cert.ProjIdeal.nD Cert.ProjIdeal.τ).loc Cert.ProjIdeal.main_v11_4)) (v5 : (c : Dev Cert.ProjIdeal.nD) → Buf (Elt Ideal) ((c.tc : Thread Cert.ProjIdeal.nD Cert.ProjIdeal.τ).loc Cert.ProjIdeal.main_v11_5)) (v6 : (c : Dev Cert.ProjIdeal.nD) → Buf (Elt Ideal) ((c.tc : Thread Cert.ProjIdeal.nD Cert.ProjIdeal.τ).loc Cert.ProjIdeal.main_v11_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_v11_3) = v3 c
          ∧ r.2.mem ((c.tc : Thread Cert.ProjIdeal.nD Cert.ProjIdeal.τ).loc Cert.ProjIdeal.main_v11_4) = v4 c
          ∧ r.2.mem ((c.tc : Thread Cert.ProjIdeal.nD Cert.ProjIdeal.τ).loc Cert.ProjIdeal.main_v11_5) = v5 c
          ∧ r.2.mem ((c.tc : Thread Cert.ProjIdeal.nD Cert.ProjIdeal.τ).loc Cert.ProjIdeal.main_v11_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_v25) = v2 c
          ∧ r.2.mem ((c.tc : Thread Cert.ProjRefIdeal.nD Cert.ProjRefIdeal.τ).loc Cert.ProjRefIdeal.main_v26) = v3 c
          ∧ r.2.mem ((c.tc : Thread Cert.ProjRefIdeal.nD Cert.ProjRefIdeal.τ).loc Cert.ProjRefIdeal.main_v27) = v4 c
          ∧ r.2.mem ((c.tc : Thread Cert.ProjRefIdeal.nD Cert.ProjRefIdeal.τ).loc Cert.ProjRefIdeal.main_v28) = v5 c
          ∧ r.2.mem ((c.tc : Thread Cert.ProjRefIdeal.nD Cert.ProjRefIdeal.τ).loc Cert.ProjRefIdeal.main_v22) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hPre_in_range : Cert.Pre_in_range.Facts) (hPre_routed : Cert.Pre_routed.Facts),
    quiescent_Kernel (hKernel := hKernel)
    ∧ quiescent_KernelIdeal (hKernelIdeal := hKernelIdeal)
    ∧ quiescent_Ffn (hFfn := hFfn) (hPre_in_range := hPre_in_range)
    ∧ quiescent_FfnIdeal (hFfnIdeal := hFfnIdeal) (hPre_in_range := hPre_in_range)
    ∧ quiescent_FfnIdeal_pre_routed (hFfnIdeal := hFfnIdeal) (hPre_routed := hPre_routed)
    ∧ quiescent_FfnRefIdeal (hFfnRefIdeal := hFfnRefIdeal)
    ∧ quiescent_FfnRefIdeal_pre_routed (hFfnRefIdeal := hFfnRefIdeal) (hPre_routed := hPre_routed)
    ∧ quiescent_Last (hLast := hLast) (hPre_in_range := hPre_in_range)
    ∧ quiescent_LastIdeal (hLastIdeal := hLastIdeal) (hPre_in_range := hPre_in_range)
    ∧ quiescent_LastIdeal_pre_routed (hLastIdeal := hLastIdeal) (hPre_routed := hPre_routed)
    ∧ quiescent_LastRefIdeal (hLastRefIdeal := hLastRefIdeal)
    ∧ quiescent_LastRefIdeal_pre_routed (hLastRefIdeal := hLastRefIdeal) (hPre_routed := hPre_routed)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ preserves_Ffn_FfnIdeal
    ∧ algebraic_FfnIdeal_FfnRefIdeal_pre_routed (hFfnIdeal := hFfnIdeal) (hFfnRefIdeal := hFfnRefIdeal) (hPre_routed := hPre_routed)
    ∧ preserves_Last_LastIdeal
    ∧ algebraic_LastIdeal_LastRefIdeal_pre_routed (hLastIdeal := hLastIdeal) (hLastRefIdeal := hLastRefIdeal) (hPre_routed := hPre_routed)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
-- ==== Pre_in_range.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : FVec F S350208x128 .f32) (main_arg1 : IVec S152 32) (main_arg2 : IVec S152 32) (main_arg3 : IVec S1 32) (main_arg4 : FVec F S1024 .f32) (main_arg5 : FVec F S1024 .f32) (main_arg6 : FVec F S2x16x1024x256 .f32) (main_arg7 : FVec F S2x16x1024x256 .f32) (main_arg8 : FVec F S2x16x256x1024 .f32) : IVec S152 1 :=
  let main_c : IVec S_ 32 := constantI S_ 32 0#32
  let main_v0 : IVec S152 32 := broadcastInDim S152 ![] bcast_S_S152 main_c
  let main_v1 : IVec S152 1 := cmpi .sge main_arg1 main_v0
  let main_c_0 : IVec S_ 32 := constantI S_ 32 16#32
  let main_v2 : IVec S152 32 := broadcastInDim S152 ![] bcast_S_S152 main_c_0
  let main_v3 : IVec S152 1 := cmpi .slt main_arg1 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg2 main_v5
  let main_v7 : IVec S152 1 := andi main_v4 main_v6
  let main_c_2 : IVec S_ 32 := constantI S_ 32 16#32
  let main_v8 : IVec S152 32 := broadcastInDim S152 ![] bcast_S_S152 main_c_2
  let main_v9 : IVec S152 1 := cmpi .slt main_arg2 main_v8
  let main_v10 : IVec S152 1 := andi main_v7 main_v9
  main_v10
-- ==== Pre_routed.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S38912x9x128 : Shape := ⟨3, ![38912, 9, 128]⟩
abbrev S38912x1x2 : Shape := ⟨3, ![38912, 1, 2]⟩
abbrev S38912x2 : Shape := ⟨2, ![38912, 2]⟩
abbrev S_ : Shape := ⟨0, ![]⟩

class Facts : Prop where
  shapeCasts_S350208x128_S38912x9x128 : S350208x128.ShapeCasts S38912x9x128
  slices_S38912x9x128_S38912x1x2_0_8_1 : S38912x9x128.Slices ![0, 8, 1] S38912x1x2
  shapeCasts_S38912x1x2_S38912x2 : S38912x1x2.ShapeCasts S38912x2
  bcast_S_S152 : S_.BroadcastsInDim S152 (![] : Fin 0 → Fin S152.rank)
  bcast_S_S350208x128 : S_.BroadcastsInDim S350208x128 (![] : Fin 0 → Fin S350208x128.rank)
  reducesTo_S350208x128_S_d0_1 : S350208x128.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x16x1024x256 : S_.BroadcastsInDim S2x16x1024x256 (![] : Fin 0 → Fin S2x16x1024x256.rank)
  reducesTo_S2x16x1024x256_S_d0_1_2_3 : S2x16x1024x256.ReducesTo [0, 1, 2, 3] S_
  bcast_S_S38912x2 : S_.BroadcastsInDim S38912x2 (![] : Fin 0 → Fin S38912x2.rank)
  reducesTo_S38912x2_S_d0_1 : S38912x2.ReducesTo [0, 1] S_

variable [Facts]

def fn_part2 {F : FTy → Type} [FloatOps F] (main_v2 : FVec F S38912x2 .f32) (main_v29 : IVec S152 1) (main_v34 : IVec S2x16x1024x256 1) (main_c_10 : IVec S_ 1) : IVec S152 1 :=
  let main_v35 : IVec S_ 1 := (fun x v => Host.reduce IntOp.andi x v reducesTo_S2x16x1024x256_S_d0_1_2_3 h_S_) main_v34 main_c_10
  let main_v36 : IVec S152 1 := broadcastInDim S152 ![] bcast_S_S152 main_v35
  let main_v37 : IVec S152 1 := andi main_v29 main_v36
  let main_cst_11 : FVec F S_ .f32 := constant S_ .f32 0x00000000#32
  let main_v38 : FVec F S38912x2 .f32 := broadcastInDim S38912x2 ![] bcast_S_S38912x2 main_cst_11
  let main_v39 : IVec S38912x2 1 := cmpf .oge main_v2 main_v38
  let main_c_12 : IVec S_ 1 := constantI S_ 1 1#1
  let main_v40 : IVec S_ 1 := (fun x v => Host.reduce IntOp.andi x v reducesTo_S38912x2_S_d0_1 h_S_) main_v39 main_c_12
  let main_v41 : IVec S152 1 := broadcastInDim S152 ![] bcast_S_S152 main_v40
  let main_v42 : IVec S152 1 := andi main_v37 main_v41
  main_v42

def fn_part1 {F : FTy → Type} [FloatOps F] (main_arg4 : FVec F S1024 .f32) (main_arg6 : FVec F S2x16x1024x256 .f32) (main_v2 : FVec F S38912x2 .f32) (main_v13 : IVec S152 1) (main_v15 : IVec S350208x128 1) (main_v17 : IVec S350208x128 1) : IVec S152 1 :=
  let main_v18 : IVec S350208x128 1 := andi main_v15 main_v17
  let main_c_4 : IVec S_ 1 := constantI S_ 1 1#1
  let main_v19 : IVec S_ 1 := (fun x v => Host.reduce IntOp.andi x v reducesTo_S350208x128_S_d0_1 h_S_) main_v18 main_c_4
  let main_v20 : IVec S152 1 := broadcastInDim S152 ![] bcast_S_S152 main_v19
  let main_v21 : IVec S152 1 := andi main_v13 main_v20
  let main_cst_5 : FVec F S_ .f32 := constant S_ .f32 0xFF800000#32
  let main_v22 : FVec F S1024 .f32 := broadcastInDim S1024 ![] bcast_S_S1024 main_cst_5
  let main_v23 : IVec S1024 1 := cmpf .ogt main_arg4 main_v22
  let main_cst_6 : FVec F S_ .f32 := constant S_ .f32 0x7F800000#32
  let main_v24 : FVec F S1024 .f32 := broadcastInDim S1024 ![] bcast_S_S1024 main_cst_6
  let main_v25 : IVec S1024 1 := cmpf .olt main_arg4 main_v24
  let main_v26 : IVec S1024 1 := andi main_v23 main_v25
  let main_c_7 : IVec S_ 1 := constantI S_ 1 1#1
  let main_v27 : IVec S_ 1 := (fun x v => Host.reduce IntOp.andi x v reducesTo_S1024_S_d0 h_S_) main_v26 main_c_7
  let main_v28 : IVec S152 1 := broadcastInDim S152 ![] bcast_S_S152 main_v27
  let main_v29 : IVec S152 1 := andi main_v21 main_v28
  let main_cst_8 : FVec F S_ .f32 := constant S_ .f32 0xFF800000#32
  let main_v30 : FVec F S2x16x1024x256 .f32 := broadcastInDim S2x16x1024x256 ![] bcast_S_S2x16x1024x256 main_cst_8
  let main_v31 : IVec S2x16x1024x256 1 := cmpf .ogt main_arg6 main_v30
  let main_cst_9 : FVec F S_ .f32 := constant S_ .f32 0x7F800000#32
  let main_v32 : FVec F S2x16x1024x256 .f32 := broadcastInDim S2x16x1024x256 ![] bcast_S_S2x16x1024x256 main_cst_9
  let main_v33 : IVec S2x16x1024x256 1 := cmpf .olt main_arg6 main_v32
  let main_v34 : IVec S2x16x1024x256 1 := andi main_v31 main_v33
  let main_c_10 : IVec S_ 1 := constantI S_ 1 1#1
  fn_part2 (F := F) main_v2 main_v29 main_v34 main_c_10

def fn {F : FTy → Type} [FloatOps F] (main_arg0 : FVec F S350208x128 .f32) (main_arg1 : IVec S152 32) (main_arg2 : IVec S152 32) (main_arg3 : IVec S1 32) (main_arg4 : FVec F S1024 .f32) (main_arg5 : FVec F S1024 .f32) (main_arg6 : FVec F S2x16x1024x256 .f32) (main_arg7 : FVec F S2x16x1024x256 .f32) (main_arg8 : FVec F S2x16x256x1024 .f32) : IVec S152 1 :=
  let main_v0 : FVec F S38912x9x128 .f32 := shapeCast S38912x9x128 main_arg0 shapeCasts_S350208x128_S38912x9x128
  let main_v1 : FVec F S38912x1x2 .f32 := (extractStridedSlice S38912x1x2 ![0, 8, 1] · slices_S38912x9x128_S38912x1x2_0_8_1) main_v0
  let main_v2 : FVec F S38912x2 .f32 := shapeCast S38912x2 main_v1 shapeCasts_S38912x1x2_S38912x2
  let main_c : IVec S_ 32 := constantI S_ 32 0#32
  let main_v3 : IVec S152 32 := broadcastInDim S152 ![] bcast_S_S152 main_c
  let main_v4 : IVec S152 1 := cmpi .sge main_arg1 main_v3
  let main_c_0 : IVec S_ 32 := constantI S_ 32 16#32
  let main_v5 : IVec S152 32 := broadcastInDim S152 ![] bcast_S_S152 main_c_0
  let main_v6 : IVec S152 1 := cmpi .slt main_arg1 main_v5
  let main_v7 : IVec S152 1 := andi main_v4 main_v6
  let main_c_1 : IVec S_ 32 := constantI S_ 32 0#32
  let main_v8 : IVec S152 32 := broadcastInDim S152 ![] bcast_S_S152 main_c_1
  let main_v9 : IVec S152 1 := cmpi .sge main_arg2 main_v8
  let main_v10 : IVec S152 1 := andi main_v7 main_v9
  let main_c_2 : IVec S_ 32 := constantI S_ 32 16#32
  let main_v11 : IVec S152 32 := broadcastInDim S152 ![] bcast_S_S152 main_c_2
  let main_v12 : IVec S152 1 := cmpi .slt main_arg2 main_v11
  let main_v13 : IVec S152 1 := andi main_v10 main_v12
  let main_cst : FVec F S_ .f32 := constant S_ .f32 0xFF800000#32
  let main_v14 : FVec F S350208x128 .f32 := broadcastInDim S350208x128 ![] bcast_S_S350208x128 main_cst
  let main_v15 : IVec S350208x128 1 := cmpf .ogt main_arg0 main_v14
  let main_cst_3 : FVec F S_ .f32 := constant S_ .f32 0x7F800000#32
  let main_v16 : FVec F S350208x128 .f32 := broadcastInDim S350208x128 ![] bcast_S_S350208x128 main_cst_3
  let main_v17 : IVec S350208x128 1 := cmpf .olt main_arg0 main_v16
  fn_part1 (F := F) main_arg4 main_arg6 main_v2 main_v13 main_v15 main_v17
-- ==== Kernel.lean ====
abbrev S4x8192x512 : Shape := ⟨3, ![4, 8192, 512]⟩
abbrev S512 : Shape := ⟨1, ![512]⟩
abbrev S1x512 : Shape := ⟨2, ![1, 512]⟩
abbrev S4x256x512 : Shape := ⟨3, ![4, 256, 512]⟩
abbrev S4x4x128x128 : Shape := ⟨4, ![4, 4, 128, 128]⟩
abbrev S4x128x128 : Shape := ⟨3, ![4, 128, 128]⟩
abbrev S1x4x128x128 : Shape := ⟨4, ![1, 4, 128, 128]⟩
abbrev S128x128 : Shape := ⟨2, ![128, 128]⟩
abbrev S256x128 : Shape := ⟨2, ![256, 128]⟩
abbrev S1x128 : Shape := ⟨2, ![1, 128]⟩
abbrev S1x256x512 : Shape := ⟨3, ![1, 256, 512]⟩
abbrev S256x512 : Shape := ⟨2, ![256, 512]⟩
abbrev S8x32x128 : Shape := ⟨3, ![8, 32, 128]⟩
abbrev S8x1x128 : Shape := ⟨3, ![8, 1, 128]⟩
abbrev S1x128x128 : Shape := ⟨3, ![1, 128, 128]⟩
abbrev S128x256 : Shape := ⟨2, ![128, 256]⟩
abbrev S256x256 : Shape := ⟨2, ![256, 256]⟩
abbrev S32x128 : Shape := ⟨2, ![32, 128]⟩
abbrev S32x256 : Shape := ⟨2, ![32, 256]⟩
abbrev S1x1x128 : Shape := ⟨3, ![1, 1, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 9
  | .vmem => 13
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S4x8192x512, .bf16⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S1x512, .f32⟩
  | .local _ .vmem, ⟨9, _⟩ => ⟨S1x512, .f32⟩
  | .local _ .vmem, ⟨10, _⟩ => ⟨S4x256x512, .bf16⟩
  | .local _ .vmem, ⟨11, _⟩ => ⟨S4x256x512, .bf16⟩
  | .local _ .vmem, ⟨12, _⟩ => ⟨S4x4x128x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
abbrev S4x8192x512 : Shape := ⟨3, ![4, 8192, 512]⟩
abbrev S512 : Shape := ⟨1, ![512]⟩
abbrev S1x512 : Shape := ⟨2, ![1, 512]⟩
abbrev S4x256x512 : Shape := ⟨3, ![4, 256, 512]⟩
abbrev S4x4x128x128 : Shape := ⟨4, ![4, 4, 128, 128]⟩
abbrev S4x128x128 : Shape := ⟨3, ![4, 128, 128]⟩
abbrev S1x4x128x128 : Shape := ⟨4, ![1, 4, 128, 128]⟩
abbrev S128x128 : Shape := ⟨2, ![128, 128]⟩
abbrev S256x128 : Shape := ⟨2, ![256, 128]⟩
abbrev S1x128 : Shape := ⟨2, ![1, 128]⟩
abbrev S1x256x512 : Shape := ⟨3, ![1, 256, 512]⟩
abbrev S256x512 : Shape := ⟨2, ![256, 512]⟩
abbrev S8x32x128 : Shape := ⟨3, ![8, 32, 128]⟩
abbrev S8x1x128 : Shape := ⟨3, ![8, 1, 128]⟩
abbrev S1x128x128 : Shape := ⟨3, ![1, 128, 128]⟩
abbrev S128x256 : Shape := ⟨2, ![128, 256]⟩
abbrev S256x256 : Shape := ⟨2, ![256, 256]⟩
abbrev S32x128 : Shape := ⟨2, ![32, 128]⟩
abbrev S32x256 : Shape := ⟨2, ![32, 256]⟩
abbrev S1x1x128 : Shape := ⟨3, ![1, 1, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 9
  | .vmem => 13
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S4x8192x512, .bf16⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S1x512, .f32⟩
  | .local _ .vmem, ⟨9, _⟩ => ⟨S1x512, .f32⟩
  | .local _ .vmem, ⟨10, _⟩ => ⟨S4x256x512, .bf16⟩
  | .local _ .vmem, ⟨11, _⟩ => ⟨S4x256x512, .bf16⟩
  | .local _ .vmem, ⟨12, _⟩ => ⟨S4x4x128x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S1x1024 : Shape := ⟨2, ![1, 1024]⟩
abbrev S_ : Shape := ⟨0, ![]⟩
abbrev S152x1 : Shape := ⟨2, ![152, 1]⟩
abbrev S2304x128 : Shape := ⟨2, ![2304, 128]⟩
abbrev S1x1x1024x256 : Shape := ⟨4, ![1, 1, 1024, 256]⟩
abbrev S1x1x256x1024 : Shape := ⟨4, ![1, 1, 256, 1024]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩
abbrev S1024x256 : Shape := ⟨2, ![1024, 256]⟩
abbrev S256x256 : Shape := ⟨2, ![256, 256]⟩

abbrev nBuf : Space → Nat
  | .hbm => 35
  | .vmem => 18
  | .smem => 3
  | _ => 0

abbrev bufTy : (tb : Table) → Fin (tcTables nBuf tb) → BufTy
  | .hbm, ⟨0, _⟩ => ⟨S350208x128, .f32⟩
  | .hbm, ⟨1, _⟩ => ⟨S152, .i32⟩
  | .hbm, ⟨2, _⟩ => ⟨S152, .i32⟩
  | .hbm, ⟨3, _⟩ => ⟨S1024, .f32⟩
  | .hbm, ⟨4, _⟩ => ⟨S1024, .f32⟩
  | .hbm, ⟨5, _⟩ => ⟨S2x16x1024x256, .f32⟩
  | .hbm, ⟨6, _⟩ => ⟨S2x16x1024x256, .f32⟩
  | .hbm, ⟨7, _⟩ => ⟨S2x16x256x1024, .f32⟩
  | .hbm, ⟨8, _⟩ => ⟨S1x1024, .f32⟩
  | .hbm, ⟨9, _⟩ => ⟨S1x1024, .f32⟩
  | .hbm, ⟨10, _⟩ => ⟨S152, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S152, .i32⟩
  | .hbm, ⟨17, _⟩ => ⟨S152, .i32⟩
  | .hbm, ⟨18, _⟩ => ⟨S_, .i32⟩
  | .hbm, ⟨19, _⟩ => ⟨S152, .i32⟩
  | .hbm, ⟨20, _⟩ => ⟨S152, .i1⟩
  | .hbm, ⟨21, _⟩ => ⟨S_, .i32⟩
  | .hbm, ⟨22, _⟩ => ⟨S152, .i32⟩
  | .hbm, ⟨23, _⟩ => ⟨S152, .i32⟩
  | .hbm, ⟨24, _⟩ => ⟨S152, .i32⟩
  | .hbm, ⟨25, _⟩ => ⟨S152x1, .i32⟩
  | .hbm, ⟨26, _⟩ => ⟨S_, .i32⟩
  | .hbm, ⟨27, _⟩ => ⟨S152, .i32⟩
  | .hbm, ⟨28, _⟩ => ⟨S152, .i1⟩
  | .hbm, ⟨29, _⟩ => ⟨S_, .i32⟩
  | .hbm, ⟨30, _⟩ => ⟨S152, .i32⟩
  | .hbm, ⟨31, _⟩ => ⟨S152, .i32⟩
  | .hbm, ⟨32, _⟩ => ⟨S152, .i32⟩
  | .hbm, ⟨33, _⟩ => ⟨S152x1, .i32⟩
  | .hbm, ⟨34, _⟩ => ⟨S350208x128, .f32⟩
  | .local _ .vmem, ⟨0, _⟩ => ⟨S2304x128, .f32⟩
  | .local _ .vmem, ⟨1, _⟩ => ⟨S2304x128, .f32⟩
  | .local _ .vmem, ⟨2, _⟩ => ⟨S1x1024, .f32⟩
  | .local _ .vmem, ⟨3, _⟩ => ⟨S1x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x1024x256, .f32⟩
  | .local _ .vmem, ⟨9, _⟩ => ⟨S1x1x1024x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S2304x128, .f32⟩
  | .local _ .vmem, ⟨17, _⟩ => ⟨S2304x128, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S350208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v22 : Ref sig .tc := ⟨.hbm, 34, rfl⟩
abbrev main_v14 : Ref sig .tc := ⟨.smem, 0, rfl⟩
abbrev main_v21 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_v14.idx, main_v21.idx, main_arg3.idx], fun | 0 => main_v14.names | 1 => main_v21.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2304x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnIdeal.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S1x1024 : Shape := ⟨2, ![1, 1024]⟩
abbrev S_ : Shape := ⟨0, ![]⟩
abbrev S152x1 : Shape := ⟨2, ![152, 1]⟩
abbrev S2304x128 : Shape := ⟨2, ![2304, 128]⟩
abbrev S1x1x1024x256 : Shape := ⟨4, ![1, 1, 1024, 256]⟩
abbrev S1x1x256x1024 : Shape := ⟨4, ![1, 1, 256, 1024]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩
abbrev S1024x256 : Shape := ⟨2, ![1024, 256]⟩
abbrev S256x256 : Shape := ⟨2, ![256, 256]⟩

abbrev nBuf : Space → Nat
  | .hbm => 35
  | .vmem => 18
  | .smem => 3
  | _ => 0

abbrev bufTy : (tb : Table) → Fin (tcTables nBuf tb) → BufTy
  | .hbm, ⟨0, _⟩ => ⟨S350208x128, .f32⟩
  | .hbm, ⟨1, _⟩ => ⟨S152, .i32⟩
  | .hbm, ⟨2, _⟩ => ⟨S152, .i32⟩
  | .hbm, ⟨3, _⟩ => ⟨S1024, .f32⟩
  | .hbm, ⟨4, _⟩ => ⟨S1024, .f32⟩
  | .hbm, ⟨5, _⟩ => ⟨S2x16x1024x256, .f32⟩
  | .hbm, ⟨6, _⟩ => ⟨S2x16x1024x256, .f32⟩
  | .hbm, ⟨7, _⟩ => ⟨S2x16x256x1024, .f32⟩
  | .hbm, ⟨8, _⟩ => ⟨S1x1024, .f32⟩
  | .hbm, ⟨9, _⟩ => ⟨S1x1024, .f32⟩
  | .hbm, ⟨10, _⟩ => ⟨S152, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S152, .i32⟩
  | .hbm, ⟨17, _⟩ => ⟨S152, .i32⟩
  | .hbm, ⟨18, _⟩ => ⟨S_, .i32⟩
  | .hbm, ⟨19, _⟩ => ⟨S152, .i32⟩
  | .hbm, ⟨20, _⟩ => ⟨S152, .i1⟩
  | .hbm, ⟨21, _⟩ => ⟨S_, .i32⟩
  | .hbm, ⟨22, _⟩ => ⟨S152, .i32⟩
  | .hbm, ⟨23, _⟩ => ⟨S152, .i32⟩
  | .hbm, ⟨24, _⟩ => ⟨S152, .i32⟩
  | .hbm, ⟨25, _⟩ => ⟨S152x1, .i32⟩
  | .hbm, ⟨26, _⟩ => ⟨S_, .i32⟩
  | .hbm, ⟨27, _⟩ => ⟨S152, .i32⟩
  | .hbm, ⟨28, _⟩ => ⟨S152, .i1⟩
  | .hbm, ⟨29, _⟩ => ⟨S_, .i32⟩
  | .hbm, ⟨30, _⟩ => ⟨S152, .i32⟩
  | .hbm, ⟨31, _⟩ => ⟨S152, .i32⟩
  | .hbm, ⟨32, _⟩ => ⟨S152, .i32⟩
  | .hbm, ⟨33, _⟩ => ⟨S152x1, .i32⟩
  | .hbm, ⟨34, _⟩ => ⟨S350208x128, .f32⟩
  | .local _ .vmem, ⟨0, _⟩ => ⟨S2304x128, .f32⟩
  | .local _ .vmem, ⟨1, _⟩ => ⟨S2304x128, .f32⟩
  | .local _ .vmem, ⟨2, _⟩ => ⟨S1x1024, .f32⟩
  | .local _ .vmem, ⟨3, _⟩ => ⟨S1x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x1024x256, .f32⟩
  | .local _ .vmem, ⟨9, _⟩ => ⟨S1x1x1024x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S2304x128, .f32⟩
  | .local _ .vmem, ⟨17, _⟩ => ⟨S2304x128, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S350208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v22 : Ref sig .tc := ⟨.hbm, 34, rfl⟩
abbrev main_v14 : Ref sig .tc := ⟨.smem, 0, rfl⟩
abbrev main_v21 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_v14.idx, main_v21.idx, main_arg3.idx], fun | 0 => main_v14.names | 1 => main_v21.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2304x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S38912x9x128 : Shape := ⟨3, ![38912, 9, 128]⟩
abbrev S38912x8x128 : Shape := ⟨3, ![38912, 8, 128]⟩
abbrev S38912x1024 : Shape := ⟨2, ![38912, 1024]⟩
abbrev S38912x1x128 : Shape := ⟨3, ![38912, 1, 128]⟩
abbrev S38912x128 : Shape := ⟨2, ![38912, 128]⟩
abbrev S_ : Shape := ⟨0, ![]⟩
abbrev S38912 : Shape := ⟨1, ![38912]⟩
abbrev S38912x1 : Shape := ⟨2, ![38912, 1]⟩
abbrev S1x1024 : Shape := ⟨2, ![1, 1024]⟩
abbrev S152x256 : Shape := ⟨2, ![152, 256]⟩
abbrev S38912x2 : Shape := ⟨2, ![38912, 2]⟩
abbrev S38912x2x1 : Shape := ⟨3, ![38912, 2, 1]⟩
abbrev S1x1x16 : Shape := ⟨3, ![1, 1, 16]⟩
abbrev S38912x2x16 : Shape := ⟨3, ![38912, 2, 16]⟩
abbrev S38912x16 : Shape := ⟨2, ![38912, 16]⟩
abbrev S1x16x1024x256 : Shape := ⟨4, ![1, 16, 1024, 256]⟩
abbrev S16x1024x256 : Shape := ⟨3, ![16, 1024, 256]⟩
abbrev S38912x16x256 : Shape := ⟨3, ![38912, 16, 256]⟩
abbrev S38912x16x1 : Shape := ⟨3, ![38912, 16, 1]⟩
abbrev S1x16x256x1024 : Shape := ⟨4, ![1, 16, 256, 1024]⟩
abbrev S16x256x1024 : Shape := ⟨3, ![16, 256, 1024]⟩
abbrev S16x1024x38912 : Shape := ⟨3, ![16, 1024, 38912]⟩
abbrev S38912x16x1024 : Shape := ⟨3, ![38912, 16, 1024]⟩
abbrev S38912x1x1 : Shape := ⟨3, ![38912, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S350208x128, .f32⟩
  | .hbm, ⟨1, _⟩ => ⟨S152, .i32⟩
  | .hbm, ⟨2, _⟩ => ⟨S152, .i32⟩
  | .hbm, ⟨3, _⟩ => ⟨S1, .i32⟩
  | .hbm, ⟨4, _⟩ => ⟨S1024, .f32⟩
  | .hbm, ⟨5, _⟩ => ⟨S1024, .f32⟩
  | .hbm, ⟨6, _⟩ => ⟨S2x16x1024x256, .f32⟩
  | .hbm, ⟨7, _⟩ => ⟨S2x16x1024x256, .f32⟩
  | .hbm, ⟨8, _⟩ => ⟨S2x16x256x1024, .f32⟩
  | .hbm, ⟨9, _⟩ => ⟨S38912x9x128, .f32⟩
  | .hbm, ⟨10, _⟩ => ⟨S38912x8x128, .f32⟩
  | .hbm, ⟨11, _⟩ => ⟨S38912x1024, .f32⟩
  | .hbm, ⟨12, _⟩ => ⟨S38912x1x128, .f32⟩
  | .hbm, ⟨13, _⟩ => ⟨S38912x128, .f32⟩
  | .hbm, ⟨14, _⟩ => ⟨S38912x1024, .f32⟩
  | .hbm, ⟨15, _⟩ => ⟨S_, .f32⟩
  | .hbm, ⟨16, _⟩ => ⟨S38912, .f32⟩
  | .hbm, ⟨17, _⟩ => ⟨S38912x1, .f32⟩
  | .hbm, ⟨18, _⟩ => ⟨S_, .f32⟩
  | .hbm, ⟨19, _⟩ => ⟨S38912x1, .f32⟩
  | .hbm, ⟨20, _⟩ => ⟨S38912x1, .f32⟩
  | .hbm, ⟨21, _⟩ => ⟨S_, .f32⟩
  | .hbm, ⟨22, _⟩ => ⟨S38912x1, .f32⟩
  | .hbm, ⟨23, _⟩ => ⟨S38912x1, .f32⟩
  | .hbm, ⟨24, _⟩ => ⟨S38912x1, .f32⟩
  | .hbm, ⟨25, _⟩ => ⟨S38912x1024, .f32⟩
  | .hbm, ⟨26, _⟩ => ⟨S38912x1024, .f32⟩
  | .hbm, ⟨27, _⟩ => ⟨S1x1024, .f32⟩
  | .hbm, ⟨28, _⟩ => ⟨S38912x1024, .f32⟩
  | .hbm, ⟨29, _⟩ => ⟨S38912x1024, .f32⟩
  | .hbm, ⟨30, _⟩ => ⟨S152x256, .i32⟩
  | .hbm, ⟨31, _⟩ => ⟨S38912, .i32⟩
  | .hbm, ⟨32, _⟩ => ⟨S152x256, .i32⟩
  | .hbm, ⟨33, _⟩ => ⟨S38912, .i32⟩
  | .hbm, ⟨34, _⟩ => ⟨S38912x1, .i32⟩
  | .hbm, ⟨35, _⟩ => ⟨S38912x1, .i32⟩
  | .hbm, ⟨36, _⟩ => ⟨S38912x2, .i32⟩
  | .hbm, ⟨37, _⟩ => ⟨S38912x2x1, .i32⟩
  | .hbm, ⟨38, _⟩ => ⟨S1x1x16, .i32⟩
  | .hbm, ⟨39, _⟩ => ⟨S38912x2x16, .i32⟩
  | .hbm, ⟨40, _⟩ => ⟨S38912x2x16, .i32⟩
  | .hbm, ⟨41, _⟩ => ⟨S38912x2x16, .i1⟩
  | .hbm, ⟨42, _⟩ => ⟨S38912x2x16, .f32⟩
  | .hbm, ⟨43, _⟩ => ⟨S38912x2, .f32⟩
  | .hbm, ⟨44, _⟩ => ⟨S38912x2x1, .f32⟩
  | .hbm, ⟨45, _⟩ => ⟨S38912x2x16, .f32⟩
  | .hbm, ⟨46, _⟩ => ⟨S38912x2x16, .f32⟩
  | .hbm, ⟨47, _⟩ => ⟨S_, .f32⟩
  | .hbm, ⟨48, _⟩ => ⟨S38912x16, .f32⟩
  | .hbm, ⟨49, _⟩ => ⟨S1x16x1024x256, .f32⟩
  | .hbm, ⟨50, _⟩ => ⟨S16x1024x256, .f32⟩
  | .hbm, ⟨51, _⟩ => ⟨S38912x16x256, .f32⟩
  | .hbm, ⟨52, _⟩ => ⟨S38912x16x256, .f32⟩
  | .hbm, ⟨53, _⟩ => ⟨S38912x16x256, .f32⟩
  | .hbm, ⟨54, _⟩ => ⟨S_, .f32⟩
  | .hbm, ⟨55, _⟩ => ⟨S38912x16x256, .f32⟩
  | .hbm, ⟨56, _⟩ => ⟨S38912x16x256, .f32⟩
  | .hbm, ⟨57, _⟩ => ⟨S_, .f32⟩
  | .hbm, ⟨58, _⟩ => ⟨S38912x16x256, .f32⟩
  | .hbm, ⟨59, _⟩ => ⟨S38912x16x256, .f32⟩
  | .hbm, ⟨60, _⟩ => ⟨S38912x16x256, .f32⟩
  | .hbm, ⟨61, _⟩ => ⟨S1x16x1024x256, .f32⟩
  | .hbm, ⟨62, _⟩ => ⟨S16x1024x256, .f32⟩
  | .hbm, ⟨63, _⟩ => ⟨S38912x16x256, .f32⟩
  | .hbm, ⟨64, _⟩ => ⟨S38912x16x256, .f32⟩
  | .hbm, ⟨65, _⟩ => ⟨S38912x16x1, .f32⟩
  | .hbm, ⟨66, _⟩ => ⟨S1x16x256x1024, .f32⟩
  | .hbm, ⟨67, _⟩ => ⟨S16x256x1024, .f32⟩
  | .hbm, ⟨68, _⟩ => ⟨S16x1024x38912, .f32⟩
  | .hbm, ⟨69, _⟩ => ⟨S38912x16x1024, .f32⟩
  | .hbm, ⟨70, _⟩ => ⟨S38912x16x1024, .f32⟩
  | .hbm, ⟨71, _⟩ => ⟨S38912x16x1024, .f32⟩
  | .hbm, ⟨72, _⟩ => ⟨S_, .f32⟩
  | .hbm, ⟨73, _⟩ => ⟨S38912x1024, .f32⟩
  | .hbm, ⟨74, _⟩ => ⟨S38912x1024, .f32⟩
  | .hbm, ⟨75, _⟩ => ⟨S38912x8x128, .f32⟩
  | .hbm, ⟨76, _⟩ => ⟨S38912x1x128, .f32⟩
  | .hbm, ⟨77, _⟩ => ⟨S38912x9x128, .f32⟩
  | .hbm, ⟨78, _⟩ => ⟨S152, .i32⟩
  | .hbm, ⟨79, _⟩ => ⟨S_, .i32⟩
  | .hbm, ⟨80, _⟩ => ⟨S152, .i32⟩
  | .hbm, ⟨81, _⟩ => ⟨S152, .i1⟩
  | .hbm, ⟨82, _⟩ => ⟨S152x256, .i1⟩
  | .hbm, ⟨83, _⟩ => ⟨S38912, .i1⟩
  | .hbm, ⟨84, _⟩ => ⟨S38912x1x1, .i1⟩
  | .hbm, ⟨85, _⟩ => ⟨S_, .f32⟩
  | .hbm, ⟨86, _⟩ => ⟨S_, .f32⟩
  | .hbm, ⟨87, _⟩ => ⟨S38912x9x128, .i1⟩
  | .hbm, ⟨88, _⟩ => ⟨S38912x9x128, .f32⟩
  | .hbm, ⟨89, _⟩ => ⟨S38912x9x128, .f32⟩
  | .hbm, ⟨90, _⟩ => ⟨S350208x128, .f32⟩
  | _, _ => ⟨S350208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_4 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Last.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S1x1024 : Shape := ⟨2, ![1, 1024]⟩
abbrev S_ : Shape := ⟨0, ![]⟩
abbrev S152x1 : Shape := ⟨2, ![152, 1]⟩
abbrev S2304x128 : Shape := ⟨2, ![2304, 128]⟩
abbrev S1x1x1024x256 : Shape := ⟨4, ![1, 1, 1024, 256]⟩
abbrev S1x1x256x1024 : Shape := ⟨4, ![1, 1, 256, 1024]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩
abbrev S1024x256 : Shape := ⟨2, ![1024, 256]⟩
abbrev S256x256 : Shape := ⟨2, ![256, 256]⟩

abbrev nBuf : Space → Nat
  | .hbm => 35
  | .vmem => 18
  | .smem => 3
  | _ => 0

abbrev bufTy : (tb : Table) → Fin (tcTables nBuf tb) → BufTy
  | .hbm, ⟨0, _⟩ => ⟨S350208x128, .f32⟩
  | .hbm, ⟨1, _⟩ => ⟨S152, .i32⟩
  | .hbm, ⟨2, _⟩ => ⟨S152, .i32⟩
  | .hbm, ⟨3, _⟩ => ⟨S1024, .f32⟩
  | .hbm, ⟨4, _⟩ => ⟨S1024, .f32⟩
  | .hbm, ⟨5, _⟩ => ⟨S2x16x1024x256, .f32⟩
  | .hbm, ⟨6, _⟩ => ⟨S2x16x1024x256, .f32⟩
  | .hbm, ⟨7, _⟩ => ⟨S2x16x256x1024, .f32⟩
  | .hbm, ⟨8, _⟩ => ⟨S1x1024, .f32⟩
  | .hbm, ⟨9, _⟩ => ⟨S1x1024, .f32⟩
  | .hbm, ⟨10, _⟩ => ⟨S152, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S152, .i32⟩
  | .hbm, ⟨17, _⟩ => ⟨S152, .i32⟩
  | .hbm, ⟨18, _⟩ => ⟨S_, .i32⟩
  | .hbm, ⟨19, _⟩ => ⟨S152, .i32⟩
  | .hbm, ⟨20, _⟩ => ⟨S152, .i1⟩
  | .hbm, ⟨21, _⟩ => ⟨S_, .i32⟩
  | .hbm, ⟨22, _⟩ => ⟨S152, .i32⟩
  | .hbm, ⟨23, _⟩ => ⟨S152, .i32⟩
  | .hbm, ⟨24, _⟩ => ⟨S152, .i32⟩
  | .hbm, ⟨25, _⟩ => ⟨S152x1, .i32⟩
  | .hbm, ⟨26, _⟩ => ⟨S_, .i32⟩
  | .hbm, ⟨27, _⟩ => ⟨S152, .i32⟩
  | .hbm, ⟨28, _⟩ => ⟨S152, .i1⟩
  | .hbm, ⟨29, _⟩ => ⟨S_, .i32⟩
  | .hbm, ⟨30, _⟩ => ⟨S152, .i32⟩
  | .hbm, ⟨31, _⟩ => ⟨S152, .i32⟩
  | .hbm, ⟨32, _⟩ => ⟨S152, .i32⟩
  | .hbm, ⟨33, _⟩ => ⟨S152x1, .i32⟩
  | .hbm, ⟨34, _⟩ => ⟨S350208x128, .f32⟩
  | .local _ .vmem, ⟨0, _⟩ => ⟨S2304x128, .f32⟩
  | .local _ .vmem, ⟨1, _⟩ => ⟨S2304x128, .f32⟩
  | .local _ .vmem, ⟨2, _⟩ => ⟨S1x1024, .f32⟩
  | .local _ .vmem, ⟨3, _⟩ => ⟨S1x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x1024x256, .f32⟩
  | .local _ .vmem, ⟨9, _⟩ => ⟨S1x1x1024x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S2304x128, .f32⟩
  | .local _ .vmem, ⟨17, _⟩ => ⟨S2304x128, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S350208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v22 : Ref sig .tc := ⟨.hbm, 34, rfl⟩
abbrev main_v14 : Ref sig .tc := ⟨.smem, 0, rfl⟩
abbrev main_v21 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_v14.idx, main_v21.idx, main_arg3.idx], fun | 0 => main_v14.names | 1 => main_v21.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_7 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_8 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2304x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LastRefIdeal.lean ====
abbrev S350208x128 : Shape := ⟨2, ![350208, 128]⟩
abbrev S152 : Shape := ⟨1, ![152]⟩
abbrev S1 : Shape := ⟨1, ![1]⟩
abbrev S1024 : Shape := ⟨1, ![1024]⟩
abbrev S2x16x1024x256 : Shape := ⟨4, ![2, 16, 1024, 256]⟩
abbrev S2x16x256x1024 : Shape := ⟨4, ![2, 16, 256, 1024]⟩
abbrev S38912x9x128 : Shape := ⟨3, ![38912, 9, 128]⟩
abbrev S38912x8x128 : Shape := ⟨3, ![38912, 8, 128]⟩
abbrev S38912x1024 : Shape := ⟨2, ![38912, 1024]⟩
abbrev S38912x1x128 : Shape := ⟨3, ![38912, 1, 128]⟩
abbrev S38912x128 : Shape := ⟨2, ![38912, 128]⟩
abbrev S_ : Shape := ⟨0, ![]⟩
abbrev S38912 : Shape := ⟨1, ![38912]⟩
abbrev S38912x1 : Shape := ⟨2, ![38912, 1]⟩
abbrev S1x1024 : Shape := ⟨2, ![1, 1024]⟩
abbrev S152x256 : Shape := ⟨2, ![152, 256]⟩
abbrev S38912x2 : Shape := ⟨2, ![38912, 2]⟩
abbrev S38912x2x1 : Shape := ⟨3, ![38912, 2, 1]⟩
abbrev S1x1x16 : Shape := ⟨3, ![1, 1, 16]⟩
abbrev S38912x2x16 : Shape := ⟨3, ![38912, 2, 16]⟩
abbrev S38912x16 : Shape := ⟨2, ![38912, 16]⟩
abbrev S1x16x1024x256 : Shape := ⟨4, ![1, 16, 1024, 256]⟩
abbrev S16x1024x256 : Shape := ⟨3, ![16, 1024, 256]⟩
abbrev S38912x16x256 : Shape := ⟨3, ![38912, 16, 256]⟩
abbrev S38912x16x1 : Shape := ⟨3, ![38912, 16, 1]⟩
abbrev S1x16x256x1024 : Shape := ⟨4, ![1, 16, 256, 1024]⟩
abbrev S16x256x1024 : Shape := ⟨3, ![16, 256, 1024]⟩
abbrev S16x1024x38912 : Shape := ⟨3, ![16, 1024, 38912]⟩
abbrev S38912x16x1024 : Shape := ⟨3, ![38912, 16, 1024]⟩
abbrev S38912x1x1 : Shape := ⟨3, ![38912, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S350208x128, .f32⟩
  | .hbm, ⟨1, _⟩ => ⟨S152, .i32⟩
  | .hbm, ⟨2, _⟩ => ⟨S152, .i32⟩
  | .hbm, ⟨3, _⟩ => ⟨S1, .i32⟩
  | .hbm, ⟨4, _⟩ => ⟨S1024, .f32⟩
  | .hbm, ⟨5, _⟩ => ⟨S1024, .f32⟩
  | .hbm, ⟨6, _⟩ => ⟨S2x16x1024x256, .f32⟩
  | .hbm, ⟨7, _⟩ => ⟨S2x16x1024x256, .f32⟩
  | .hbm, ⟨8, _⟩ => ⟨S2x16x256x1024, .f32⟩
  | .hbm, ⟨9, _⟩ => ⟨S38912x9x128, .f32⟩
  | .hbm, ⟨10, _⟩ => ⟨S38912x8x128, .f32⟩
  | .hbm, ⟨11, _⟩ => ⟨S38912x1024, .f32⟩
  | .hbm, ⟨12, _⟩ => ⟨S38912x1x128, .f32⟩
  | .hbm, ⟨13, _⟩ => ⟨S38912x128, .f32⟩
  | .hbm, ⟨14, _⟩ => ⟨S38912x1024, .f32⟩
  | .hbm, ⟨15, _⟩ => ⟨S_, .f32⟩
  | .hbm, ⟨16, _⟩ => ⟨S38912, .f32⟩
  | .hbm, ⟨17, _⟩ => ⟨S38912x1, .f32⟩
  | .hbm, ⟨18, _⟩ => ⟨S_, .f32⟩
  | .hbm, ⟨19, _⟩ => ⟨S38912x1, .f32⟩
  | .hbm, ⟨20, _⟩ => ⟨S38912x1, .f32⟩
  | .hbm, ⟨21, _⟩ => ⟨S_, .f32⟩
  | .hbm, ⟨22, _⟩ => ⟨S38912x1, .f32⟩
  | .hbm, ⟨23, _⟩ => ⟨S38912x1, .f32⟩
  | .hbm, ⟨24, _⟩ => ⟨S38912x1, .f32⟩
  | .hbm, ⟨25, _⟩ => ⟨S38912x1024, .f32⟩
  | .hbm, ⟨26, _⟩ => ⟨S38912x1024, .f32⟩
  | .hbm, ⟨27, _⟩ => ⟨S1x1024, .f32⟩
  | .hbm, ⟨28, _⟩ => ⟨S38912x1024, .f32⟩
  | .hbm, ⟨29, _⟩ => ⟨S38912x1024, .f32⟩
  | .hbm, ⟨30, _⟩ => ⟨S152x256, .i32⟩
  | .hbm, ⟨31, _⟩ => ⟨S38912, .i32⟩
  | .hbm, ⟨32, _⟩ => ⟨S152x256, .i32⟩
  | .hbm, ⟨33, _⟩ => ⟨S38912, .i32⟩
  | .hbm, ⟨34, _⟩ => ⟨S38912x1, .i32⟩
  | .hbm, ⟨35, _⟩ => ⟨S38912x1, .i32⟩
  | .hbm, ⟨36, _⟩ => ⟨S38912x2, .i32⟩
  | .hbm, ⟨37, _⟩ => ⟨S38912x2x1, .i32⟩
  | .hbm, ⟨38, _⟩ => ⟨S1x1x16, .i32⟩
  | .hbm, ⟨39, _⟩ => ⟨S38912x2x16, .i32⟩
  | .hbm, ⟨40, _⟩ => ⟨S38912x2x16, .i32⟩
  | .hbm, ⟨41, _⟩ => ⟨S38912x2x16, .i1⟩
  | .hbm, ⟨42, _⟩ => ⟨S38912x2x16, .f32⟩
  | .hbm, ⟨43, _⟩ => ⟨S38912x2, .f32⟩
  | .hbm, ⟨44, _⟩ => ⟨S38912x2x1, .f32⟩
  | .hbm, ⟨45, _⟩ => ⟨S38912x2x16, .f32⟩
  | .hbm, ⟨46, _⟩ => ⟨S38912x2x16, .f32⟩
  | .hbm, ⟨47, _⟩ => ⟨S_, .f32⟩
  | .hbm, ⟨48, _⟩ => ⟨S38912x16, .f32⟩
  | .hbm, ⟨49, _⟩ => ⟨S1x16x1024x256, .f32⟩
  | .hbm, ⟨50, _⟩ => ⟨S16x1024x256, .f32⟩
  | .hbm, ⟨51, _⟩ => ⟨S38912x16x256, .f32⟩
  | .hbm, ⟨52, _⟩ => ⟨S38912x16x256, .f32⟩
  | .hbm, ⟨53, _⟩ => ⟨S38912x16x256, .f32⟩
  | .hbm, ⟨54, _⟩ => ⟨S_, .f32⟩
  | .hbm, ⟨55, _⟩ => ⟨S38912x16x256, .f32⟩
  | .hbm, ⟨56, _⟩ => ⟨S38912x16x256, .f32⟩
  | .hbm, ⟨57, _⟩ => ⟨S_, .f32⟩
  | .hbm, ⟨58, _⟩ => ⟨S38912x16x256, .f32⟩
  | .hbm, ⟨59, _⟩ => ⟨S38912x16x256, .f32⟩
  | .hbm, ⟨60, _⟩ => ⟨S38912x16x256, .f32⟩
  | .hbm, ⟨61, _⟩ => ⟨S1x16x1024x256, .f32⟩
  | .hbm, ⟨62, _⟩ => ⟨S16x1024x256, .f32⟩
  | .hbm, ⟨63, _⟩ => ⟨S38912x16x256, .f32⟩
  | .hbm, ⟨64, _⟩ => ⟨S38912x16x256, .f32⟩
  | .hbm, ⟨65, _⟩ => ⟨S38912x16x1, .f32⟩
  | .hbm, ⟨66, _⟩ => ⟨S1x16x256x1024, .f32⟩
  | .hbm, ⟨67, _⟩ => ⟨S16x256x1024, .f32⟩
  | .hbm, ⟨68, _⟩ => ⟨S16x1024x38912, .f32⟩
  | .hbm, ⟨69, _⟩ => ⟨S38912x16x1024, .f32⟩
  | .hbm, ⟨70, _⟩ => ⟨S38912x16x1024, .f32⟩
  | .hbm, ⟨71, _⟩ => ⟨S38912x16x1024, .f32⟩
  | .hbm, ⟨72, _⟩ => ⟨S_, .f32⟩
  | .hbm, ⟨73, _⟩ => ⟨S38912x1024, .f32⟩
  | .hbm, ⟨74, _⟩ => ⟨S38912x1024, .f32⟩
  | .hbm, ⟨75, _⟩ => ⟨S38912x1024, .f32⟩
  | .hbm, ⟨76, _⟩ => ⟨S_, .f32⟩
  | .hbm, ⟨77, _⟩ => ⟨S38912, .f32⟩
  | .hbm, ⟨78, _⟩ => ⟨S38912x1, .f32⟩
  | .hbm, ⟨79, _⟩ => ⟨S_, .f32⟩
  | .hbm, ⟨80, _⟩ => ⟨S38912x1, .f32⟩
  | .hbm, ⟨81, _⟩ => ⟨S38912x1, .f32⟩
  | .hbm, ⟨82, _⟩ => ⟨S_, .f32⟩
  | .hbm, ⟨83, _⟩ => ⟨S38912x1, .f32⟩
  | .hbm, ⟨84, _⟩ => ⟨S38912x1, .f32⟩
  | .hbm, ⟨85, _⟩ => ⟨S38912x1, .f32⟩
  | .hbm, ⟨86, _⟩ => ⟨S38912x1024, .f32⟩
  | .hbm, ⟨87, _⟩ => ⟨S38912x1024, .f32⟩
  | .hbm, ⟨88, _⟩ => ⟨S1x1024, .f32⟩
  | .hbm, ⟨89, _⟩ => ⟨S38912x1024, .f32⟩
  | .hbm, ⟨90, _⟩ => ⟨S38912x1024, .f32⟩
  | .hbm, ⟨91, _⟩ => ⟨S38912x8x128, .f32⟩
  | .hbm, ⟨92, _⟩ => ⟨S38912x1x128, .f32⟩
  | .hbm, ⟨93, _⟩ => ⟨S38912x9x128, .f32⟩
  | .hbm, ⟨94, _⟩ => ⟨S152, .i32⟩
  | .hbm, ⟨95, _⟩ => ⟨S_, .i32⟩
  | .hbm, ⟨96, _⟩ => ⟨S152, .i32⟩
  | .hbm, ⟨97, _⟩ => ⟨S152, .i1⟩
  | .hbm, ⟨98, _⟩ => ⟨S152x256, .i1⟩
  | .hbm, ⟨99, _⟩ => ⟨S38912, .i1⟩
  | .hbm, ⟨100, _⟩ => ⟨S38912x1x1, .i1⟩
  | .hbm, ⟨101, _⟩ => ⟨S_, .f32⟩
  | .hbm, ⟨102, _⟩ => ⟨S_, .f32⟩
  | .hbm, ⟨103, _⟩ => ⟨S38912x9x128, .i1⟩
  | .hbm, ⟨104, _⟩ => ⟨S38912x9x128, .f32⟩
  | .hbm, ⟨105, _⟩ => ⟨S38912x9x128, .f32⟩
  | .hbm, ⟨106, _⟩ => ⟨S350208x128, .f32⟩
  | _, _ => ⟨S350208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_7 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Out.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S1024x16 : Shape := ⟨2, ![1024, 16]⟩
abbrev S1024x20 : Shape := ⟨2, ![1024, 20]⟩
abbrev S20x1024 : Shape := ⟨2, ![20, 1024]⟩
abbrev S_ : Shape := ⟨0, ![]⟩
abbrev S128x1024 : Shape := ⟨2, ![128, 1024]⟩
abbrev S512x1024 : Shape := ⟨2, ![512, 1024]⟩
abbrev S1x1024 : Shape := ⟨2, ![1, 1024]⟩
abbrev S294912x128 : Shape := ⟨2, ![294912, 128]⟩
abbrev S64x8x512 : Shape := ⟨3, ![64, 8, 512]⟩
abbrev S128x128 : Shape := ⟨2, ![128, 128]⟩
abbrev S512x512 : Shape := ⟨2, ![512, 512]⟩
abbrev S4608x128 : Shape := ⟨2, ![4608, 128]⟩
abbrev S1x8x512 : Shape := ⟨3, ![1, 8, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S8x512 : Shape := ⟨2, ![8, 512]⟩
abbrev S512x128 : Shape := ⟨2, ![512, 128]⟩
abbrev S32768x9x128 : Shape := ⟨3, ![32768, 9, 128]⟩
abbrev S32768x8x128 : Shape := ⟨3, ![32768, 8, 128]⟩

abbrev nBuf : Space → Nat
  | .hbm => 23
  | .vmem => 16
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S1024x16, .f32⟩
  | .hbm, ⟨7, _⟩ => ⟨S1024x1024, .bf16⟩
  | .hbm, ⟨8, _⟩ => ⟨S1024x20, .f32⟩
  | .hbm, ⟨9, _⟩ => ⟨S20x1024, .f32⟩
  | .hbm, ⟨10, _⟩ => ⟨S_, .i32⟩
  | .hbm, ⟨11, _⟩ => ⟨S_, .f32⟩
  | .hbm, ⟨12, _⟩ => ⟨S128x1024, .f32⟩
  | .hbm, ⟨13, _⟩ => ⟨S128x1024, .bf16⟩
  | .hbm, ⟨14, _⟩ => ⟨S512x1024, .bf16⟩
  | .hbm, ⟨15, _⟩ => ⟨S512x1024, .bf16⟩
  | .hbm, ⟨16, _⟩ => ⟨S1x1024, .f32⟩
  | .hbm, ⟨17, _⟩ => ⟨S294912x128, .f32⟩
  | .hbm, ⟨18, _⟩ => ⟨S64x8x512, .i32⟩
  | .hbm, ⟨19, _⟩ => ⟨S128x128, .f32⟩
  | .hbm, ⟨20, _⟩ => ⟨S32768x9x128, .f32⟩
  | .hbm, ⟨21, _⟩ => ⟨S32768x8x128, .f32⟩
  | .hbm, ⟨22, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S128x1024, .bf16⟩
  | .local _ .vmem, ⟨10, _⟩ => ⟨S4608x128, .f32⟩
  | .local _ .vmem, ⟨11, _⟩ => ⟨S4608x128, .f32⟩
  | .local _ .vmem, ⟨12, _⟩ => ⟨S1x8x512, .i32⟩
  | .local _ .vmem, ⟨13, _⟩ => ⟨S1x8x512, .i32⟩
  | .local _ .vmem, ⟨14, _⟩ => ⟨S128x128, .f32⟩
  | .local _ .vmem, ⟨15, _⟩ => ⟨S128x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4608x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutRefIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S1024x16 : Shape := ⟨2, ![1024, 16]⟩

abbrev nBuf : Space → Nat
  | .hbm => 12
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S1024x16, .f32⟩
  | .hbm, ⟨7, _⟩ => ⟨S32768x512, .f32⟩
  | .hbm, ⟨8, _⟩ => ⟨S32768x512, .f32⟩
  | .hbm, ⟨9, _⟩ => ⟨S32768x1024, .f32⟩
  | .hbm, ⟨10, _⟩ => ⟨S32768x1024, .f32⟩
  | .hbm, ⟨11, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Proj.lean ====
abbrev S4x8192x1024 : Shape := ⟨3, ![4, 8192, 1024]⟩
abbrev S1024 : Shape := ⟨1, ![1024]⟩
abbrev S1024x3592 : Shape := ⟨2, ![1024, 3592]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S32768x1024 : Shape := ⟨2, ![32768, 1024]⟩
abbrev S1x1024 : Shape := ⟨2, ![1, 1024]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3592, .f32⟩
  | .hbm, ⟨3, _⟩ => ⟨S1024x3592, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x8, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1024x512, .bf16⟩
  | .hbm, ⟨13, _⟩ => ⟨S1024x1024, .bf16⟩
  | .hbm, ⟨14, _⟩ => ⟨S32768x1024, .f32⟩
  | .hbm, ⟨15, _⟩ => ⟨S1x1024, .f32⟩
  | .hbm, ⟨16, _⟩ => ⟨S32768x512, .bf16⟩
  | .hbm, ⟨17, _⟩ => ⟨S32768x1024, .bf16⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x512, .bf16⟩
  | .hbm, ⟨22, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x128, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S4x8192x1024 : Shape := ⟨3, ![4, 8192, 1024]⟩
abbrev S1024 : Shape := ⟨1, ![1024]⟩
abbrev S1024x3592 : Shape := ⟨2, ![1024, 3592]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3592 : Shape := ⟨3, ![4, 8192, 3592]⟩
abbrev S32768x3592 : Shape := ⟨2, ![32768, 3592]⟩
abbrev S32768x512 : Shape := ⟨2, ![32768, 512]⟩
abbrev S32768x1024 : Shape := ⟨2, ![32768, 1024]⟩
abbrev S32768x8 : Shape := ⟨2, ![32768, 8]⟩
abbrev S32768x128 : Shape := ⟨2, ![32768, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3592, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3592, .f32⟩
  | .hbm, ⟨20, _⟩ => ⟨S32768x3592, .f32⟩
  | .hbm, ⟨21, _⟩ => ⟨S32768x512, .f32⟩
  | .hbm, ⟨22, _⟩ => ⟨S32768x1024, .f32⟩
  | .hbm, ⟨23, _⟩ => ⟨S32768x8, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S_, .i32⟩
  | .hbm, ⟨29, _⟩ => ⟨S_, .f32⟩
  | .hbm, ⟨30, _⟩ => ⟨S32768x128, .f32⟩
  | .hbm, ⟨31, _⟩ => ⟨S32768x512, .bf16⟩
  | .hbm, ⟨32, _⟩ => ⟨S32768x1024, .bf16⟩
  | .hbm, ⟨33, _⟩ => ⟨S32768x512, .bf16⟩
  | .hbm, ⟨34, _⟩ => ⟨S32768x512, .bf16⟩
  | .hbm, ⟨35, _⟩ => ⟨S32768x512, .bf16⟩
  | .hbm, ⟨36, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.HgrnBody.lean ====
module

public import proofs.«01_k».proof.Proof.Gen.KernelIdeal.Frame
public import proofs.«01_k».proof.Proof.Gen.KernelIdeal.Skeleton

@[expose] public section

set_option maxRecDepth 16384

noncomputable section

namespace Cert.KernelIdeal.Hgrn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's branch is taken: the grid point is the first of its sweep along the sequence. -/
abbrev first (i : grid0.Coords) : Prop :=
  (Scalar.cmpi .ne (Scalar.extui (Scalar.cmpi .eq (BitVec.ofNat 32 (i 1).val) 0#32)) 0#32) = 1#1

theorem first_iff : ∀ t : Fin cfg0.N, first (grid0.coords t) ↔ t.val % 32 = 0 :=
  (fun t => by
    have ht : t.val < 32 := Nat.lt_of_lt_of_eq t.isLt N_0
    have e1 : (grid0.coords t 1).val = t.val / 1 % 32 := Pipeline.Grid.coords_val t 1 (by decide) rfl
    simp only [first, e1]
    word_cmp
   : ∀ t : Fin grid0.N, first (grid0.coords t) ↔ t.val % 32 = 0)

set_option maxHeartbeats 4000000 in
/-- The body's run at the first grid point, where the branch zeroes the carried state: the pieces its stores leave in the
    output's staging buffer and in the carried state (last first), with the proof that the body, called on whole
    buffers, ends with the inputs as they were and those pieces written. -/
noncomputable def runA (c : Dev nD) (i : grid0.Coords)
    (arg2 : Memref sig .tc .vmem S4x256x512 .bf16) (harg2 : arg2.IsWhole)
    (arg3 : Memref sig .tc .vmem S4x256x512 .bf16) (harg3 : arg3.IsWhole)
    (arg4 : Memref sig .tc .vmem S4x256x512 .bf16) (harg4 : arg4.IsWhole)
    (arg5 : Memref sig .tc .vmem S4x256x512 .bf16) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S4x256x512 .bf16) (harg8 : arg8.IsWhole)
    (arg9 : Memref sig .tc .vmem S4x4x128x128 .f32) (harg9 : arg9.IsWhole)
    (hc : first i)
    (x0 x1 x2 x3 : Vec F S4x256x512 .bf16) (x4 x5 : Vec F S1x512 .f32) :
    Σ' (L6 : List (View.Piece (Elt F) S4x256x512 .bf16)), { LS0 : List (View.Piece (Elt F) S4x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9) K } := by
  refine ⟨?_, ?_, fun E K => ?run⟩
  case run =>
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    set_option sl_exec.squeezeSlice true in sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

set_option maxHeartbeats 4000000 in
/-- The body's run at a later grid point, where the carried state is `xs`: the pieces its stores leave in the
    output's staging buffer and in the carried state (last first), with the proof that the body, called on whole
    buffers, ends with the inputs as they were and those pieces written. -/
noncomputable def runB (c : Dev nD) (i : grid0.Coords)
    (arg2 : Memref sig .tc .vmem S4x256x512 .bf16) (harg2 : arg2.IsWhole)
    (arg3 : Memref sig .tc .vmem S4x256x512 .bf16) (harg3 : arg3.IsWhole)
    (arg4 : Memref sig .tc .vmem S4x256x512 .bf16) (harg4 : arg4.IsWhole)
    (arg5 : Memref sig .tc .vmem S4x256x512 .bf16) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S4x256x512 .bf16) (harg8 : arg8.IsWhole)
    (arg9 : Memref sig .tc .vmem S4x4x128x128 .f32) (harg9 : arg9.IsWhole)
    (hc : ¬first i)
    (x0 x1 x2 x3 : Vec F S4x256x512 .bf16) (x4 x5 : Vec F S1x512 .f32) (xs : Vec F S4x4x128x128 .f32) :
    Σ' (L6 : List (View.Piece (Elt F) S4x256x512 .bf16)), { LS0 : List (View.Piece (Elt F) S4x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_hgrn i arg2 harg2 arg3 harg3 arg4 harg4 arg5 harg5 arg6 harg6 arg7 harg7 arg8 harg8 arg9 harg9) K } := by
  refine ⟨?_, ?_, fun E K => ?run⟩
  case run =>
    simp only [cc0_hgrn_eq_skeleton]; unfold cc0_hgrn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    set_option sl_exec.squeezeSlice true in sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hgrn

end
-- ==== Proof.HgrnFrame.lean ====
module

public import proofs.«01_k».proof.Proof.HgrnBody
public import Idealize.ShloMosaic.Lib.Claim

@[expose] public section

set_option maxRecDepth 16384

noncomputable section

namespace Cert.KernelIdeal.Hgrn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers at a point, and the views the results are read through -/

abbrev st0 (t : Fin cfg0.N) : Memref sig .tc .vmem S4x256x512 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S4x256x512 .bf16 := win0_1.stage (cfg0.slots t 1)
abbrev hst1 (t : Fin cfg0.N) : (st1 t).IsWhole := hstage0_1 ((cfg0.slots t 1).cast nbuf0_1)
abbrev st2 (t : Fin cfg0.N) : Memref sig .tc .vmem S4x256x512 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S4x256x512 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S1x512 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x512 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S4x256x512 .bf16 := win0_6.stage (cfg0.slots t 6)
abbrev hst6 (t : Fin cfg0.N) : (st6 t).IsWhole := hstage0_6 ((cfg0.slots t 6).cast nbuf0_6)
/-- The carried state, a scoped buffer of the kernel's own. -/
abbrev scM : Memref sig .tc .vmem S4x4x128x128 .f32 := Memref.whole cc0_scratch0
abbrev VO : View sig .tc .vmem S4x256x512 .bf16 := (Memref.whole cc0_stg6_0 : Memref sig .tc .vmem S4x256x512 .bf16).view
abbrev VS : View sig .tc .vmem S4x4x128x128 .f32 := scM.view

/-- What the region hands over before its first point: the state buffer at anything, the generator at some state. -/
theorem handed (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What one point leaves -/

/-- The run at point `t` (the first), on the point's staging buffers and input blocks. -/
abbrev atA (c : Dev nD) (t : Fin cfg0.N) (h : t.val % 32 = 0) :=
  runA c (grid0.coords t) (st0 t) (hst0 t) (st1 t) (hst1 t) (st2 t) (hst2 t) (st3 t) (hst3 t) (st4 t) (hst4 t) (st5 t) (hst5 t) (st6 t) (hst6 t) scM (Memref.isWhole_whole _) ((first_iff t).mpr h) (iblk m c 0 t) (iblk m c 1 t) (iblk m c 2 t) (iblk m c 3 t) (iblk m c 4 t) (iblk m c 5 t)

/-- The stored output pieces tile the output block, -/
theorem out_coverA (c : Dev nD) (t : Fin cfg0.N) (h : t.val % 32 = 0) (y : S4x256x512.Idx) :
    ∃ pc ∈ (atA m c t h).1, y ∈ pc.1.set :=
  View.cover_of_tiledL (atA m c t h).1 S1x256x128.size (by sl_kernel_rfl) y

/-- and the stored state pieces cover the state. -/
theorem state_coverA (c : Dev nD) (t : Fin cfg0.N) (h : t.val % 32 = 0) (y : S4x4x128x128.Idx) :
    ∃ pc ∈ (atA m c t h).2.1, y ∈ pc.1.set :=
  View.cover_of_tiledL (atA m c t h).2.1 ![1, 1, 128, 128] (by sl_kernel_rfl) y

def outA (c : Dev nD) (t : Fin cfg0.N) (h : t.val % 32 = 0) : Vec F S4x256x512 .bf16 :=
  VO.read (Elt F) (VO.writes (Elt F) VO.junk (atA m c t h).1)

def stateA (c : Dev nD) (t : Fin cfg0.N) (h : t.val % 32 = 0) : Vec F S4x4x128x128 .f32 :=
  VS.read (Elt F) (VS.writes (Elt F) VS.junk (atA m c t h).2.1)

/-- The run at point `t` (a later one), on the point's staging buffers and input blocks. -/
abbrev atB (c : Dev nD) (t : Fin cfg0.N) (h : ¬ t.val % 32 = 0) (xs : Vec F S4x4x128x128 .f32) :=
  runB c (grid0.coords t) (st0 t) (hst0 t) (st1 t) (hst1 t) (st2 t) (hst2 t) (st3 t) (hst3 t) (st4 t) (hst4 t) (st5 t) (hst5 t) (st6 t) (hst6 t) scM (Memref.isWhole_whole _) (fun h' => h ((first_iff t).mp h')) (iblk m c 0 t) (iblk m c 1 t) (iblk m c 2 t) (iblk m c 3 t) (iblk m c 4 t) (iblk m c 5 t) xs

/-- The stored output pieces tile the output block, -/
theorem out_coverB (c : Dev nD) (t : Fin cfg0.N) (h : ¬ t.val % 32 = 0) (xs : Vec F S4x4x128x128 .f32) (y : S4x256x512.Idx) :
    ∃ pc ∈ (atB m c t h xs).1, y ∈ pc.1.set :=
  View.cover_of_tiledL (atB m c t h xs).1 S1x256x128.size (by sl_kernel_rfl) y

/-- and the stored state pieces cover the state. -/
theorem state_coverB (c : Dev nD) (t : Fin cfg0.N) (h : ¬ t.val % 32 = 0) (xs : Vec F S4x4x128x128 .f32) (y : S4x4x128x128.Idx) :
    ∃ pc ∈ (atB m c t h xs).2.1, y ∈ pc.1.set :=
  View.cover_of_tiledL (atB m c t h xs).2.1 ![1, 1, 128, 128] (by sl_kernel_rfl) y

def outB (c : Dev nD) (t : Fin cfg0.N) (h : ¬ t.val % 32 = 0) (xs : Vec F S4x4x128x128 .f32) : Vec F S4x256x512 .bf16 :=
  VO.read (Elt F) (VO.writes (Elt F) VO.junk (atB m c t h xs).1)

def stateB (c : Dev nD) (t : Fin cfg0.N) (h : ¬ t.val % 32 = 0) (xs : Vec F S4x4x128x128 .f32) : Vec F S4x4x128x128 .f32 :=
  VS.read (Elt F) (VS.writes (Elt F) VS.junk (atB m c t h xs).2.1)

/-- What each point leaves in the output's staging buffer and in the carried state: from the state the point before left. -/
def left (c : Dev nD) : (n : ℕ) → n < cfg0.N → Vec F S4x256x512 .bf16 × Vec F S4x4x128x128 .f32
  | 0, hn => (outA m c ⟨0, hn⟩ (Nat.zero_mod _), stateA m c ⟨0, hn⟩ (Nat.zero_mod _))
  | n + 1, hn =>
    if h : (n + 1) % 32 = 0 then (outA m c ⟨n + 1, hn⟩ h, stateA m c ⟨n + 1, hn⟩ h)
    else (outB m c ⟨n + 1, hn⟩ h (left c n (Nat.lt_of_succ_lt hn)).2,
      stateB m c ⟨n + 1, hn⟩ h (left c n (Nat.lt_of_succ_lt hn)).2)

theorem left_A (c : Dev nD) (t : Fin cfg0.N) (h : t.val % 32 = 0) :
    left m c t.val t.isLt = (outA m c t h, stateA m c t h) := by
  obtain ⟨n, hn⟩ := t
  cases n with
  | zero => exact rfl
  | succ n => exact (dif_pos h).trans rfl

theorem left_B (c : Dev nD) (t : Fin cfg0.N) (h : ¬ t.val % 32 = 0) :
    left m c t.val t.isLt
      = (outB m c t h (left m c (t.val - 1) (Nat.lt_of_le_of_lt (Nat.sub_le _ _) t.isLt)).2,
         stateB m c t h (left m c (t.val - 1) (Nat.lt_of_le_of_lt (Nat.sub_le _ _) t.isLt)).2) := by
  obtain ⟨n, hn⟩ := t
  cases n with
  | zero => exact absurd (Nat.zero_mod _) h
  | succ n => exact (dif_neg h).trans rfl

/-- The region's invariant before point `n`: at first what the region hands over, then the carried state at what the
    point before left. -/
def inv (c : Dev nD) : (n : ℕ) → n ≤ cfg0.N → sProp 𝕄
  | 0, _ => Pipeline.ΦA spec0 c
  | n + 1, hn => iprop(iprop(owns (c : Thread nD τ) scM fullShare ((left m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scM fullShare ((left m c n hn).2)) ∗ (∃ r, prngReg c r)) := rfl

theorem inv_pos (c : Dev nD) (n : ℕ) (h : n ≤ cfg0.N) (hz : n ≠ 0) :
    inv m c n h = iprop(iprop(owns (c : Thread nD τ) scM fullShare ((left m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = (left m c t.val t.isLt).1 := by dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

set_option maxHeartbeats 6400000 in
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = inv m c (t.val + 1) t.isLt from rfl, inv_succ]
  have hN : t.val < 32 := lt_of_lt_of_eq t.isLt (show cfg0.N = 32 from N_0)
  by_cases h : t.val % 32 = 0
  · have hz : t.val = 0 := by omega
    rw [inv_castSucc m c t, inv_zero m c _ _ hz, handed, left_A m c t h]
    unfold outA stateA; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((first_iff t).mpr h) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS Hg]
    · isplitl [HS]
      · unfold owns; iexists _; isplitr
        swap; · iexact HS
        ipureintro; exact View.read_writes_of_cover _ _ _ _ _ (state_coverA m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (out_coverA m c t h)
  · have hz : t.val ≠ 0 := by omega
    rw [inv_castSucc m c t, inv_pos m c _ _ hz, left_B m c t h]
    unfold outB stateB; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ (fun h' => h ((first_iff t).mp h')) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS Hg]
    · isplitl [HS]
      · unfold owns; iexists _; isplitr
        swap; · iexact HS
        ipureintro; exact View.read_writes_of_cover _ _ _ _ _ (state_coverB m c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (out_coverB m c t h _)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 32 := N_0; omega
  rw [show (dats m 0 c).Φ (Fin.last cfg0.N) = inv m c (Fin.last cfg0.N).val (Nat.le_of_lt_succ (Fin.last cfg0.N).isLt) from rfl,
    inv_pos m c _ _ hz, handed]
  iintro ⟨HS, Hg⟩
  isplitl [HS]
  · iexists _; iexact HS
  iexact Hg

/-! ## The launch -/

set_option backward.isDefEq.respectTransparency.types false in
/-- Every execution of the program ends, with each array of the pipeline at what the proof data computes, every other
    buffer as the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hgrn

end
-- ==== Proof.ProjValue.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjIdeal.Val

open Cert.ProjIdeal Cert.ProjIdeal.Gen

variable (m : (ℓ : Loc nD τ sig) → Buf (Elt Ideal) ℓ)

/-- The reference's normalised rows. -/
def normed (X : FVec Ideal S4x8192x1024 .f32) (nw : FVec Ideal S1024 .f32) : FVec Ideal S4x8192x1024 .f32 :=
  mulf (mulf X (broadcastInDim S4x8192x1024 ![0, 1, 2] Cert.ProjRefIdeal.Gen.bcast_S4x8192x1_S4x8192x1024_0_1_2 (Host.rsqrt (addf (Host.divf (broadcastInDim Cert.ProjRefIdeal.S4x8192x1 ![0, 1] Cert.ProjRefIdeal.Gen.bcast_S4x8192_S4x8192x1_0_1 (Host.reduceAdd (mulf X X) (constant Cert.ProjRefIdeal.S_ .f32 0x00000000#32) Cert.ProjRefIdeal.Gen.reducesTo_S4x8192x1024_S4x8192_d2 Cert.ProjRefIdeal.Gen.h_S_)) (broadcastInDim Cert.ProjRefIdeal.S4x8192x1 ![] Cert.ProjRefIdeal.Gen.bcast_S_S4x8192x1 (constant Cert.ProjRefIdeal.S_ .f32 0x44800000#32))) (broadcastInDim Cert.ProjRefIdeal.S4x8192x1 ![] Cert.ProjRefIdeal.Gen.bcast_S_S4x8192x1 (constant Cert.ProjRefIdeal.S_ .f32 0x358637BD#32)))))) (broadcastInDim S4x8192x1024 ![0, 1, 2] Cert.ProjRefIdeal.Gen.bcast_S1x1x1024_S4x8192x1024_0_1_2 (broadcastInDim Cert.ProjRefIdeal.S1x1x1024 ![2] Cert.ProjRefIdeal.Gen.bcast_S1024_S1x1x1024_2 nw))

/-- The reference's projection of the normalised rows, before it is cut into its seven parts. -/
def proj (X : FVec Ideal S4x8192x1024 .f32) (nw : FVec Ideal S1024 .f32) (W : FVec Ideal S1024x3592 .f32) :
    FVec Ideal Cert.ProjRefIdeal.S32768x3592 .f32 :=
  shapeCast _ (Host.dotGeneral Cert.ProjRefIdeal.dot_S4x8192x1024_S1024x3592_S4x8192x3592_2_0_01_1_n_n none (normed X nw) W) Cert.ProjRefIdeal.Gen.shapeCasts_S4x8192x3592_S32768x3592

/-- One entry of a normalised row, from the row and the weight: `x k * rsqrt (mean of squares + eps) * w`. -/
def rms (x : Fin 1024 → EReal) (w : EReal) (k : Fin 1024) : EReal :=
  x k * Ideal.rsqrt (Ideal.div (∑ j, x j * x j) (Ideal.ofBits FTy.f32 1149239296#32) + Ideal.ofBits FTy.f32 897988541#32) * w

theorem normed_apply (X : FVec Ideal S4x8192x1024 .f32) (nw : FVec Ideal S1024 .f32) (b : Fin 4) (s : Fin 8192) (k : Fin 1024) :
    normed X nw (ix3 b s k) = rms (fun j => X (ix3 b s j)) (nw (ix1 k)) k := by
  pointwise [normed, rms]

/-- Row `r` of the flat token axis, in the array that has a batch axis. -/
abbrev tok (r : Fin 32768) (k : Fin 1024) : S4x8192x1024.Idx :=
  ix3 (⟨r.val / 8192, by omega⟩ : Fin 4) (⟨r.val % 8192, by omega⟩ : Fin 8192) k

theorem proj_apply (X : FVec Ideal S4x8192x1024 .f32) (nw : FVec Ideal S1024 .f32) (W : FVec Ideal S1024x3592 .f32)
    (r : Fin 32768) (n : Fin 3592) :
    proj X nw W (ix2 r n) = ∑ k, rms (fun j => X (tok r j)) (nw (ix1 k)) k * W (ix2 k n) := by
  pointwise [proj]
  exact Finset.sum_congr rfl fun k _ => congrArg (· * W (ix2 k n)) (normed_apply X nw _ _ k)

theorem pay5_apply (x : FVec Ideal S512x1024 .f32) (w : FVec Ideal S1x1024 .f32) (r : Fin 512) (k : Fin 1024) :
    k0_pay5 (F := Ideal) x w (ix2 r k) = rms (fun j => x (ix2 r j)) (w (ix2 0 k)) k := by
  pointwise [k0_pay5, rms]

/-- The products of the body, each the normalised block against one block of columns. -/
theorem pay6_apply (x : FVec Ideal S512x1024 .f32) (w : FVec Ideal S1x1024 .f32) (W : FVec Ideal S1024x512 .bf16) (r : Fin 512) (n : Fin 512) :
    k0_pay6 (F := Ideal) x w W (ix2 r n) = ∑ k, rms (fun j => x (ix2 r j)) (w (ix2 0 k)) k * W (ix2 k n) := by
  pointwise [k0_pay6]
  exact Finset.sum_congr rfl fun k _ => congrArg (· * W (ix2 k n)) (pay5_apply x w r k)

theorem pay7_apply (x : FVec Ideal S512x1024 .f32) (w : FVec Ideal S1x1024 .f32) (W : FVec Ideal S1024x1024 .bf16) (r : Fin 512) (n : Fin 1024) :
    k0_pay7 (F := Ideal) x w W (ix2 r n) = ∑ k, rms (fun j => x (ix2 r j)) (w (ix2 0 k)) k * W (ix2 k n) := by
  pointwise [k0_pay7]
  exact Finset.sum_congr rfl fun k _ => congrArg (· * W (ix2 k n)) (pay5_apply x w r k)

theorem pay4_apply (x : FVec Ideal S512x1024 .f32) (w : FVec Ideal S1x1024 .f32) (W : FVec Ideal S1024x128 .bf16) (r : Fin 512) (n : Fin 128) :
    k0_pay4 (F := Ideal) (k0_pay5 (F := Ideal) x w) W (ix2 r n) = ∑ k, rms (fun j => x (ix2 r j)) (w (ix2 0 k)) k * W (ix2 k n) := by
  pointwise [k0_pay4]
  exact Finset.sum_congr rfl fun k _ => congrArg (· * W (ix2 k n)) (pay5_apply x w r k)

theorem pay1_apply (x : FVec Ideal S512x1024 .f32) (w : FVec Ideal S1x1024 .f32) (W : FVec Ideal S1024x512 .bf16) (r : Fin 512) (n : Fin 512) :
    k0_pay1 (F := Ideal) (k0_pay5 (F := Ideal) x w) W (ix2 r n) = ∑ k, rms (fun j => x (ix2 r j)) (w (ix2 0 k)) k * W (ix2 k n) := by
  pointwise [k0_pay1]
  exact Finset.sum_congr rfl fun k _ => congrArg (· * W (ix2 k n)) (pay5_apply x w r k)

theorem pay2_apply (x : FVec Ideal S512x1024 .f32) (w : FVec Ideal S1x1024 .f32) (W : FVec Ideal S1024x512 .bf16) (r : Fin 512) (n : Fin 512) :
    k0_pay2 (F := Ideal) (k0_pay5 (F := Ideal) x w) W (ix2 r n) = ∑ k, rms (fun j => x (ix2 r j)) (w (ix2 0 k)) k * W (ix2 k n) := by
  pointwise [k0_pay2]
  exact Finset.sum_congr rfl fun k _ => congrArg (· * W (ix2 k n)) (pay5_apply x w r k)

theorem pay3_apply (x : FVec Ideal S512x1024 .f32) (w : FVec Ideal S1x1024 .f32) (W : FVec Ideal S1024x512 .bf16) (r : Fin 512) (n : Fin 512) :
    k0_pay3 (F := Ideal) (k0_pay5 (F := Ideal) x w) W (ix2 r n) = ∑ k, rms (fun j => x (ix2 r j)) (w (ix2 0 k)) k * W (ix2 k n) := by
  pointwise [k0_pay3]
  exact Finset.sum_congr rfl fun k _ => congrArg (· * W (ix2 k n)) (pay5_apply x w r k)

/-- Where each window's block of a grid point lies. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

/-- The row of the token axis that row `r` of point `t`'s block is. -/
abbrev rowAt (t : Fin cfg0.N) (r : Fin 512) : Fin 32768 :=
  ⟨t.val * 512 + r.val, by have : t.val < 64 := lt_of_lt_of_eq t.isLt (show cfg0.N = 64 from N_0); omega⟩

theorem x_block (c : Dev nD) (t : Fin cfg0.N) (r : Fin 512) (k : Fin 1024) :
    iblk m c 0 t (ix2 r k) = m ((c : Thread nD τ).loc main_arg0) (tok (rowAt t r) k) := by
  have : iblk m c 0 t (ix2 r k) = V m c main_v9 (ix2 (rowAt t r) k) := by blk_ext [iblk, idx t]
  rw [this]; unfold V; simp only [hostOps0, hostOps0_1, hostOps0_2, List.flatten_cons, List.flatten_nil, List.append_nil, List.cons_append, List.nil_append]; entry_read; pointwise

theorem w_block (c : Dev nD) (t : Fin cfg0.N) (k : Fin 1024) :
    iblk m c 1 t (ix2 0 k) = m ((c : Thread nD τ).loc main_arg1) (ix1 k) := by
  have : iblk m c 1 t (ix2 0 k) = V m c main_v10 (ix2 0 k) := by blk_ext [iblk, idx t]
  rw [this]; unfold V; simp only [hostOps0, hostOps0_1, hostOps0_2, List.flatten_cons, List.flatten_nil, List.append_nil, List.cons_append, List.nil_append]; entry_read; pointwise

theorem w_block2 (c : Dev nD) (t : Fin cfg0.N) (k : Fin 1024) (n : Fin 512) :
    iblk m c 2 t (ix2 k n) = m ((c : Thread nD τ).loc main_arg2) (ix2 k (⟨0 + n.val, by omega⟩ : Fin 3592)) := by
  have : iblk m c 2 t (ix2 k n) = V m c main_v7 (ix2 k n) := by blk_ext [iblk, idx t]
  rw [this]; unfold V; simp only [hostOps0, hostOps0_1, hostOps0_2, List.flatten_cons, List.flatten_nil, List.append_nil, List.cons_append, List.nil_append]; entry_read; pointwise

theorem w_block3 (c : Dev nD) (t : Fin cfg0.N) (k : Fin 1024) (n : Fin 1024) :
    iblk m c 3 t (ix2 k n) = m ((c : Thread nD τ).loc main_arg2) (ix2 k (⟨512 + n.val, by omega⟩ : Fin 3592)) := by
  have : iblk m c 3 t (ix2 k n) = V m c main_v8 (ix2 k n) := by blk_ext [iblk, idx t]
  rw [this]; unfold V; simp only [hostOps0, hostOps0_1, hostOps0_2, List.flatten_cons, List.flatten_nil, List.append_nil, List.cons_append, List.nil_append]; entry_read; pointwise

theorem w_block4 (c : Dev nD) (t : Fin cfg0.N) (k : Fin 1024) (n : Fin 512) :
    iblk m c 4 t (ix2 k n) = m ((c : Thread nD τ).loc main_arg2) (ix2 k (⟨1544 + n.val, by omega⟩ : Fin 3592)) := by
  have : iblk m c 4 t (ix2 k n) = V m c main_v1 (ix2 k n) := by blk_ext [iblk, idx t]
  rw [this]; unfold V; simp only [hostOps0, hostOps0_1, hostOps0_2, List.flatten_cons, List.flatten_nil, List.append_nil, List.cons_append, List.nil_append]; entry_read; pointwise

theorem w_block5 (c : Dev nD) (t : Fin cfg0.N) (k : Fin 1024) (n : Fin 512) :
    iblk m c 5 t (ix2 k n) = m ((c : Thread nD τ).loc main_arg2) (ix2 k (⟨2056 + n.val, by omega⟩ : Fin 3592)) := by
  have : iblk m c 5 t (ix2 k n) = V m c main_v2 (ix2 k n) := by blk_ext [iblk, idx t]
  rw [this]; unfold V; simp only [hostOps0, hostOps0_1, hostOps0_2, List.flatten_cons, List.flatten_nil, List.append_nil, List.cons_append, List.nil_append]; entry_read; pointwise

theorem w_block6 (c : Dev nD) (t : Fin cfg0.N) (k : Fin 1024) (n : Fin 512) :
    iblk m c 6 t (ix2 k n) = m ((c : Thread nD τ).loc main_arg2) (ix2 k (⟨2568 + n.val, by omega⟩ : Fin 3592)) := by
  have : iblk m c 6 t (ix2 k n) = V m c main_v3 (ix2 k n) := by blk_ext [iblk, idx t]
  rw [this]; unfold V; simp only [hostOps0, hostOps0_1, hostOps0_2, List.flatten_cons, List.flatten_nil, List.append_nil, List.cons_append, List.nil_append]; entry_read; pointwise

theorem w_block7 (c : Dev nD) (t : Fin cfg0.N) (k : Fin 1024) (n : Fin 512) :
    iblk m c 7 t (ix2 k n) = m ((c : Thread nD τ).loc main_arg2) (ix2 k (⟨3080 + n.val, by omega⟩ : Fin 3592)) := by
  have : iblk m c 7 t (ix2 k n) = V m c main_v4 (ix2 k n) := by blk_ext [iblk, idx t]
  rw [this]; unfold V; simp only [hostOps0, hostOps0_1, hostOps0_2, List.flatten_cons, List.flatten_nil, List.append_nil, List.cons_append, List.nil_append]; entry_read; pointwise

theorem w_block8 (c : Dev nD) (t : Fin cfg0.N) (k : Fin 1024) (n : Fin 128) :
    iblk m c 8 t (ix2 k n) = if h : n.val < 8 then m ((c : Thread nD τ).loc main_arg2) (ix2 k (⟨1536 + n.val, by omega⟩ : Fin 3592)) else (0 : EReal) := by
  have : iblk m c 8 t (ix2 k n) = V m c main_v6 (ix2 k n) := by blk_ext [iblk, idx t]
  rw [this]; unfold V; simp only [hostOps0, hostOps0_1, hostOps0_2, List.flatten_cons, List.flatten_nil, List.append_nil, List.cons_append, List.nil_append]
  entry_read
  show pad S1024x128 ![0, 0] ![0, 120] ![0, 0] (extractStridedSlice S1024x8 ![0, 1536]
    (truncf (F := Ideal) FTy.bf16 (m ((c : Thread nD τ).loc main_arg2)) bitsLt_bf16_f32) slices_S1024x3592_S1024x8_0_1536)
    (sitofp (F := Ideal) FTy.bf16 (constantI S_ 32 0#32)) pads_S1024x8_S1024x128_000_01200 h_S_ (ix2 k n) = _
  pointwise
  split
  · rfl
  · exact Idealize.ShloMosaic.sitofp_zero (φ := FTy.bf16)

/-! ## The seven results -/

theorem pay9_eq (x0 : Vec Ideal S512x1024 .f32) (x1 : Vec Ideal S1x1024 .f32) (x2 : Vec Ideal S1024x512 .bf16) (x3 : Vec Ideal S1024x1024 .bf16)
    (x4 x5 x6 x7 : Vec Ideal S1024x512 .bf16) (x8 : Vec Ideal S1024x128 .bf16) :
    k0_pay9 (F := Ideal) x0 x1 x2 x3 x4 x5 x6 x7 x8 = k0_pay5 (F := Ideal) x0 x1 := by
  unfold k0_pay9
  rw [View.ld_unit_zero (by decide), View.ld_unit_zero (by decide)]

/-- The reference's `z`: 512 columns of the projection, from column 0. -/
def z (X : FVec Ideal S4x8192x1024 .f32) (nw : FVec Ideal S1024 .f32) (W : FVec Ideal S1024x3592 .f32) : FVec Ideal S32768x512 .bf16 :=
  truncf .bf16 (extractStridedSlice Cert.ProjRefIdeal.S32768x512 ![0, 0] (proj X nw W) Cert.ProjRefIdeal.Gen.slices_S32768x3592_S32768x512_0_0) Cert.ProjRefIdeal.Gen.bitsLt_bf16_f32

theorem z_apply (X : FVec Ideal S4x8192x1024 .f32) (nw : FVec Ideal S1024 .f32) (W : FVec Ideal S1024x3592 .f32) (r : Fin 32768) (n : Fin 512) :
    z X nw W (ix2 r n) = proj X nw W (ix2 r (⟨0 + n.val, by omega⟩ : Fin 3592)) := by
  pointwise [z]

theorem z_final (c : Dev nD) : (dats m 0 c).arrAt 9 cfg0.N
    = z (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  obtain ⟨r, n, rfl⟩ : ∃ (r : Fin 512) (n : Fin 512), y = ix2 r n := ⟨y 0, y 1, (ix2_eta y).symm⟩
  have e : ((cfg0.win 9).blk t).view.emb (ix2 r n) = (ix2 (rowAt t r) n : S32768x512.Idx) := by blk_ext [idx t]
  refine ((pay6_apply (iblk m c 0 t) (iblk m c 1 t) (iblk m c 2 t) r n).trans ?_).trans (congrArg _ e.symm)
  rw [z_apply, proj_apply]
  refine Finset.sum_congr rfl fun k _ => ?_
  rw [w_block, w_block2]
  simp only [x_block]

/-- The reference's `xbc`: 1024 columns of the projection, from column 512. -/
def xbc (X : FVec Ideal S4x8192x1024 .f32) (nw : FVec Ideal S1024 .f32) (W : FVec Ideal S1024x3592 .f32) : FVec Ideal S32768x1024 .bf16 :=
  truncf .bf16 (extractStridedSlice Cert.ProjRefIdeal.S32768x1024 ![0, 512] (proj X nw W) Cert.ProjRefIdeal.Gen.slices_S32768x3592_S32768x1024_0_512) Cert.ProjRefIdeal.Gen.bitsLt_bf16_f32

theorem xbc_apply (X : FVec Ideal S4x8192x1024 .f32) (nw : FVec Ideal S1024 .f32) (W : FVec Ideal S1024x3592 .f32) (r : Fin 32768) (n : Fin 1024) :
    xbc X nw W (ix2 r n) = proj X nw W (ix2 r (⟨512 + n.val, by omega⟩ : Fin 3592)) := by
  pointwise [xbc]

theorem xbc_final (c : Dev nD) : (dats m 0 c).arrAt 10 cfg0.N
    = xbc (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  obtain ⟨r, n, rfl⟩ : ∃ (r : Fin 512) (n : Fin 1024), y = ix2 r n := ⟨y 0, y 1, (ix2_eta y).symm⟩
  have e : ((cfg0.win 10).blk t).view.emb (ix2 r n) = (ix2 (rowAt t r) n : S32768x1024.Idx) := by blk_ext [idx t]
  refine ((pay7_apply (iblk m c 0 t) (iblk m c 1 t) (iblk m c 3 t) r n).trans ?_).trans (congrArg _ e.symm)
  rw [xbc_apply, proj_apply]
  refine Finset.sum_congr rfl fun k _ => ?_
  rw [w_block, w_block3]
  simp only [x_block]

/-- The reference's `q`: 512 columns of the projection, from column 1544. -/
def q (X : FVec Ideal S4x8192x1024 .f32) (nw : FVec Ideal S1024 .f32) (W : FVec Ideal S1024x3592 .f32) : FVec Ideal S32768x512 .bf16 :=
  truncf .bf16 (extractStridedSlice Cert.ProjRefIdeal.S32768x512 ![0, 1544] (proj X nw W) Cert.ProjRefIdeal.Gen.slices_S32768x3592_S32768x512_0_1544) Cert.ProjRefIdeal.Gen.bitsLt_bf16_f32

theorem q_apply (X : FVec Ideal S4x8192x1024 .f32) (nw : FVec Ideal S1024 .f32) (W : FVec Ideal S1024x3592 .f32) (r : Fin 32768) (n : Fin 512) :
    q X nw W (ix2 r n) = proj X nw W (ix2 r (⟨1544 + n.val, by omega⟩ : Fin 3592)) := by
  pointwise [q]

theorem q_final (c : Dev nD) : (dats m 0 c).arrAt 11 cfg0.N
    = q (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  obtain ⟨r, n, rfl⟩ : ∃ (r : Fin 512) (n : Fin 512), y = ix2 r n := ⟨y 0, y 1, (ix2_eta y).symm⟩
  have e : ((cfg0.win 11).blk t).view.emb (ix2 r n) = (ix2 (rowAt t r) n : S32768x512.Idx) := by blk_ext [idx t]
  refine ((pay6_apply (iblk m c 0 t) (iblk m c 1 t) (iblk m c 4 t) r n).trans ?_).trans (congrArg _ e.symm)
  rw [q_apply, proj_apply]
  refine Finset.sum_congr rfl fun k _ => ?_
  rw [w_block, w_block4]
  simp only [x_block]

/-- The reference's `f`: 512 columns of the projection, from column 2056. -/
def f (X : FVec Ideal S4x8192x1024 .f32) (nw : FVec Ideal S1024 .f32) (W : FVec Ideal S1024x3592 .f32) : FVec Ideal S32768x512 .bf16 :=
  truncf .bf16 (extractStridedSlice Cert.ProjRefIdeal.S32768x512 ![0, 2056] (proj X nw W) Cert.ProjRefIdeal.Gen.slices_S32768x3592_S32768x512_0_2056) Cert.ProjRefIdeal.Gen.bitsLt_bf16_f32

theorem f_apply (X : FVec Ideal S4x8192x1024 .f32) (nw : FVec Ideal S1024 .f32) (W : FVec Ideal S1024x3592 .f32) (r : Fin 32768) (n : Fin 512) :
    f X nw W (ix2 r n) = proj X nw W (ix2 r (⟨2056 + n.val, by omega⟩ : Fin 3592)) := by
  pointwise [f]

theorem f_final (c : Dev nD) : (dats m 0 c).arrAt 12 cfg0.N
    = f (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  rw [pay9_eq]
  obtain ⟨r, n, rfl⟩ : ∃ (r : Fin 512) (n : Fin 512), y = ix2 r n := ⟨y 0, y 1, (ix2_eta y).symm⟩
  have e : ((cfg0.win 12).blk t).view.emb (ix2 r n) = (ix2 (rowAt t r) n : S32768x512.Idx) := by blk_ext [idx t]
  refine ((pay1_apply (iblk m c 0 t) (iblk m c 1 t) (iblk m c 5 t) r n).trans ?_).trans (congrArg _ e.symm)
  rw [f_apply, proj_apply]
  refine Finset.sum_congr rfl fun k _ => ?_
  rw [w_block, w_block5]
  simp only [x_block]

/-- The reference's `i`: 512 columns of the projection, from column 2568. -/
def i (X : FVec Ideal S4x8192x1024 .f32) (nw : FVec Ideal S1024 .f32) (W : FVec Ideal S1024x3592 .f32) : FVec Ideal S32768x512 .bf16 :=
  truncf .bf16 (extractStridedSlice Cert.ProjRefIdeal.S32768x512 ![0, 2568] (proj X nw W) Cert.ProjRefIdeal.Gen.slices_S32768x3592_S32768x512_0_2568) Cert.ProjRefIdeal.Gen.bitsLt_bf16_f32

theorem i_apply (X : FVec Ideal S4x8192x1024 .f32) (nw : FVec Ideal S1024 .f32) (W : FVec Ideal S1024x3592 .f32) (r : Fin 32768) (n : Fin 512) :
    i X nw W (ix2 r n) = proj X nw W (ix2 r (⟨2568 + n.val, by omega⟩ : Fin 3592)) := by
  pointwise [i]

theorem i_final (c : Dev nD) : (dats m 0 c).arrAt 13 cfg0.N
    = i (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  rw [pay9_eq]
  obtain ⟨r, n, rfl⟩ : ∃ (r : Fin 512) (n : Fin 512), y = ix2 r n := ⟨y 0, y 1, (ix2_eta y).symm⟩
  have e : ((cfg0.win 13).blk t).view.emb (ix2 r n) = (ix2 (rowAt t r) n : S32768x512.Idx) := by blk_ext [idx t]
  refine ((pay2_apply (iblk m c 0 t) (iblk m c 1 t) (iblk m c 6 t) r n).trans ?_).trans (congrArg _ e.symm)
  rw [i_apply, proj_apply]
  refine Finset.sum_congr rfl fun k _ => ?_
  rw [w_block, w_block6]
  simp only [x_block]

/-- The reference's `g`: 512 columns of the projection, from column 3080. -/
def g (X : FVec Ideal S4x8192x1024 .f32) (nw : FVec Ideal S1024 .f32) (W : FVec Ideal S1024x3592 .f32) : FVec Ideal S32768x512 .bf16 :=
  truncf .bf16 (extractStridedSlice Cert.ProjRefIdeal.S32768x512 ![0, 3080] (proj X nw W) Cert.ProjRefIdeal.Gen.slices_S32768x3592_S32768x512_0_3080) Cert.ProjRefIdeal.Gen.bitsLt_bf16_f32

theorem g_apply (X : FVec Ideal S4x8192x1024 .f32) (nw : FVec Ideal S1024 .f32) (W : FVec Ideal S1024x3592 .f32) (r : Fin 32768) (n : Fin 512) :
    g X nw W (ix2 r n) = proj X nw W (ix2 r (⟨3080 + n.val, by omega⟩ : Fin 3592)) := by
  pointwise [g]

theorem g_final (c : Dev nD) : (dats m 0 c).arrAt 14 cfg0.N
    = g (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]; frame_out
  rw [pay9_eq]
  obtain ⟨r, n, rfl⟩ : ∃ (r : Fin 512) (n : Fin 512), y = ix2 r n := ⟨y 0, y 1, (ix2_eta y).symm⟩
  have e : ((cfg0.win 14).blk t).view.emb (ix2 r n) = (ix2 (rowAt t r) n : S32768x512.Idx) := by blk_ext [idx t]
  refine ((pay3_apply (iblk m c 0 t) (iblk m c 1 t) (iblk m c 7 t) r n).trans ?_).trans (congrArg _ e.symm)
  rw [g_apply, proj_apply]
  refine Finset.sum_congr rfl fun k _ => ?_
  rw [w_block, w_block7]
  simp only [x_block]

/-- The reference's `dt`: eight columns of the projection, from column 1536, and zeros up to 128. -/
def dt (X : FVec Ideal S4x8192x1024 .f32) (nw : FVec Ideal S1024 .f32) (W : FVec Ideal S1024x3592 .f32) : FVec Ideal S32768x128 .f32 :=
  pad Cert.ProjRefIdeal.S32768x128 ![0, 0] ![0, 120] ![0, 0] (extractStridedSlice Cert.ProjRefIdeal.S32768x8 ![0, 1536] (proj X nw W) Cert.ProjRefIdeal.Gen.slices_S32768x3592_S32768x8_0_1536)
    (sitofp .f32 (constantI Cert.ProjRefIdeal.S_ 32 0#32)) Cert.ProjRefIdeal.Gen.pads_S32768x8_S32768x128_000_01200 Cert.ProjRefIdeal.Gen.h_S_

theorem dt_apply (X : FVec Ideal S4x8192x1024 .f32) (nw : FVec Ideal S1024 .f32) (W : FVec Ideal S1024x3592 .f32) (r : Fin 32768) (n : Fin 128) :
    dt X nw W (ix2 r n) = if h : n.val < 8 then proj X nw W (ix2 r (⟨1536 + n.val, by omega⟩ : Fin 3592)) else (0 : EReal) := by
  pointwise [dt]
  split
  · rfl
  · exact Idealize.ShloMosaic.sitofp_zero (φ := FTy.f32)

theorem dt_final (c : Dev nD) : (dats m 0 c).arrAt 15 cfg0.N
    = dt (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]; frame_out
  rw [pay9_eq]
  obtain ⟨r, n, rfl⟩ : ∃ (r : Fin 512) (n : Fin 128), y = ix2 r n := ⟨y 0, y 1, (ix2_eta y).symm⟩
  have e : ((cfg0.win 15).blk t).view.emb (ix2 r n) = (ix2 (rowAt t r) n : S32768x128.Idx) := by blk_ext [idx t]
  refine ((pay4_apply (iblk m c 0 t) (iblk m c 1 t) (iblk m c 8 t) r n).trans ?_).trans (congrArg _ e.symm)
  rw [dt_apply]
  split
  · rw [proj_apply]
    refine Finset.sum_congr rfl fun k _ => ?_
    rw [w_block, w_block8, dif_pos ‹_›]
    simp only [x_block]
  · refine Finset.sum_eq_zero fun k _ => ?_
    rw [w_block8, dif_neg ‹_›, mul_zero]

end Cert.ProjIdeal.Val

end
-- ==== Proof.FfnBody.lean ====
module

public import proofs.«01_k».proof.Proof.Gen.FfnIdeal.Launch
public import proofs.«01_k».proof.Proof.Gen.FfnIdeal.Skeleton
public import Idealize.ShloMosaic.Lib.Pipeline.FrameBody
public import Idealize.ShloMosaic.Lib.Pipeline.TableIdle
public import Idealize.ShloMosaic.Lib.Writes
public import Idealize.ShloMosaic.Lib.Exec
public import Idealize.ShloMosaic.Lib.Tactic
public import Idealize.ShloMosaic.Lib.Claim

@[expose] public section

set_option maxRecDepth 16384

noncomputable section

namespace Cert.FfnIdeal.Moe

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three prefetched tables as the body holds them: the low experts, the high experts, the number of tiles in use. -/
abbrev tM0 : Memref sig .tc .smem S152 .i32 := Memref.whole main_v14
abbrev tM1 : Memref sig .tc .smem S152 .i32 := Memref.whole main_v21
abbrev tM2 : Memref sig .tc .smem S1 .i32 := Memref.whole main_arg3

/-- The number of tiles in use, as the body loads it from its table. -/
abbrev word (T2 : S1.Idx → Elt F .i32) : BitVec 32 :=
  View.readAt (Elt F) tM2.view (Rect.unit (s := S1) ![0] S1.size inb_S1_S1_0).toLoadRect T2 (Shape.Idx.first (numel1_S1.symm ▸ Nat.one_pos))

set_option backward.proofsInPublic true in
set_option maxHeartbeats 8000000 in
/-- The body at a tile in use: the nine pieces its stores leave in the output block, with the proof that the body, called
    on whole buffers and holding the tables, ends with the inputs and tables as they were and those pieces written. -/
noncomputable def runLive (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : k0_cond1 i (View.readAt (Elt F) tM2.view (Rect.unit (s := S1) ![0] S1.size inb_S1_S1_0).toLoadRect T2 (Shape.Idx.first (numel1_S1.symm ▸ Nat.one_pos))) = 1#1) (h2 : ¬k0_cond2 i (View.readAt (Elt F) tM2.view (Rect.unit (s := S1) ![0] S1.size inb_S1_S1_0).toLoadRect T2 (Shape.Idx.first (numel1_S1.symm ▸ Nat.one_pos))) = 1#1) :
    { L : List (View.Piece (Elt F) S2304x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tM0.view.loc (c : Thread nD τ) ↦{fullShare.right} T0)
          ∗ (tM1.view.loc (c : Thread nD τ) ↦{fullShare.right} T1)
          ∗ (tM2.view.loc (c : Thread nD τ) ↦{fullShare.right} T2)
          ∗ (∃ d, owns (c : Thread nD τ) arg13 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (tM0.view.loc (c : Thread nD τ) ↦{fullShare.right} T0)
              ∗ (tM1.view.loc (c : Thread nD τ) ↦{fullShare.right} T1)
              ∗ (tM2.view.loc (c : Thread nD τ) ↦{fullShare.right} T2)
              ∗ (∃ f, arg13.view.loc (c : Thread nD τ) ↦[arg13.view.set]{fullShare} arg13.view.writes (Elt F) f L)) -∗ K ⟨⟩))
          ⊢ wp frame (wpE (defs₀ (F := F)) Variants.none c none) Set.univ (cc0_moe_ffn_sorted i tM0 (Memref.isWhole_whole _) tM1 (Memref.isWhole_whole _) tM2 (Memref.isWhole_whole _) arg4 harg4 arg5 harg5 arg6 harg6 arg7 harg7 arg8 harg8 arg9 harg9 arg10 harg10 arg11 harg11 arg12 harg12 arg13 harg13) K } :=
  ⟨_, fun K => by
    unfold owns
    rw [cc0_moe_ffn_sorted_eq_skeleton]; unfold cc0_moe_ffn_sorted_skel
    iintro ⟨H0, H1, H2, H3, H4, H5, H6, H7, H8, HT0, HT1, HT2, ⟨%d9, %f9, -, HO9⟩, Hk⟩
    have hT0 : tM0.IsWhole := Memref.isWhole_whole _
    have hT1 : tM1.IsWhole := Memref.isWhole_whole _
    have hT2 : tM2.IsWhole := Memref.isWhole_whole _
    rw [k0_part1_eq_skeleton, k0_part2_eq_skeleton]; unfold k0_part1_skel k0_part2_skel
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HT2]; · iexact HT2
    iexists _; iexact HO9⟩

set_option backward.proofsInPublic true in
set_option maxHeartbeats 8000000 in
/-- The body at a tile not in use: it fills the output block with zeros, the inputs and tables as they were. -/
noncomputable def runDead (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : ¬k0_cond1 i (View.readAt (Elt F) tM2.view (Rect.unit (s := S1) ![0] S1.size inb_S1_S1_0).toLoadRect T2 (Shape.Idx.first (numel1_S1.symm ▸ Nat.one_pos))) = 1#1) (h2 : k0_cond2 i (View.readAt (Elt F) tM2.view (Rect.unit (s := S1) ![0] S1.size inb_S1_S1_0).toLoadRect T2 (Shape.Idx.first (numel1_S1.symm ▸ Nat.one_pos))) = 1#1) :
    { L : List (View.Piece (Elt F) S2304x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tM0.view.loc (c : Thread nD τ) ↦{fullShare.right} T0)
          ∗ (tM1.view.loc (c : Thread nD τ) ↦{fullShare.right} T1)
          ∗ (tM2.view.loc (c : Thread nD τ) ↦{fullShare.right} T2)
          ∗ (∃ d, owns (c : Thread nD τ) arg13 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (tM0.view.loc (c : Thread nD τ) ↦{fullShare.right} T0)
              ∗ (tM1.view.loc (c : Thread nD τ) ↦{fullShare.right} T1)
              ∗ (tM2.view.loc (c : Thread nD τ) ↦{fullShare.right} T2)
              ∗ (∃ f, arg13.view.loc (c : Thread nD τ) ↦[arg13.view.set]{fullShare} arg13.view.writes (Elt F) f L)) -∗ K ⟨⟩))
          ⊢ wp frame (wpE (defs₀ (F := F)) Variants.none c none) Set.univ (cc0_moe_ffn_sorted i tM0 (Memref.isWhole_whole _) tM1 (Memref.isWhole_whole _) tM2 (Memref.isWhole_whole _) arg4 harg4 arg5 harg5 arg6 harg6 arg7 harg7 arg8 harg8 arg9 harg9 arg10 harg10 arg11 harg11 arg12 harg12 arg13 harg13) K } :=
  ⟨_, fun K => by
    unfold owns
    rw [cc0_moe_ffn_sorted_eq_skeleton]; unfold cc0_moe_ffn_sorted_skel
    iintro ⟨H0, H1, H2, H3, H4, H5, H6, H7, H8, HT0, HT1, HT2, ⟨%d9, %f9, -, HO9⟩, Hk⟩
    have hT0 : tM0.IsWhole := Memref.isWhole_whole _
    have hT1 : tM1.IsWhole := Memref.isWhole_whole _
    have hT2 : tM2.IsWhole := Memref.isWhole_whole _
    skip
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HT2]; · iexact HT2
    iexists _; iexact HO9⟩

end Cert.FfnIdeal.Moe

end
-- ==== Proof.FfnFrame.lean ====
module

public import proofs.«01_k».proof.Proof.FfnBody
public import Idealize.ShloMosaic.Lib.Claim
public import Idealize.ShloMosaic.Lib.Pipeline.ValueKit
public import Idealize.ShloMosaic.Lib.Pipeline.TableIdle

@[expose] public section

set_option maxRecDepth 16384

noncomputable section

namespace Cert.FfnIdeal.Moe

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one tile leaves

A tile of 2304 rows holds 256 slots of nine rows each: eight rows of 128 numbers are the slot's token, the ninth its route. -/

/-- Row `p` of every slot of a tile. -/
abbrev cut0 (x0 : Vec F S2304x128 .f32) : Vec F S256x128 .f32 := View.ld x0 ⟨⟨![0, 0], S256x128.size, ![9, 1], inb_S2304x128_S256x128_0_0_s_9_1⟩, spos_9_1⟩
abbrev cut1 (x0 : Vec F S2304x128 .f32) : Vec F S256x128 .f32 := View.ld x0 ⟨⟨![1, 0], S256x128.size, ![9, 1], inb_S2304x128_S256x128_1_0_s_9_1⟩, spos_9_1⟩
abbrev cut2 (x0 : Vec F S2304x128 .f32) : Vec F S256x128 .f32 := View.ld x0 ⟨⟨![2, 0], S256x128.size, ![9, 1], inb_S2304x128_S256x128_2_0_s_9_1⟩, spos_9_1⟩
abbrev cut3 (x0 : Vec F S2304x128 .f32) : Vec F S256x128 .f32 := View.ld x0 ⟨⟨![3, 0], S256x128.size, ![9, 1], inb_S2304x128_S256x128_3_0_s_9_1⟩, spos_9_1⟩
abbrev cut4 (x0 : Vec F S2304x128 .f32) : Vec F S256x128 .f32 := View.ld x0 ⟨⟨![4, 0], S256x128.size, ![9, 1], inb_S2304x128_S256x128_4_0_s_9_1⟩, spos_9_1⟩
abbrev cut5 (x0 : Vec F S2304x128 .f32) : Vec F S256x128 .f32 := View.ld x0 ⟨⟨![5, 0], S256x128.size, ![9, 1], inb_S2304x128_S256x128_5_0_s_9_1⟩, spos_9_1⟩
abbrev cut6 (x0 : Vec F S2304x128 .f32) : Vec F S256x128 .f32 := View.ld x0 ⟨⟨![6, 0], S256x128.size, ![9, 1], inb_S2304x128_S256x128_6_0_s_9_1⟩, spos_9_1⟩
abbrev cut7 (x0 : Vec F S2304x128 .f32) : Vec F S256x128 .f32 := View.ld x0 ⟨⟨![7, 0], S256x128.size, ![9, 1], inb_S2304x128_S256x128_7_0_s_9_1⟩, spos_9_1⟩
abbrev cut8 (x0 : Vec F S2304x128 .f32) : Vec F S256x128 .f32 := View.ld x0 ⟨⟨![8, 0], S256x128.size, ![9, 1], inb_S2304x128_S256x128_8_0_s_9_1⟩, spos_9_1⟩

/-- The tokens of a tile, one row of 1024 numbers per slot. -/
def tokens (x0 : Vec F S2304x128 .f32) : FVec F S256x1024 .f32 := k0_pay11 (cut0 x0) (cut1 x0) (cut2 x0) (cut3 x0) (cut4 x0) (cut5 x0) (cut6 x0) (cut7 x0)
/-- The tokens after the norm. -/
def normed (x0 : Vec F S2304x128 .f32) (x1 : Vec F S1x1024 .f32) : FVec F S256x1024 .bf16 := k0_pay14 (cut0 x0) (cut1 x0) (cut2 x0) (cut3 x0) (cut4 x0) (cut5 x0) (cut6 x0) (cut7 x0) x1
/-- The low expert's share of the sum. -/
def low (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : FVec F S256x1024 .f32 :=
  k0_pay16 (k0_pay12 (cut8 x0)) (normed x0 x1) (k0_pay15 (cut0 x0) (cut1 x0) (cut2 x0) (cut3 x0) (cut4 x0) (cut5 x0) (cut6 x0) (cut7 x0) x1 x3) (Scalar.ofBits .f32 0x3F000000#32) x5 x7
/-- The high expert's hidden row, before its last product. -/
def high (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : FVec F S256x256 .bf16 :=
  k0_pay17 (k0_pay13 (cut8 x0)) (normed x0 x1) x4 x6
/-- The tokens a tile in use ends with. -/
def mixed (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : FVec F S256x1024 .f32 :=
  k0_pay1 (tokens x0) (low x0 x1 x2 x3 x4 x5 x6 x7 x8) (high x0 x1 x2 x3 x4 x5 x6 x7 x8) x8

/-- The block a tile in use ends with: the new tokens in the slots' first eight rows, the routes untouched in the ninth. -/
def outLive (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : Vec F S2304x128 .f32 := fun y =>
  if (y 0).val % 9 = 8 then cut8 x0 (ix2 (⟨(y 0).val / 9, by have : (y 0).val < 2304 := (y 0).isLt; omega⟩ : Fin 256) (y 1))
  else mixed x0 x1 x2 x3 x4 x5 x6 x7 x8 (ix2 (⟨(y 0).val / 9, by have : (y 0).val < 2304 := (y 0).isLt; omega⟩ : Fin 256)
    (⟨(y 0).val % 9 % 8 * 128 + (y 1).val, by have : (y 1).val < 128 := (y 1).isLt; omega⟩ : Fin 1024))

/-- The pieces a tile in use is written in. -/
def pieces (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : List (View.Piece (Elt F) S2304x128 .f32) :=
  [⟨⟨⟨![8, 0], S256x128.size, ![9, 1], inb_S2304x128_S256x128_8_0_s_9_1⟩, spos_9_1⟩, cut8 x0⟩,
      ⟨⟨⟨![7, 0], S256x128.size, ![9, 1], inb_S2304x128_S256x128_7_0_s_9_1⟩, spos_9_1⟩, k0_pay9 (tokens x0) (low x0 x1 x2 x3 x4 x5 x6 x7 x8) (high x0 x1 x2 x3 x4 x5 x6 x7 x8) x8⟩,
      ⟨⟨⟨![6, 0], S256x128.size, ![9, 1], inb_S2304x128_S256x128_6_0_s_9_1⟩, spos_9_1⟩, k0_pay8 (tokens x0) (low x0 x1 x2 x3 x4 x5 x6 x7 x8) (high x0 x1 x2 x3 x4 x5 x6 x7 x8) x8⟩,
      ⟨⟨⟨![5, 0], S256x128.size, ![9, 1], inb_S2304x128_S256x128_5_0_s_9_1⟩, spos_9_1⟩, k0_pay7 (tokens x0) (low x0 x1 x2 x3 x4 x5 x6 x7 x8) (high x0 x1 x2 x3 x4 x5 x6 x7 x8) x8⟩,
      ⟨⟨⟨![4, 0], S256x128.size, ![9, 1], inb_S2304x128_S256x128_4_0_s_9_1⟩, spos_9_1⟩, k0_pay6 (tokens x0) (low x0 x1 x2 x3 x4 x5 x6 x7 x8) (high x0 x1 x2 x3 x4 x5 x6 x7 x8) x8⟩,
      ⟨⟨⟨![3, 0], S256x128.size, ![9, 1], inb_S2304x128_S256x128_3_0_s_9_1⟩, spos_9_1⟩, k0_pay5 (tokens x0) (low x0 x1 x2 x3 x4 x5 x6 x7 x8) (high x0 x1 x2 x3 x4 x5 x6 x7 x8) x8⟩,
      ⟨⟨⟨![2, 0], S256x128.size, ![9, 1], inb_S2304x128_S256x128_2_0_s_9_1⟩, spos_9_1⟩, k0_pay4 (tokens x0) (low x0 x1 x2 x3 x4 x5 x6 x7 x8) (high x0 x1 x2 x3 x4 x5 x6 x7 x8) x8⟩,
      ⟨⟨⟨![1, 0], S256x128.size, ![9, 1], inb_S2304x128_S256x128_1_0_s_9_1⟩, spos_9_1⟩, k0_pay3 (tokens x0) (low x0 x1 x2 x3 x4 x5 x6 x7 x8) (high x0 x1 x2 x3 x4 x5 x6 x7 x8) x8⟩,
      ⟨⟨⟨![0, 0], S256x128.size, ![9, 1], inb_S2304x128_S256x128_0_0_s_9_1⟩, spos_9_1⟩, k0_pay2 (tokens x0) (low x0 x1 x2 x3 x4 x5 x6 x7 x8) (high x0 x1 x2 x3 x4 x5 x6 x7 x8) x8⟩]

theorem readAt_strided (v : View sig .tc .vmem S2304x128 .f32) (X : Vec F S2304x128 .f32) (p : Nat) (inb) (spos) :
    View.readAt (Elt F) v ⟨![p, 0], S256x128.size, ![9, 1], inb⟩ (v.rep X) = View.ld X ⟨⟨![p, 0], S256x128.size, ![9, 1], inb⟩, spos⟩ := by
  refine (View.readAt_eq_ld v _ (⟨⟨![p, 0], S256x128.size, ![9, 1], inb⟩, spos⟩ : Rect S2304x128)).trans ?_
  rw [View.read_rep]

set_option maxHeartbeats 4000000 in
theorem live_pieces (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : k0_cond1 i (View.readAt (Elt F) tM2.view (Rect.unit (s := S1) ![0] S1.size inb_S1_S1_0).toLoadRect T2 (Shape.Idx.first (numel1_S1.symm ▸ Nat.one_pos))) = 1#1) (h2 : ¬k0_cond2 i (View.readAt (Elt F) tM2.view (Rect.unit (s := S1) ![0] S1.size inb_S1_S1_0).toLoadRect T2 (Shape.Idx.first (numel1_S1.symm ▸ Nat.one_pos))) = 1#1) :
    (runLive c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1 = pieces x0 x1 x2 x3 x4 x5 x6 x7 x8 := by
  unfold runLive; dsimp only
  simp only [fun (v : View sig .tc .vmem S2304x128 .f32) X p inb => readAt_strided (F := F) v X p inb spos_9_1, View.readAt_eq_ld, View.read_rep, View.ld_unit_zero (S := S1x1024) (off := ![0, 0]) (by decide), View.ld_unit_zero (S := S1x1x1024x256) (off := ![0, 0, 0, 0]) (by decide), View.ld_unit_zero (S := S1x1x256x1024) (off := ![0, 0, 0, 0]) (by decide)]
  rfl

theorem emb_strided (p : Nat) (hp : p < 9) (inb) (spos) (x : S256x128.Idx) :
    (⟨⟨![p, 0], S256x128.size, ![9, 1], inb⟩, spos⟩ : Rect S2304x128).emb x
      = ix2 (⟨9 * (x 0).val + p, by have : (x 0).val < 256 := (x 0).isLt; omega⟩ : Fin 2304) (x 1) := by
  refine Rect.emb_eq_of_coords _ _ _ fun b => ?_
  fin_cases b
  · show 9 * (x 0).val + p = p + 9 * (x 0).val; omega
  · show (x 1).val = 0 + 1 * (x 1).val; omega

theorem piece_tokens (p o : Nat) (hp : p < 8) (ho : o = p * 128) (M : FVec F S256x1024 .f32) (sl) (x : S256x128.Idx) :
    extractStridedSlice S256x128 ![0, o] M sl x
      = M (ix2 (x 0) (⟨p * 128 + (x 1).val, by have : (x 1).val < 128 := (x 1).isLt; omega⟩ : Fin 1024)) := by
  refine congrArg M (funext fun b => Fin.ext ?_)
  fin_cases b
  · show 0 + (x 0).val = (x 0).val; omega
  · show o + (x 1).val = p * 128 + (x 1).val; omega

theorem pieces_agree (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) :
    ∀ p ∈ pieces x0 x1 x2 x3 x4 x5 x6 x7 x8, ∀ x : p.1.shape.Idx, p.2 x = outLive x0 x1 x2 x3 x4 x5 x6 x7 x8 (p.1.emb x) := by
  unfold pieces
  simp only [List.forall_mem_cons, List.not_mem_nil, false_implies, implies_true, and_true]
  refine ⟨fun x => ?_, fun x => ?_, fun x => ?_, fun x => ?_, fun x => ?_, fun x => ?_, fun x => ?_, fun x => ?_, fun x => ?_⟩
  · rw [emb_strided 8 (by decide)]; unfold outLive
    refine Eq.trans ?_ (if_pos (show (9 * (x 0).val + 8) % 9 = 8 by omega)).symm
    refine congrArg (cut8 x0) (funext fun b => Fin.ext ?_)
    fin_cases b
    · show (x 0).val = (9 * (x 0).val + 8) / 9; omega
    · rfl
  · rw [emb_strided 7 (by decide)]; unfold outLive
    refine Eq.trans ?_ (if_neg (show ¬(9 * (x 0).val + 7) % 9 = 8 by omega)).symm
    refine (piece_tokens 7 896 (by decide) rfl _ slices_S256x1024_o0_896_S256x128 x).trans (congrArg (mixed x0 x1 x2 x3 x4 x5 x6 x7 x8) (funext fun b => Fin.ext ?_))
    fin_cases b
    · show (x 0).val = (9 * (x 0).val + 7) / 9; omega
    · show 7 * 128 + (x 1).val = (9 * (x 0).val + 7) % 9 % 8 * 128 + (x 1).val; omega
  · rw [emb_strided 6 (by decide)]; unfold outLive
    refine Eq.trans ?_ (if_neg (show ¬(9 * (x 0).val + 6) % 9 = 8 by omega)).symm
    refine (piece_tokens 6 768 (by decide) rfl _ slices_S256x1024_o0_768_S256x128 x).trans (congrArg (mixed x0 x1 x2 x3 x4 x5 x6 x7 x8) (funext fun b => Fin.ext ?_))
    fin_cases b
    · show (x 0).val = (9 * (x 0).val + 6) / 9; omega
    · show 6 * 128 + (x 1).val = (9 * (x 0).val + 6) % 9 % 8 * 128 + (x 1).val; omega
  · rw [emb_strided 5 (by decide)]; unfold outLive
    refine Eq.trans ?_ (if_neg (show ¬(9 * (x 0).val + 5) % 9 = 8 by omega)).symm
    refine (piece_tokens 5 640 (by decide) rfl _ slices_S256x1024_o0_640_S256x128 x).trans (congrArg (mixed x0 x1 x2 x3 x4 x5 x6 x7 x8) (funext fun b => Fin.ext ?_))
    fin_cases b
    · show (x 0).val = (9 * (x 0).val + 5) / 9; omega
    · show 5 * 128 + (x 1).val = (9 * (x 0).val + 5) % 9 % 8 * 128 + (x 1).val; omega
  · rw [emb_strided 4 (by decide)]; unfold outLive
    refine Eq.trans ?_ (if_neg (show ¬(9 * (x 0).val + 4) % 9 = 8 by omega)).symm
    refine (piece_tokens 4 512 (by decide) rfl _ slices_S256x1024_o0_512_S256x128 x).trans (congrArg (mixed x0 x1 x2 x3 x4 x5 x6 x7 x8) (funext fun b => Fin.ext ?_))
    fin_cases b
    · show (x 0).val = (9 * (x 0).val + 4) / 9; omega
    · show 4 * 128 + (x 1).val = (9 * (x 0).val + 4) % 9 % 8 * 128 + (x 1).val; omega
  · rw [emb_strided 3 (by decide)]; unfold outLive
    refine Eq.trans ?_ (if_neg (show ¬(9 * (x 0).val + 3) % 9 = 8 by omega)).symm
    refine (piece_tokens 3 384 (by decide) rfl _ slices_S256x1024_o0_384_S256x128 x).trans (congrArg (mixed x0 x1 x2 x3 x4 x5 x6 x7 x8) (funext fun b => Fin.ext ?_))
    fin_cases b
    · show (x 0).val = (9 * (x 0).val + 3) / 9; omega
    · show 3 * 128 + (x 1).val = (9 * (x 0).val + 3) % 9 % 8 * 128 + (x 1).val; omega
  · rw [emb_strided 2 (by decide)]; unfold outLive
    refine Eq.trans ?_ (if_neg (show ¬(9 * (x 0).val + 2) % 9 = 8 by omega)).symm
    refine (piece_tokens 2 256 (by decide) rfl _ slices_S256x1024_o0_256_S256x128 x).trans (congrArg (mixed x0 x1 x2 x3 x4 x5 x6 x7 x8) (funext fun b => Fin.ext ?_))
    fin_cases b
    · show (x 0).val = (9 * (x 0).val + 2) / 9; omega
    · show 2 * 128 + (x 1).val = (9 * (x 0).val + 2) % 9 % 8 * 128 + (x 1).val; omega
  · rw [emb_strided 1 (by decide)]; unfold outLive
    refine Eq.trans ?_ (if_neg (show ¬(9 * (x 0).val + 1) % 9 = 8 by omega)).symm
    refine (piece_tokens 1 128 (by decide) rfl _ slices_S256x1024_o0_128_S256x128 x).trans (congrArg (mixed x0 x1 x2 x3 x4 x5 x6 x7 x8) (funext fun b => Fin.ext ?_))
    fin_cases b
    · show (x 0).val = (9 * (x 0).val + 1) / 9; omega
    · show 1 * 128 + (x 1).val = (9 * (x 0).val + 1) % 9 % 8 * 128 + (x 1).val; omega
  · rw [emb_strided 0 (by decide)]; unfold outLive
    refine Eq.trans ?_ (if_neg (show ¬(9 * (x 0).val + 0) % 9 = 8 by omega)).symm
    refine (piece_tokens 0 0 (by decide) rfl _ slices_S256x1024_o0_0_S256x128 x).trans (congrArg (mixed x0 x1 x2 x3 x4 x5 x6 x7 x8) (funext fun b => Fin.ext ?_))
    fin_cases b
    · show (x 0).val = (9 * (x 0).val + 0) / 9; omega
    · show 0 * 128 + (x 1).val = (9 * (x 0).val + 0) % 9 % 8 * 128 + (x 1).val; omega

theorem mem_strided (p : Nat) (hp : p < 9) (inb) (spos) (y : S2304x128.Idx) (h : (y 0).val % 9 = p) :
    y ∈ (⟨⟨![p, 0], S256x128.size, ![9, 1], inb⟩, spos⟩ : Rect S2304x128).set := by
  have e := emb_strided p hp inb spos (ix2 (⟨(y 0).val / 9, by have : (y 0).val < 2304 := (y 0).isLt; omega⟩ : Fin 256) (y 1))
  have hy : y = ix2 (⟨9 * ((y 0).val / 9) + p, by have : (y 0).val < 2304 := (y 0).isLt; omega⟩ : Fin 2304) (y 1) := by
    funext b; apply Fin.ext; fin_cases b
    · show (y 0).val = 9 * ((y 0).val / 9) + p; omega
    · rfl
  rw [hy, ← Rect.map_emb_univ]
  exact Finset.mem_map.mpr ⟨_, Finset.mem_univ _, e⟩

theorem pieces_cover (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) (y : S2304x128.Idx) : ∃ p ∈ pieces x0 x1 x2 x3 x4 x5 x6 x7 x8, y ∈ p.1.set := by
  have h9 : (y 0).val % 9 < 9 := Nat.mod_lt _ (by decide)
  unfold pieces
  simp only [List.exists_mem_cons_iff]
  by_cases h8 : (y 0).val % 9 = 8; · exact .inl (mem_strided 8 (by decide) _ spos_9_1 y h8)
  refine .inr ?_
  by_cases h7 : (y 0).val % 9 = 7; · exact .inl (mem_strided 7 (by decide) _ spos_9_1 y h7)
  refine .inr ?_
  by_cases h6 : (y 0).val % 9 = 6; · exact .inl (mem_strided 6 (by decide) _ spos_9_1 y h6)
  refine .inr ?_
  by_cases h5 : (y 0).val % 9 = 5; · exact .inl (mem_strided 5 (by decide) _ spos_9_1 y h5)
  refine .inr ?_
  by_cases h4 : (y 0).val % 9 = 4; · exact .inl (mem_strided 4 (by decide) _ spos_9_1 y h4)
  refine .inr ?_
  by_cases h3 : (y 0).val % 9 = 3; · exact .inl (mem_strided 3 (by decide) _ spos_9_1 y h3)
  refine .inr ?_
  by_cases h2 : (y 0).val % 9 = 2; · exact .inl (mem_strided 2 (by decide) _ spos_9_1 y h2)
  refine .inr ?_
  by_cases h1 : (y 0).val % 9 = 1; · exact .inl (mem_strided 1 (by decide) _ spos_9_1 y h1)
  refine .inr ?_
  exact .inl (mem_strided 0 (by decide) _ spos_9_1 y (by omega))

/-- What a tile in use ends with, read back. -/
theorem live_read (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : k0_cond1 i (View.readAt (Elt F) tM2.view (Rect.unit (s := S1) ![0] S1.size inb_S1_S1_0).toLoadRect T2 (Shape.Idx.first (numel1_S1.symm ▸ Nat.one_pos))) = 1#1) (h2 : ¬k0_cond2 i (View.readAt (Elt F) tM2.view (Rect.unit (s := S1) ![0] S1.size inb_S1_S1_0).toLoadRect T2 (Shape.Idx.first (numel1_S1.symm ▸ Nat.one_pos))) = 1#1) (f) :
    arg13.view.read (Elt F) (arg13.view.writes (Elt F) f (runLive c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1) = outLive x0 x1 x2 x3 x4 x5 x6 x7 x8 := by
  rw [live_pieces]; funext y
  exact View.read_writes_apply_of_pieces _ _ _ _ (pieces_agree x0 x1 x2 x3 x4 x5 x6 x7 x8) y (pieces_cover x0 x1 x2 x3 x4 x5 x6 x7 x8 y)

/-- What a tile past the ones in use ends with: zeros. -/
theorem dead_read (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : ¬k0_cond1 i (View.readAt (Elt F) tM2.view (Rect.unit (s := S1) ![0] S1.size inb_S1_S1_0).toLoadRect T2 (Shape.Idx.first (numel1_S1.symm ▸ Nat.one_pos))) = 1#1) (h2 : k0_cond2 i (View.readAt (Elt F) tM2.view (Rect.unit (s := S1) ![0] S1.size inb_S1_S1_0).toLoadRect T2 (Shape.Idx.first (numel1_S1.symm ▸ Nat.one_pos))) = 1#1) (f) :
    arg13.view.read (Elt F) (arg13.view.writes (Elt F) f (runDead c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1) = k0_pay10 := by
  funext y
  refine View.read_writes_apply_of_pieces (Val := Elt F) (e := .f32) arg13.view f (k0_pay10 (F := F)) _ ?_ y ?_
  · intro p hp x
    obtain rfl := List.mem_singleton.mp (show p ∈ [(⟨Rect.unit (s := S2304x128) ![0, 0] S2304x128.size inb_S2304x128_S2304x128_0_0, k0_pay10 (F := F)⟩ : View.Piece (Elt F) S2304x128 .f32)] from hp)
    rfl
  · exact View.cover_of_tiled _ S2304x128.size (by sl_kernel_rfl) y

theorem cond2_iff (i : grid0.Coords) (w : BitVec 32) : k0_cond2 i w = 1#1 ↔ ¬k0_cond1 i w = 1#1 := by
  unfold k0_cond1 k0_cond2
  generalize BitVec.ofNat 32 (i 0).val = j
  show (BitVec.ofBool (BitVec.zeroExtend 32 (BitVec.ofBool (w.sle j)) != 0#32) = 1#1)
    ↔ ¬(BitVec.ofBool (BitVec.zeroExtend 32 (BitVec.ofBool (j.slt w)) != 0#32) = 1#1)
  have : w.sle j = !(j.slt w) := by
    simp only [BitVec.sle, BitVec.slt, ← decide_not, not_lt]
  rw [this]; cases j.slt w <;> decide

/-! ## The proof data -/

variable (m : (ℓ : Loc nD τ sig) → Buf (Elt F) ℓ) (ρ : Dev nD → PrngReg)

/-- What each buffer holds when the call is reached. -/
def V (c : Dev nD) (b : Ref sig .tc) : Buf (Elt F) ((c.tc : Thread nD τ).loc b) := StableHlo.after hostOps0 (fun b => m (c, b)) b

theorem V_arg0 (c : Dev nD) : V m c main_arg0 = m ((c : Thread nD τ).loc main_arg0) := by unfold V; entry_read; rfl
theorem V_arg1 (c : Dev nD) : V m c main_arg1 = m ((c : Thread nD τ).loc main_arg1) := by unfold V; entry_read; rfl
theorem V_arg2 (c : Dev nD) : V m c main_arg2 = m ((c : Thread nD τ).loc main_arg2) := by unfold V; entry_read; rfl
theorem V_arg3 (c : Dev nD) : V m c main_arg3 = m ((c : Thread nD τ).loc main_arg3) := by unfold V; entry_read; rfl
theorem V_arg4 (c : Dev nD) : V m c main_arg4 = m ((c : Thread nD τ).loc main_arg4) := by unfold V; entry_read; rfl
theorem V_arg5 (c : Dev nD) : V m c main_arg5 = m ((c : Thread nD τ).loc main_arg5) := by unfold V; entry_read; rfl
theorem V_arg6 (c : Dev nD) : V m c main_arg6 = m ((c : Thread nD τ).loc main_arg6) := by unfold V; entry_read; rfl
theorem V_arg7 (c : Dev nD) : V m c main_arg7 = m ((c : Thread nD τ).loc main_arg7) := by unfold V; entry_read; rfl
theorem V_arg8 (c : Dev nD) : V m c main_arg8 = m ((c : Thread nD τ).loc main_arg8) := by unfold V; entry_read; rfl

variable (a : (pcfg0 (F := F)).Adm)

abbrev st0 (t : Fin (cfg0 a).N) : Memref sig .tc .vmem S2304x128 .f32 := spec0_0.stage ((cfg0 a).slots t 0)
abbrev hst0 (t : Fin (cfg0 a).N) : (st0 a t).IsWhole := hstage0_0 (((cfg0 a).slots t 0).cast nbuf0_0)
abbrev st1 (t : Fin (cfg0 a).N) : Memref sig .tc .vmem S1x1024 .f32 := spec0_1.stage ((cfg0 a).slots t 1)
abbrev hst1 (t : Fin (cfg0 a).N) : (st1 a t).IsWhole := hstage0_1 (((cfg0 a).slots t 1).cast nbuf0_1)
abbrev st2 (t : Fin (cfg0 a).N) : Memref sig .tc .vmem S1x1024 .f32 := spec0_2.stage ((cfg0 a).slots t 2)
abbrev hst2 (t : Fin (cfg0 a).N) : (st2 a t).IsWhole := hstage0_2 (((cfg0 a).slots t 2).cast nbuf0_2)
abbrev st3 (t : Fin (cfg0 a).N) : Memref sig .tc .vmem S1x1x1024x256 .f32 := spec0_3.stage ((cfg0 a).slots t 3)
abbrev hst3 (t : Fin (cfg0 a).N) : (st3 a t).IsWhole := hstage0_3 (((cfg0 a).slots t 3).cast nbuf0_3)
abbrev st4 (t : Fin (cfg0 a).N) : Memref sig .tc .vmem S1x1x1024x256 .f32 := spec0_4.stage ((cfg0 a).slots t 4)
abbrev hst4 (t : Fin (cfg0 a).N) : (st4 a t).IsWhole := hstage0_4 (((cfg0 a).slots t 4).cast nbuf0_4)
abbrev st5 (t : Fin (cfg0 a).N) : Memref sig .tc .vmem S1x1x1024x256 .f32 := spec0_5.stage ((cfg0 a).slots t 5)
abbrev hst5 (t : Fin (cfg0 a).N) : (st5 a t).IsWhole := hstage0_5 (((cfg0 a).slots t 5).cast nbuf0_5)
abbrev st6 (t : Fin (cfg0 a).N) : Memref sig .tc .vmem S1x1x1024x256 .f32 := spec0_6.stage ((cfg0 a).slots t 6)
abbrev hst6 (t : Fin (cfg0 a).N) : (st6 a t).IsWhole := hstage0_6 (((cfg0 a).slots t 6).cast nbuf0_6)
abbrev st7 (t : Fin (cfg0 a).N) : Memref sig .tc .vmem S1x1x256x1024 .f32 := spec0_7.stage ((cfg0 a).slots t 7)
abbrev hst7 (t : Fin (cfg0 a).N) : (st7 a t).IsWhole := hstage0_7 (((cfg0 a).slots t 7).cast nbuf0_7)
abbrev st8 (t : Fin (cfg0 a).N) : Memref sig .tc .vmem S1x1x256x1024 .f32 := spec0_8.stage ((cfg0 a).slots t 8)
abbrev hst8 (t : Fin (cfg0 a).N) : (st8 a t).IsWhole := hstage0_8 (((cfg0 a).slots t 8).cast nbuf0_8)
abbrev st9 (t : Fin (cfg0 a).N) : Memref sig .tc .vmem S2304x128 .f32 := spec0_9.stage ((cfg0 a).slots t 9)
abbrev hst9 (t : Fin (cfg0 a).N) : (st9 a t).IsWhole := hstage0_9 (((cfg0 a).slots t 9).cast nbuf0_9)

/-- Window `w`'s block at point `t`. -/
def iblk (c : Dev nD) (w : Fin (cfg0 a).W) (t : Fin (cfg0 a).N) : (((cfg0 a).win w).xblock (grid0.coords t)).Idx → Elt F ((cfg0 a).win w).elt :=
  (((cfg0 a).win w).blk t).view.read (Elt F) (V m c (Pipeline.arrRef spec0 w))

/-- The number of tiles in use, as the body reads it. -/
abbrev used : BitVec 32 := word (a.1 2)

/-- What point `t` leaves in its output block. -/
def outAt (c : Dev nD) (t : Fin (cfg0 a).N) : Vec F S2304x128 .f32 :=
  if k0_cond1 (grid0.coords t) (used a) = 1#1 then outLive (iblk m a c 0 t) (iblk m a c 1 t) (iblk m a c 2 t) (iblk m a c 3 t) (iblk m a c 4 t) (iblk m a c 5 t) (iblk m a c 6 t) (iblk m a c 7 t) (iblk m a c 8 t) else k0_pay10

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => iblk m a c 7 t
    | ⟨8, _⟩ => iblk m a c 8 t
    | ⟨9, _⟩ => outAt m a c t
  Φ t := iprop(Pipeline.ΦA spec0 c ∗ Pipeline.ΦT pre0 a.1 c)
  q w := Pipeline.shareOf spec0 w
  owed _ := 0

theorem after_0 (c : Dev nD) (t : Fin (cfg0 a).N) : (dats m a 0 c).after ((0 : Fin 10) : Fin (cfg0 a).W) t = iblk m a c 0 t := rfl
theorem before_0 (c : Dev nD) (t : Fin (cfg0 a).N) (d) : (dats m a 0 c).before ((0 : Fin 10) : Fin (cfg0 a).W) t d = iblk m a c 0 t :=
  ((dats m a 0 c).before_in_eq_fetched (0 : Fin 10) rfl (fun _ => rfl) (fun _ _ _ => rfl)
    (fun t => by rw [after_0]; unfold Dat.blockOf iblk; rfl) t d).trans (by unfold Dat.fetched Dat.blockOf iblk; rfl)
theorem after_1 (c : Dev nD) (t : Fin (cfg0 a).N) : (dats m a 0 c).after ((1 : Fin 10) : Fin (cfg0 a).W) t = iblk m a c 1 t := rfl
theorem before_1 (c : Dev nD) (t : Fin (cfg0 a).N) (d) : (dats m a 0 c).before ((1 : Fin 10) : Fin (cfg0 a).W) t d = iblk m a c 1 t :=
  ((dats m a 0 c).before_in_eq_fetched (1 : Fin 10) rfl (fun _ => rfl) (fun _ _ _ => rfl)
    (fun t => by rw [after_1]; unfold Dat.blockOf iblk; rfl) t d).trans (by unfold Dat.fetched Dat.blockOf iblk; rfl)
theorem after_2 (c : Dev nD) (t : Fin (cfg0 a).N) : (dats m a 0 c).after ((2 : Fin 10) : Fin (cfg0 a).W) t = iblk m a c 2 t := rfl
theorem before_2 (c : Dev nD) (t : Fin (cfg0 a).N) (d) : (dats m a 0 c).before ((2 : Fin 10) : Fin (cfg0 a).W) t d = iblk m a c 2 t :=
  ((dats m a 0 c).before_in_eq_fetched (2 : Fin 10) rfl (fun _ => rfl) (fun _ _ _ => rfl)
    (fun t => by rw [after_2]; unfold Dat.blockOf iblk; rfl) t d).trans (by unfold Dat.fetched Dat.blockOf iblk; rfl)
theorem after_3 (c : Dev nD) (t : Fin (cfg0 a).N) : (dats m a 0 c).after ((3 : Fin 10) : Fin (cfg0 a).W) t = iblk m a c 3 t := rfl
theorem before_3 (c : Dev nD) (t : Fin (cfg0 a).N) (d) : (dats m a 0 c).before ((3 : Fin 10) : Fin (cfg0 a).W) t d = iblk m a c 3 t :=
  ((dats m a 0 c).before_in_eq_fetched (3 : Fin 10) rfl (fun _ => rfl) (fun _ _ _ => rfl)
    (fun t => by rw [after_3]; unfold Dat.blockOf iblk; rfl) t d).trans (by unfold Dat.fetched Dat.blockOf iblk; rfl)
theorem after_4 (c : Dev nD) (t : Fin (cfg0 a).N) : (dats m a 0 c).after ((4 : Fin 10) : Fin (cfg0 a).W) t = iblk m a c 4 t := rfl
theorem before_4 (c : Dev nD) (t : Fin (cfg0 a).N) (d) : (dats m a 0 c).before ((4 : Fin 10) : Fin (cfg0 a).W) t d = iblk m a c 4 t :=
  ((dats m a 0 c).before_in_eq_fetched (4 : Fin 10) rfl (fun _ => rfl) (fun _ _ _ => rfl)
    (fun t => by rw [after_4]; unfold Dat.blockOf iblk; rfl) t d).trans (by unfold Dat.fetched Dat.blockOf iblk; rfl)
theorem after_5 (c : Dev nD) (t : Fin (cfg0 a).N) : (dats m a 0 c).after ((5 : Fin 10) : Fin (cfg0 a).W) t = iblk m a c 5 t := rfl
theorem before_5 (c : Dev nD) (t : Fin (cfg0 a).N) (d) : (dats m a 0 c).before ((5 : Fin 10) : Fin (cfg0 a).W) t d = iblk m a c 5 t :=
  ((dats m a 0 c).before_in_eq_fetched (5 : Fin 10) rfl (fun _ => rfl) (fun _ _ _ => rfl)
    (fun t => by rw [after_5]; unfold Dat.blockOf iblk; rfl) t d).trans (by unfold Dat.fetched Dat.blockOf iblk; rfl)
theorem after_6 (c : Dev nD) (t : Fin (cfg0 a).N) : (dats m a 0 c).after ((6 : Fin 10) : Fin (cfg0 a).W) t = iblk m a c 6 t := rfl
theorem before_6 (c : Dev nD) (t : Fin (cfg0 a).N) (d) : (dats m a 0 c).before ((6 : Fin 10) : Fin (cfg0 a).W) t d = iblk m a c 6 t :=
  ((dats m a 0 c).before_in_eq_fetched (6 : Fin 10) rfl (fun _ => rfl) (fun _ _ _ => rfl)
    (fun t => by rw [after_6]; unfold Dat.blockOf iblk; rfl) t d).trans (by unfold Dat.fetched Dat.blockOf iblk; rfl)
theorem after_7 (c : Dev nD) (t : Fin (cfg0 a).N) : (dats m a 0 c).after ((7 : Fin 10) : Fin (cfg0 a).W) t = iblk m a c 7 t := rfl
theorem before_7 (c : Dev nD) (t : Fin (cfg0 a).N) (d) : (dats m a 0 c).before ((7 : Fin 10) : Fin (cfg0 a).W) t d = iblk m a c 7 t :=
  ((dats m a 0 c).before_in_eq_fetched (7 : Fin 10) rfl (fun _ => rfl) (fun _ _ _ => rfl)
    (fun t => by rw [after_7]; unfold Dat.blockOf iblk; rfl) t d).trans (by unfold Dat.fetched Dat.blockOf iblk; rfl)
theorem after_8 (c : Dev nD) (t : Fin (cfg0 a).N) : (dats m a 0 c).after ((8 : Fin 10) : Fin (cfg0 a).W) t = iblk m a c 8 t := rfl
theorem before_8 (c : Dev nD) (t : Fin (cfg0 a).N) (d) : (dats m a 0 c).before ((8 : Fin 10) : Fin (cfg0 a).W) t d = iblk m a c 8 t :=
  ((dats m a 0 c).before_in_eq_fetched (8 : Fin 10) rfl (fun _ => rfl) (fun _ _ _ => rfl)
    (fun t => by rw [after_8]; unfold Dat.blockOf iblk; rfl) t d).trans (by unfold Dat.fetched Dat.blockOf iblk; rfl)
theorem after_9 (c : Dev nD) (t : Fin (cfg0 a).N) : (dats m a 0 c).after ((9 : Fin 10) : Fin (cfg0 a).W) t = outAt m a c t := rfl

theorem idle_eq (w : Fin 10) (t : Fin (cfg0 a).N) : (cfg0 a).idle w ((cfg0 a).grid.coords t) = false := by
  fin_cases w <;> try rfl
  show (!(k0_cond1 (grid0.coords t) (a.1.atD 2 ![0]) == 1#1) && !(k0_cond2 (grid0.coords t) (a.1.atD 2 ![0]) == 1#1)) = false
  by_cases h : k0_cond1 (grid0.coords t) (a.1.atD 2 ![0]) = 1#1
  · rw [h]; rfl
  · rw [(cond2_iff _ _).mpr h]; simp

/-- The tables as the region hands them over, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v14) ↦{q 0} v 0) ∗ (((c : Thread nD τ).loc main_v21) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body at a point -/

abbrev bodyAt (t : Fin (cfg0 a).N) : Prog (TpuEff nD τ sig (Elt F) Λ₀ .tc) PUnit :=
  cc0_moe_ffn_sorted (grid0.coords t) tM0 (Memref.isWhole_whole _) tM1 (Memref.isWhole_whole _) tM2 (Memref.isWhole_whole _) (st0 a t) (hst0 a t) (st1 a t) (hst1 a t) (st2 a t) (hst2 a t) (st3 a t) (hst3 a t) (st4 a t) (hst4 a t) (st5 a t) (hst5 a t) (st6 a t) (hst6 a t) (st7 a t) (hst7 a t) (st8 a t) (hst8 a t) (st9 a t) (hst9 a t)

def bodyPre (c : Dev nD) (t : Fin (cfg0 a).N) : sProp 𝕄 :=
  iprop((dats m a 0 c).Φ t.castSucc ∗ (dats m a 0 c).owesAt () t.castSucc
    ∗ (∃ d, owns (c : Thread nD τ) (st0 a t) fullShare ((dats m a 0 c).before ((0 : Fin 10) : Fin (cfg0 a).W) t d))
    ∗ (∃ d, owns (c : Thread nD τ) (st1 a t) fullShare ((dats m a 0 c).before ((1 : Fin 10) : Fin (cfg0 a).W) t d))
    ∗ (∃ d, owns (c : Thread nD τ) (st2 a t) fullShare ((dats m a 0 c).before ((2 : Fin 10) : Fin (cfg0 a).W) t d))
    ∗ (∃ d, owns (c : Thread nD τ) (st3 a t) fullShare ((dats m a 0 c).before ((3 : Fin 10) : Fin (cfg0 a).W) t d))
    ∗ (∃ d, owns (c : Thread nD τ) (st4 a t) fullShare ((dats m a 0 c).before ((4 : Fin 10) : Fin (cfg0 a).W) t d))
    ∗ (∃ d, owns (c : Thread nD τ) (st5 a t) fullShare ((dats m a 0 c).before ((5 : Fin 10) : Fin (cfg0 a).W) t d))
    ∗ (∃ d, owns (c : Thread nD τ) (st6 a t) fullShare ((dats m a 0 c).before ((6 : Fin 10) : Fin (cfg0 a).W) t d))
    ∗ (∃ d, owns (c : Thread nD τ) (st7 a t) fullShare ((dats m a 0 c).before ((7 : Fin 10) : Fin (cfg0 a).W) t d))
    ∗ (∃ d, owns (c : Thread nD τ) (st8 a t) fullShare ((dats m a 0 c).before ((8 : Fin 10) : Fin (cfg0 a).W) t d))
    ∗ (∃ d, owns (c : Thread nD τ) (st9 a t) fullShare ((dats m a 0 c).before ((9 : Fin 10) : Fin (cfg0 a).W) t d)))

def bodyPost (c : Dev nD) (t : Fin (cfg0 a).N) : sProp 𝕄 :=
  iprop((dats m a 0 c).Φ t.succ ∗ (dats m a 0 c).owesAt () t.succ
    ∗ owns (c : Thread nD τ) (st0 a t) fullShare ((dats m a 0 c).after ((0 : Fin 10) : Fin (cfg0 a).W) t)
    ∗ owns (c : Thread nD τ) (st1 a t) fullShare ((dats m a 0 c).after ((1 : Fin 10) : Fin (cfg0 a).W) t)
    ∗ owns (c : Thread nD τ) (st2 a t) fullShare ((dats m a 0 c).after ((2 : Fin 10) : Fin (cfg0 a).W) t)
    ∗ owns (c : Thread nD τ) (st3 a t) fullShare ((dats m a 0 c).after ((3 : Fin 10) : Fin (cfg0 a).W) t)
    ∗ owns (c : Thread nD τ) (st4 a t) fullShare ((dats m a 0 c).after ((4 : Fin 10) : Fin (cfg0 a).W) t)
    ∗ owns (c : Thread nD τ) (st5 a t) fullShare ((dats m a 0 c).after ((5 : Fin 10) : Fin (cfg0 a).W) t)
    ∗ owns (c : Thread nD τ) (st6 a t) fullShare ((dats m a 0 c).after ((6 : Fin 10) : Fin (cfg0 a).W) t)
    ∗ owns (c : Thread nD τ) (st7 a t) fullShare ((dats m a 0 c).after ((7 : Fin 10) : Fin (cfg0 a).W) t)
    ∗ owns (c : Thread nD τ) (st8 a t) fullShare ((dats m a 0 c).after ((8 : Fin 10) : Fin (cfg0 a).W) t)
    ∗ owns (c : Thread nD τ) (st9 a t) fullShare ((dats m a 0 c).after ((9 : Fin 10) : Fin (cfg0 a).W) t))

set_option maxHeartbeats 6400000 in
theorem sound_body (c : Dev nD) (t : Fin (cfg0 a).N) :
    bodyPre m a c t ⊢ wp Idealize.ShloMosaic.frame (wpE (defs₀ (F := F)) Variants.none c none) Set.univ (bodyAt a t) (fun _ => bodyPost m a c t) := by
  unfold bodyPre bodyPost bodyAt
  simp only [before_0, before_1, before_2, before_3, before_4, before_5, before_6, before_7, before_8]
  rw [show (dats m a 0 c).owesAt () t.succ = (dats m a 0 c).owesAt () t.castSucc from rfl,
    after_0, after_1, after_2, after_3, after_4, after_5, after_6, after_7, after_8, after_9]
  rw [show (dats m a 0 c).Φ t.succ = iprop(Pipeline.ΦA spec0 c ∗ Pipeline.ΦT pre0 a.1 c) from rfl,
    show (dats m a 0 c).Φ t.castSucc = iprop(Pipeline.ΦA spec0 c ∗ Pipeline.ΦT pre0 a.1 c) from rfl, Pipeline.ΦT, prefHeld_eq]
  by_cases h : k0_cond1 (grid0.coords t) (used a) = 1#1
  · have h2 : ¬k0_cond2 (grid0.coords t) (used a) = 1#1 := fun h2 => (cond2_iff _ _).mp h2 h
    unfold outAt; rw [if_pos h]
    iintro ⟨⟨Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLive c (grid0.coords t) _ (hst0 a t) _ (hst1 a t) _ (hst2 a t) _ (hst3 a t) _ (hst4 a t) _ (hst5 a t) _ (hst6 a t) _ (hst7 a t) _ (hst8 a t) _ (hst9 a t) (a.1 0) (a.1 1) (a.1 2) (iblk m a c 0 t) (iblk m a c 1 t) (iblk m a c 2 t) (iblk m a c 3 t) (iblk m a c 4 t) (iblk m a c 5 t) (iblk m a c 6 t) (iblk m a c 7 t) (iblk m a c 8 t) h h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, ⟨%e9, H9⟩⟩
    isplitl [Hg HT0 HT1 HT2]
    · isplitl [Hg]
      · iexact Hg
      isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr
    swap; · iexact H9
    ipureintro; exact live_read ..
  · have h2 : k0_cond2 (grid0.coords t) (used a) = 1#1 := (cond2_iff _ _).mpr h
    unfold outAt; rw [if_neg h]
    iintro ⟨⟨Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runDead c (grid0.coords t) _ (hst0 a t) _ (hst1 a t) _ (hst2 a t) _ (hst3 a t) _ (hst4 a t) _ (hst5 a t) _ (hst6 a t) _ (hst7 a t) _ (hst8 a t) _ (hst9 a t) (a.1 0) (a.1 1) (a.1 2) (iblk m a c 0 t) (iblk m a c 1 t) (iblk m a c 2 t) (iblk m a c 3 t) (iblk m a c 4 t) (iblk m a c 5 t) (iblk m a c 6 t) (iblk m a c 7 t) (iblk m a c 8 t) h h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, ⟨%e9, H9⟩⟩
    isplitl [Hg HT0 HT1 HT2]
    · isplitl [Hg]
      · iexact Hg
      isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr
    swap; · iexact H9
    ipureintro; exact dead_read ..

theorem defs_row (t : Fin (cfg0 a).N) :
    defs₀ (F := F) .tc (cfg0 a).body ((cfg0 a).bodyArgs t ((cfg0 a).slots t)) = bodyAt a t := by
  unfold defs₀; rw [Defs.onTc_tc]

theorem body_obligation (c : Dev nD) : BodyObligation (dats m a 0 c) (defs₀ (F := F)) Variants.none () Set.univ := fun t => by
  rw [bigSep_W0, bigSep_W0, defs_row]
  rewrite [idle_eq a 9 t]
  exact triple_restated (sound_body m a c t) rfl .rfl fun _ => .rfl

/-! ## The launch -/

set_option backward.isDefEq.respectTransparency.types false in
/-- Every execution ends, with each array at what the proof data computes, every other buffer as the call found it, and
    every semaphore counter at zero, the tables' contents `a` being those the host operations leave. -/
theorem run_main (ha : ∀ (c : Dev nD) k, V m c (pre0.ref k) = a.1 k) : θ_run defs (onTc (τ := τ) (main (F := F))) ⟨m, fun _ => 0, ρ⟩
    (fun r => Pipeline.FramePost (Pipeline.pin pcfgs fun _ => a) (dats m a) 0 (V m) r ∧ r.2.sem = fun _ => 0) :=
  Pipeline.θ_run_frameP_shared pcfgs (fun _ => a) (dats m a) (0 : Fin 1) launch₀0 defs₀ Variants.none m ρ main
    (hbody := fun c => (body_obligation m a c).loose) (hq := fun _ _ _ => rfl) (howed := fun _ _ => rfl) (V := V m)
    (hmain := Pipeline.hmainP_prefix pcfgs 0 defs₀ Variants.none m main hostOps0 hostOps0_sub
      (by repeat' constructor) (fun c => main_chain c))
    (hA := fun _ _ => rfl) (hpf := ha) (hΦ := fun _ _ => rfl)
    (Q' := fun r => Pipeline.FramePost (Pipeline.pin pcfgs fun _ => a) (dats m a) 0 (V m) r ∧ r.2.sem = fun _ => 0)

/-- The frame: the arguments end as they were and every counter at zero. -/
theorem frame_of (ha : ∀ (c : Dev nD) k, V m c (pre0.ref k) = a.1 k) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).1 0).trans (((dats m a 0 c).arrAt_in 0 rfl _).trans (V_arg0 m c)),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).2 main_arg3 (Pipeline.mem_restRefs_of (win := spec0) main_arg3 (by decide) (by decide))).trans (V_arg3 m c),
      ((h.1 c).2 main_arg4 (Pipeline.mem_restRefs_of (win := spec0) main_arg4 (by decide) (by decide))).trans (V_arg4 m c),
      ((h.1 c).2 main_arg5 (Pipeline.mem_restRefs_of (win := spec0) main_arg5 (by decide) (by decide))).trans (V_arg5 m c),
      ((h.1 c).1 3).trans (((dats m a 0 c).arrAt_in 3 rfl _).trans (V_arg6 m c)),
      ((h.1 c).1 5).trans (((dats m a 0 c).arrAt_in 5 rfl _).trans (V_arg7 m c)),
      ((h.1 c).1 7).trans (((dats m a 0 c).arrAt_in 7 rfl _).trans (V_arg8 m c))⟩, h.2⟩) (run_main m ρ a ha)

end Cert.FfnIdeal.Moe

end
-- ==== Proof.FfnLaunch.lean ====
module

public import proofs.«01_k».proof.Proof.FfnFrame
public import proofs.«01_k».proof.Proof.Gen.Pre_in_range

@[expose] public section

set_option maxRecDepth 16384

noncomputable section

namespace Cert.FfnIdeal.Moe

open Cert.FfnIdeal Cert.FfnIdeal.Gen
open Idealize.ShloMosaic Idealize.ShloMosaic.TcCoe Idealize.ShloMosaic.Tactic
open Idealize.SL Idealize.SL.Sem

variable {F : FTy → Type} [FloatOps F]

/-! ## Every block of the call lies inside its array -/

/-- A tile number clamped by a bound taken not below zero is a tile number. -/
theorem clamp_lt (n : Nat) (hn : n < 152) (w : BitVec 32) :
    (IntOp.minsi (BitVec.ofNat 32 n) (IntOp.maxsi w 0#32)).toNat < 152 := by
  have hj : (BitVec.ofNat 32 n).toNat = n := by rw [BitVec.toNat_ofNat]; omega
  have hji : (BitVec.ofNat 32 n).toInt = n := by rw [BitVec.toInt_eq_toNat_of_lt (by omega), hj]
  unfold IntOp.minsi IntOp.maxsi
  by_cases h0 : (0#32 : BitVec 32).slt w = true
  · rw [if_pos h0]
    by_cases h1 : (BitVec.ofNat 32 n).slt w = true
    · rw [if_pos h1]; omega
    · rw [if_neg h1]
      simp only [BitVec.slt, decide_eq_true_eq, hji] at h0 h1
      have hz : (0#32 : BitVec 32).toInt = 0 := by decide
      rw [hz] at h0
      have hw := BitVec.toInt_eq_toNat_cond w
      have hlt := w.isLt
      split at hw <;> omega
  · rw [if_neg h0]
    split
    · omega
    · decide

theorem ok_of (pf : pre0.Contents (Elt F)) (h0 : ∀ y : S152.Idx, (show BitVec 32 from pf 0 y).toNat < 16)
    (h1 : ∀ y : S152.Idx, (show BitVec 32 from pf 1 y).toNat < 16) : ok0 pf := by
  refine ⟨fun i => ?_, fun i => by
      refine ⟨fun b => ?_, .inl rfl⟩
      have hv := h0 ((Rect.unit (s := S152) (k0_off1 i) S1.size (k0_off1_inb i)).emb (Shape.Idx.first (numel1_S1.symm ▸ Nat.one_pos)))
      have hv' : ∀ v : BitVec 32, v.toNat < 16 → ∀ b, ((![(0#32 : BitVec 32).toNat, v.toNat, (0#32 : BitVec 32).toNat, (0#32 : BitVec 32).toNat] : Fin 4 → Nat) b + 1) * S1x1x1024x256.size b ≤ S2x16x1024x256.size b := by
        intro v hv b; fin_cases b
        · show (0 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h1 ((Rect.unit (s := S152) (k0_off1 i) S1.size (k0_off1_inb i)).emb (Shape.Idx.first (numel1_S1.symm ▸ Nat.one_pos)))
      have hv' : ∀ v : BitVec 32, v.toNat < 16 → ∀ b, ((![(0#32 : BitVec 32).toNat, v.toNat, (0#32 : BitVec 32).toNat, (0#32 : BitVec 32).toNat] : Fin 4 → Nat) b + 1) * S1x1x1024x256.size b ≤ S2x16x1024x256.size b := by
        intro v hv b; fin_cases b
        · show (0 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h0 ((Rect.unit (s := S152) (k0_off1 i) S1.size (k0_off1_inb i)).emb (Shape.Idx.first (numel1_S1.symm ▸ Nat.one_pos)))
      have hv' : ∀ v : BitVec 32, v.toNat < 16 → ∀ b, ((![(0#32 : BitVec 32).toNat, v.toNat, (0#32 : BitVec 32).toNat, (0#32 : BitVec 32).toNat] : Fin 4 → Nat) b + 1) * S1x1x1024x256.size b ≤ S2x16x1024x256.size b := by
        intro v hv b; fin_cases b
        · show (0 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h1 ((Rect.unit (s := S152) (k0_off1 i) S1.size (k0_off1_inb i)).emb (Shape.Idx.first (numel1_S1.symm ▸ Nat.one_pos)))
      have hv' : ∀ v : BitVec 32, v.toNat < 16 → ∀ b, ((![(0#32 : BitVec 32).toNat, v.toNat, (0#32 : BitVec 32).toNat, (0#32 : BitVec 32).toNat] : Fin 4 → Nat) b + 1) * S1x1x1024x256.size b ≤ S2x16x1024x256.size b := by
        intro v hv b; fin_cases b
        · show (0 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h0 ((Rect.unit (s := S152) (k0_off1 i) S1.size (k0_off1_inb i)).emb (Shape.Idx.first (numel1_S1.symm ▸ Nat.one_pos)))
      have hv' : ∀ v : BitVec 32, v.toNat < 16 → ∀ b, ((![(0#32 : BitVec 32).toNat, v.toNat, (0#32 : BitVec 32).toNat, (0#32 : BitVec 32).toNat] : Fin 4 → Nat) b + 1) * S1x1x256x1024.size b ≤ S2x16x256x1024.size b := by
        intro v hv b; fin_cases b
        · show (0 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h1 ((Rect.unit (s := S152) (k0_off1 i) S1.size (k0_off1_inb i)).emb (Shape.Idx.first (numel1_S1.symm ▸ Nat.one_pos)))
      have hv' : ∀ v : BitVec 32, v.toNat < 16 → ∀ b, ((![(0#32 : BitVec 32).toNat, v.toNat, (0#32 : BitVec 32).toNat, (0#32 : BitVec 32).toNat] : Fin 4 → Nat) b + 1) * S1x1x256x1024.size b ≤ S2x16x256x1024.size b := by
        intro v hv b; fin_cases b
        · show (0 + 1) * 1 ≤ 2; omega
        · show (v.toNat + 1) * 1 ≤ 16; omega
        · exact Nat.le_of_eq (Nat.one_mul _)
        · exact Nat.le_of_eq (Nat.one_mul _)
      exact hv' _ hv b⟩
  refine ⟨fun b => ?_, .inl rfl⟩
  have hv' : ∀ v : BitVec 32, v.toNat < 152 → ∀ b, ((![v.toNat, (0#32 : BitVec 32).toNat] : Fin 2 → Nat) b + 1) * S2304x128.size b ≤ S350208x128.size b := by
    intro v hv b; fin_cases b
    · show (v.toNat + 1) * 2304 ≤ 350208; omega
    · exact Nat.le_of_eq (Nat.one_mul _)
  exact hv' _ (clamp_lt (i 0).val (i 0).isLt _) b

/-! ## The tables the host operations leave -/

variable (m : (ℓ : Loc nD τ sig) → Buf (Elt F) ℓ) (ρ : Dev nD → PrngReg)

/-- A gather of single words from a row of 152 reads the row at the start word, read signed and held inside the row. -/
theorem gather_word {α : Type} (x : S152.Idx → α) (i : S152x1.Idx → BitVec 32) (j : Fin 152) :
    Host.gather gather_S152_S152x1_S152_n_0_n_n_0_1_1 x i (ix1 j)
      = x (ix1 (⟨min (i (ix2 j 0)).toInt.toNat 151, by omega⟩ : Fin 152)) := by
  unfold Host.gather
  refine congrArg x (funext fun a => ?_)
  obtain rfl : a = 0 := Subsingleton.elim _ _
  refine Fin.ext ?_
  show GatherDims.start gather_S152_S152x1_S152_n_0_n_n_0_1_1 (ix1 j) i 0
    + GatherDims.batchCoord gather_S152_S152x1_S152_n_0_n_n_0_1_1 (ix1 j) 0 + GatherDims.offCoord gather_S152_S152x1_S152_n_0_n_n_0_1_1 (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S152_S152x1_S152_n_0_n_n_0_1_1.startIndexMap from List.mem_singleton.mpr rfl)]
  have e : GatherDims.siIdx gather_S152_S152x1_S152_n_0_n_n_0_1_1 (ix1 j) ⟨List.idxOf (0 : Fin 1) gather_S152_S152x1_S152_n_0_n_n_0_1_1.startIndexMap,
      List.idxOf_lt_length_iff.2 (List.mem_singleton.mpr rfl)⟩ = ix2 j 0 := by
    funext b; refine Fin.ext ?_
    match b with
    | ⟨0, _⟩ => rfl
    | ⟨1, _⟩ => rfl
  rw [e]; rfl

/-- The tile each table entry is read at, as the host operations compute it. -/
def starts (nu : S1.Idx → BitVec 32) : S152x1.Idx → BitVec 32 :=
  let v7 : IVec S152 32 := minsi (iotaInDim S152 32 0) (broadcastInDim S152 ![] bcast_S_S152
    (maxsi (subi (shapeCast S_ nu shapeCasts_S1_S_) (constantI S_ 32 1#32)) (constantI S_ 32 0#32)))
  broadcastInDim S152x1 ![0] bcast_S152_S152x1_0 (select (cmpi .slt v7 (broadcastInDim S152 ![] bcast_S_S152 (constantI S_ 32 0#32)))
    (addi v7 (broadcastInDim S152 ![] bcast_S_S152 (constantI S_ 32 152#32))) v7)

theorem V_low (c : Dev nD) : V m c main_v14 = Host.gather gather_S152_S152x1_S152_n_0_n_n_0_1_1 (m ((c : Thread nD τ).loc main_arg1)) (starts (m ((c : Thread nD τ).loc main_arg3))) := by
  unfold V; entry_read; rfl
theorem V_high (c : Dev nD) : V m c main_v21 = Host.gather gather_S152_S152x1_S152_n_0_n_n_0_1_1 (m ((c : Thread nD τ).loc main_arg2)) (starts (m ((c : Thread nD τ).loc main_arg3))) := by
  unfold V; entry_read; rfl

/-- The tables when the call is reached. -/
def tabs : pre0.Contents (Elt F) := fun k => V m 0 (pre0.ref k)

theorem tabs_eq (c : Dev nD) (k) : V m c (pre0.ref k) = tabs m k := by
  obtain rfl : c = 0 := Subsingleton.elim _ _; rfl

/-- The expert numbers of every tile are in range. -/
def InRange : Prop := ∀ c : Dev nD, ∀ j : Fin 152,
  (show BitVec 32 from m ((c : Thread nD τ).loc main_arg1) (ix1 j)).toNat < 16 ∧ (show BitVec 32 from m ((c : Thread nD τ).loc main_arg2) (ix1 j)).toNat < 16

theorem word_range (w : BitVec 32) (h : (IntOp.andi (IntOp.cmpi .sge w 0#32) (IntOp.cmpi .slt w 16#32)) = 1#1) : w.toNat < 16 := by
  have h0 : (0#32 : BitVec 32).sle w = true := by
    revert h; show BitVec.ofBool ((0#32 : BitVec 32).sle w) &&& BitVec.ofBool (w.slt 16#32) = 1#1 → _
    cases (0#32 : BitVec 32).sle w <;> cases w.slt 16#32 <;> simp
  have h1 : w.slt 16#32 = true := by
    revert h; show BitVec.ofBool ((0#32 : BitVec 32).sle w) &&& BitVec.ofBool (w.slt 16#32) = 1#1 → _
    cases (0#32 : BitVec 32).sle w <;> cases w.slt 16#32 <;> simp
  simp only [BitVec.slt, BitVec.sle, decide_eq_true_eq] at h0 h1
  rw [show (0#32 : BitVec 32).toInt = 0 from by decide] at h0
  rw [show (16#32 : BitVec 32).toInt = 16 from by decide] at h1
  have hw := BitVec.toInt_eq_toNat_cond w
  have hlt := w.isLt
  split at hw <;> omega

theorem and_left (a b : BitVec 1) (h : IntOp.andi a b = 1#1) : a = 1#1 := by
  revert h; show a &&& b = 1#1 → _; revert a b; decide
theorem and_right (a b : BitVec 1) (h : IntOp.andi a b = 1#1) : b = 1#1 := by
  revert h; show a &&& b = 1#1 → _; revert a b; decide
theorem and_both (a b : BitVec 1) (ha : a = 1#1) (hb : b = 1#1) : IntOp.andi a b = 1#1 := by subst ha hb; decide

theorem inRange_of (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = (fun _ => 1#1)) : InRange m := fun c j => by
  have h10 : IntOp.andi (IntOp.andi (IntOp.andi (IntOp.cmpi .sge (show BitVec 32 from m ((c : Thread nD τ).loc main_arg1) (ix1 j)) 0#32) (IntOp.cmpi .slt (show BitVec 32 from m ((c : Thread nD τ).loc main_arg1) (ix1 j)) 16#32))
      (IntOp.cmpi .sge (show BitVec 32 from m ((c : Thread nD τ).loc main_arg2) (ix1 j)) 0#32)) (IntOp.cmpi .slt (show BitVec 32 from m ((c : Thread nD τ).loc main_arg2) (ix1 j)) 16#32) = 1#1 := congrFun (h c) (ix1 j)
  have h7 := and_left _ _ h10
  exact ⟨word_range _ (and_left _ _ h7), word_range _ (and_both _ _ (and_right _ _ h7) (and_right _ _ h10))⟩

theorem ok_tabs (h : InRange m) : ok0 (tabs m) := by
  refine ok_of _ (fun y => ?_) (fun y => ?_)
  · have e : tabs m 0 y = _ := congrFun (V_low m 0) y
    rw [e]; obtain ⟨j, rfl⟩ : ∃ j : Fin 152, y = ix1 j := ⟨y 0, (ix1_eta y).symm⟩
    rw [gather_word]; exact (h 0 _).1
  · have e : tabs m 1 y = _ := congrFun (V_high m 0) y
    rw [e]; obtain ⟨j, rfl⟩ : ∃ j : Fin 152, y = ix1 j := ⟨y 0, (ix1_eta y).symm⟩
    rw [gather_word]; exact (h 0 _).2

/-- The frame: with every expert number in range the call ends, the arguments end as they were, and every counter at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame_of m ρ ⟨tabs m, ok_tabs m h⟩ (tabs_eq m)

end Cert.FfnIdeal.Moe

end
-- ==== Proof.FfnMath.lean ====
module

public import Idealize.ShloMosaic.Lib.Pipeline.ValueKit
public import Idealize.ShloMosaic.Lib.Claim
public import Idealize.ShloMosaic.Lib.KernelVsHost

@[expose] public section

noncomputable section

open Idealize.ShloMosaic

namespace Cert.Moe

/-- One entry of a row divided by its root mean square, times a weight. -/
def rms (x : Fin 1024 → EReal) (w : EReal) (k : Fin 1024) : EReal :=
  x k * Ideal.rsqrt (Ideal.div (∑ j, x j * x j) (Ideal.ofBits FTy.f32 1149239296#32) + Ideal.ofBits FTy.f32 897988541#32) * w

/-- One where the word is the expert's number, zero elsewhere. -/
def pick (w : BitVec 32) (e : Fin 16) : EReal := if w = BitVec.ofNat 32 e.val then 1 else 0

/-- `x` times the logistic of `x`. -/
def swish (x : EReal) : EReal := x * Ideal.div (Ideal.ofBits FTy.f32 0x3F800000#32) (Ideal.ofBits FTy.f32 0x3F800000#32 + Ideal.exp (-x))

/-- A real number: neither infinity. -/
def IsReal (x : EReal) : Prop := x ≠ ⊥ ∧ x ≠ ⊤

theorem IsReal.lift {x : EReal} (h : IsReal x) : ∃ r : ℝ, x = (r : EReal) := ⟨x.toReal, (EReal.coe_toReal h.2 h.1).symm⟩
theorem IsReal.coe (r : ℝ) : IsReal (r : EReal) := ⟨EReal.coe_ne_bot r, EReal.coe_ne_top r⟩
theorem IsReal.mul {x y : EReal} (hx : IsReal x) (hy : IsReal y) : IsReal (x * y) := by
  obtain ⟨a, rfl⟩ := hx.lift; obtain ⟨b, rfl⟩ := hy.lift; rw [← EReal.coe_mul]; exact IsReal.coe _
theorem IsReal.add {x y : EReal} (hx : IsReal x) (hy : IsReal y) : IsReal (x + y) := by
  obtain ⟨a, rfl⟩ := hx.lift; obtain ⟨b, rfl⟩ := hy.lift; rw [← EReal.coe_add]; exact IsReal.coe _
theorem IsReal.sum {ι : Type} (s : Finset ι) (f : ι → EReal) (h : ∀ i, IsReal (f i)) : IsReal (∑ i ∈ s, f i) := by
  classical
  induction s using Finset.induction with
  | empty => simpa using IsReal.coe 0
  | insert a s ha ih => rw [Finset.sum_insert ha]; exact (h a).add ih

/-! ## The constants -/

theorem half : Ideal.ofBits FTy.f32 0x3F000000#32 = ((1 / 2 : ℝ) : EReal) := by
  simp [Ideal.ofBits, Ideal.ieee, -EReal.coe_mul]; norm_num
theorem width : Ideal.ofBits FTy.f32 1149239296#32 = ((1024 : ℝ) : EReal) := by
  simp [Ideal.ofBits, Ideal.ieee, -EReal.coe_mul]; norm_num
theorem eps : ∃ r : ℝ, 0 < r ∧ Ideal.ofBits FTy.f32 897988541#32 = (r : EReal) := by
  refine ⟨8796093 * 2 ^ (-43 : ℤ), by positivity, ?_⟩
  simp [Ideal.ofBits, Ideal.ieee, -EReal.coe_mul]
  try norm_num

/-! ## The root-mean-square norm keeps real numbers real -/

theorem rms_fin (x : Fin 1024 → EReal) (w : EReal) (k : Fin 1024) (hx : ∀ j, IsReal (x j)) (hw : IsReal w) : IsReal (rms x w k) := by
  obtain ⟨e, he, hee⟩ := eps
  have hs : ∃ r : ℝ, 0 ≤ r ∧ ∑ j, x j * x j = (r : EReal) := by
    obtain ⟨r, hr⟩ := (IsReal.sum Finset.univ _ fun j => (hx j).mul (hx j)).lift
    refine ⟨r, ?_, hr⟩
    have : (0 : EReal) ≤ ∑ j, x j * x j := Finset.sum_nonneg fun j _ => by
      obtain ⟨a, ha⟩ := (hx j).lift; rw [ha, ← EReal.coe_mul]; exact_mod_cast mul_self_nonneg a
    rw [hr] at this; exact_mod_cast this
  obtain ⟨r, hr, hsum⟩ := hs
  unfold rms
  rw [hsum, hee, width, Ideal.div_coe (by norm_num), ← EReal.coe_mul, ← EReal.coe_add, Ideal.rsqrt_coe]
  have hpos : 0 < r * (1 / 1024) + e := by positivity
  rw [if_neg (not_lt.mpr hpos.le), if_neg hpos.ne']
  exact ((hx k).mul (IsReal.coe _)).mul hw

/-! ## Half of it times one plus its tanh is the logistic form -/

theorem swish_half (x : EReal) (h : x ≠ ⊥) :
    Ideal.ofBits FTy.f32 0x3F000000#32 * x + Ideal.ofBits FTy.f32 0x3F000000#32 * x * Ideal.tanh (Ideal.ofBits FTy.f32 0x3F000000#32 * x) = swish x := by
  unfold swish
  rw [half, show Ideal.ofBits FTy.f32 0x3F800000#32 = 1 from by
    rw [show (1 : EReal) = ((1 : ℝ) : EReal) by norm_cast]; simp [Ideal.ofBits, Ideal.ieee, -EReal.coe_mul]; norm_num]
  induction x with
  | bot => exact absurd rfl h
  | top =>
    rw [EReal.coe_mul_top_of_pos (by norm_num), Ideal.tanh_top, mul_one, EReal.neg_top, Ideal.exp_bot, add_zero]
    simp [Ideal.div]
  | coe r =>
    have hp : (0 : ℝ) < 1 + Real.exp (-r) := by positivity
    rw [← EReal.coe_mul, Ideal.tanh_coe, ← EReal.coe_mul, ← EReal.coe_add, ← EReal.coe_neg, Ideal.exp_coe, ← EReal.coe_one, ← EReal.coe_add,
      Ideal.div_coe hp.ne', ← EReal.coe_mul, ← EReal.coe_mul]
    refine congrArg _ ?_
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have h1 := Real.exp_pos (1 / 2 * r)
    have h2 := Real.exp_pos (-(1 / 2 * r))
    rw [e1]
    generalize Real.exp (1 / 2 * r) = a at *
    generalize Real.exp (-(1 / 2 * r)) = b at *
    have ha : a = 1 / b := by field_simp; linarith
    subst ha
    field_simp
    ring

/-! ## Two picked experts out of all of them -/

theorem pick_nonneg (w : BitVec 32) (e : Fin 16) : 0 ≤ pick w e := by unfold pick; split <;> simp

/-- A sum over the experts of what one word picks is that expert's term. -/
theorem pick_sum (w : BitVec 32) (hw : w.toNat < 16) (c : EReal) (D : Fin 16 → EReal) :
    ∑ e, pick w e * c * D e = c * D ⟨w.toNat, hw⟩ := by
  rw [Finset.sum_eq_single (⟨w.toNat, hw⟩ : Fin 16)]
  · unfold pick; rw [if_pos (by simp), one_mul]
  · intro e _ he
    unfold pick
    rw [if_neg, zero_mul, zero_mul]
    intro h; refine he (Fin.ext ?_)
    show e.val = w.toNat
    rw [h, BitVec.toNat_ofNat]; omega
  · intro h; exact absurd (Finset.mem_univ _) h

theorem pick_two (a b : BitVec 32) (ha : a.toNat < 16) (hb : b.toNat < 16) (lo hi : EReal) (hlo : 0 ≤ lo) (hhi : 0 ≤ hi) (D : Fin 16 → EReal) :
    ∑ e, (pick a e * lo + pick b e * hi) * D e = lo * D ⟨a.toNat, ha⟩ + hi * D ⟨b.toNat, hb⟩ := by
  rw [← pick_sum a ha lo D, ← pick_sum b hb hi D, ← Finset.sum_add_distrib]
  exact Finset.sum_congr rfl fun e _ => EReal.right_distrib_of_nonneg (mul_nonneg (pick_nonneg a e) hlo) (mul_nonneg (pick_nonneg b e) hhi)

/-- A nonnegative real weight leaves a sum of products whole. -/
theorem weight_out {n : Nat} (w : EReal) (h0 : 0 ≤ w) (h1 : w ≠ ⊤) (f g : Fin n → EReal) :
    ∑ i, f i * w * g i = w * ∑ i, g i * f i := by
  have : ∀ s : Finset (Fin n), w * ∑ i ∈ s, g i * f i = ∑ i ∈ s, f i * w * g i := fun s => by
    classical
    induction s using Finset.induction with
    | empty => simp
    | insert a s ha ih =>
      rw [Finset.sum_insert ha, Finset.sum_insert ha, EReal.left_distrib_of_nonneg_of_ne_top h0 h1, ih]
      congr 1; ac_rfl
  exact (this _).symm

end Cert.Moe

end
-- ==== Proof.FfnRef.lean ====
module

public import proofs.«01_k».proof.Proof.FfnMath
public import proofs.«01_k».proof.Proof.Gen.FfnRefIdeal.Run
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem

namespace Cert.FfnRefIdeal.Val

open Cert.FfnRefIdeal Cert.FfnRefIdeal.Gen Cert.Moe

/-! ## The reference's stages -/

/-- The slots: nine rows of 128, the ninth the route. -/
def slots (A : FVec Ideal S350208x128 .f32) : FVec Ideal S38912x9x128 .f32 := shapeCast _ A shapeCasts_S350208x128_S38912x9x128

/-- The tokens. -/
def tokens (A : FVec Ideal S350208x128 .f32) : FVec Ideal S38912x1024 .f32 :=
  shapeCast _ (extractStridedSlice S38912x8x128 ![0, 0, 0] (slots A) slices_S38912x9x128_S38912x8x128_0_0_0) shapeCasts_S38912x8x128_S38912x1024

/-- The route rows. -/
def route (A : FVec Ideal S350208x128 .f32) : FVec Ideal S38912x128 .f32 :=
  shapeCast _ (extractStridedSlice S38912x1x128 ![0, 8, 0] (slots A) slices_S38912x9x128_S38912x1x128_0_8_0) shapeCasts_S38912x1x128_S38912x128

/-- Rows divided by their root mean square, times a weight. -/
def normed (X : FVec Ideal S38912x1024 .f32) (nw : FVec Ideal S1024 .f32) : FVec Ideal S38912x1024 .f32 :=
  mulf (mulf X (broadcastInDim S38912x1024 ![0, 1] bcast_S38912x1_S38912x1024_0_1 (Host.rsqrt (addf (Host.divf (broadcastInDim S38912x1 ![0] bcast_S38912_S38912x1_0 (Host.reduceAdd (mulf X X) (constant S_ .f32 0x00000000#32) reducesTo_S38912x1024_S38912_d1 h_S_)) (broadcastInDim S38912x1 ![] bcast_S_S38912x1 (constant S_ .f32 0x44800000#32))) (broadcastInDim S38912x1 ![] bcast_S_S38912x1 (constant S_ .f32 0x358637BD#32)))))) (broadcastInDim S38912x1024 ![0, 1] bcast_S1x1024_S38912x1024_0_1 (broadcastInDim S1x1024 ![1] bcast_S1024_S1x1024_1 nw))

/-- A tile's number for each of its rows. -/
def perRow (e : IVec S152 32) : IVec S38912 32 := shapeCast _ (broadcastInDim S152x256 ![0] bcast_S152_S152x256_0 e) shapeCasts_S152x256_S38912

/-- The weight each row gives each expert. -/
def combine (A : FVec Ideal S350208x128 .f32) (ea eb : IVec S152 32) : FVec Ideal S38912x16 .f32 :=
  Host.reduceAdd (mulf (uitofp .f32 (cmpi .eq (broadcastInDim S38912x2x16 ![0, 1, 2] bcast_S38912x2x1_S38912x2x16_0_1_2 (broadcastInDim S38912x2x1 ![0, 1] bcast_S38912x2_S38912x2x1_0_1 (concatenate S38912x2 1 [⟨S38912x1, (broadcastInDim S38912x1 ![0] bcast_S38912_S38912x1_0 (perRow ea))⟩, ⟨S38912x1, (broadcastInDim S38912x1 ![0] bcast_S38912_S38912x1_0 (perRow eb))⟩] concatenates_S38912x1_S38912x1_S38912x2_d1))) (broadcastInDim S38912x2x16 ![0, 1, 2] bcast_S1x1x16_S38912x2x16_0_1_2 (iotaInDim S1x1x16 32 2)))) (broadcastInDim S38912x2x16 ![0, 1, 2] bcast_S38912x2x1_S38912x2x16_0_1_2 (broadcastInDim S38912x2x1 ![0, 1] bcast_S38912x2_S38912x2x1_0_1 (extractStridedSlice S38912x2 ![0, 1] (route A) slices_S38912x128_S38912x2_0_1)))) (constant S_ .f32 0x00000000#32) reducesTo_S38912x2x16_S38912x16_d1 h_S_

/-- Rows against every expert's matrix. -/
def against (T : FVec Ideal S38912x1024 .f32) (W : FVec Ideal S2x16x1024x256 .f32) : FVec Ideal S38912x16x256 .f32 :=
  Host.dotGeneral dot_S38912x1024_S16x1024x256_S38912x16x256_1_1_0_02_n_n none T (shapeCast _ (extractStridedSlice S1x16x1024x256 ![0, 0, 0, 0] W slices_S2x16x1024x256_S1x16x1024x256_0_0_0_0) shapeCasts_S1x16x1024x256_S16x1024x256)

/-- The hidden activations of every expert. -/
def hidden (G U : FVec Ideal S38912x16x256 .f32) : FVec Ideal S38912x16x256 .f32 :=
  mulf (mulf G (Host.divf (broadcastInDim S38912x16x256 ![] bcast_S_S38912x16x256 (constant S_ .f32 0x3F800000#32)) (addf (broadcastInDim S38912x16x256 ![] bcast_S_S38912x16x256 (constant S_ .f32 0x3F800000#32)) (Host.exp (Host.negf G))))) U

/-- The experts' outputs. -/
def down (H : FVec Ideal S38912x16x256 .f32) (W : FVec Ideal S2x16x256x1024 .f32) : FVec Ideal S38912x16x1024 .f32 :=
  transpose S38912x16x1024 [2, 0, 1] (Host.dotGeneral dot_S16x256x1024_S38912x16x256_S16x1024x38912_1_2_2_0_0_1 none (shapeCast _ (extractStridedSlice S1x16x256x1024 ![0, 0, 0, 0] W slices_S2x16x256x1024_S1x16x256x1024_0_0_0_0) shapeCasts_S1x16x256x1024_S16x256x1024) H) transposes_S16x1024x38912_S38912x16x1024_2_0_1

/-- The tokens with the weighted outputs added. -/
def mixed (X : FVec Ideal S38912x1024 .f32) (C : FVec Ideal S38912x16 .f32) (D : FVec Ideal S38912x16x1024 .f32) : FVec Ideal S38912x1024 .f32 :=
  addf X (Host.reduceAdd (mulf (broadcastInDim S38912x16x1024 ![0, 1, 2] bcast_S38912x16x1_S38912x16x1024_0_1_2 (broadcastInDim S38912x16x1 ![0, 1] bcast_S38912x16_S38912x16x1_0_1 C)) D) (constant S_ .f32 0x00000000#32) reducesTo_S38912x16x1024_S38912x1024_d1 h_S_)

/-- The rows put back in their slots, zero past the tiles in use. -/
def placed (A : FVec Ideal S350208x128 .f32) (Y : FVec Ideal S38912x1024 .f32) (nu : IVec S1 32) : FVec Ideal S350208x128 .f32 :=
  shapeCast _ (select (broadcastInDim S38912x9x128 ![0, 1, 2] bcast_S38912x1x1_S38912x9x128_0_1_2 (broadcastInDim S38912x1x1 ![0] bcast_S38912_S38912x1x1_0 (shapeCast _ (broadcastInDim S152x256 ![0] bcast_S152_S152x256_0 (cmpi .slt (iotaInDim S152 32 0) (broadcastInDim S152 ![] bcast_S_S152 (shapeCast S_ nu shapeCasts_S1_S_)))) shapeCasts_S152x256_S38912))) (concatenate S38912x9x128 1 [⟨S38912x8x128, (shapeCast _ Y shapeCasts_S38912x1024_S38912x8x128)⟩, ⟨S38912x1x128, (broadcastInDim S38912x1x128 ![0, 2] bcast_S38912x128_S38912x1x128_0_2 (route A))⟩] concatenates_S38912x8x128_S38912x1x128_S38912x9x128_d1) (broadcastInDim S38912x9x128 ![] bcast_S_S38912x9x128 (id (constant S_ .f32 0x00000000#32)))) shapeCasts_S38912x9x128_S350208x128

/-- The whole reference. -/
def result (A : FVec Ideal S350208x128 .f32) (ea eb : IVec S152 32) (nu : IVec S1 32) (nw fw : FVec Ideal S1024 .f32)
    (wg wu : FVec Ideal S2x16x1024x256 .f32) (wd : FVec Ideal S2x16x256x1024 .f32) : FVec Ideal S350208x128 .f32 :=
  placed A (mixed (tokens A) (combine A ea eb) (down (hidden (against (normed (tokens A) nw) wg) (against (normed (tokens A) nw) wu)) wd)) nu

theorem res_eq (m : (ℓ : Loc nD τ sig) → Buf (Elt Ideal) ℓ) (c : Dev nD) : Cert.FfnRefIdeal.Value.res_main_v59 m c = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

/-! ## Their entries -/

/-- The row of the array that piece `p` of slot `r` is. -/
abbrev rowOf (r : Fin 38912) (p : Fin 9) : Fin 350208 := ⟨r.val * 9 + p.val, by omega⟩

/-- Entry `k` of the token in slot `r`. -/
def tok (A : FVec Ideal S350208x128 .f32) (r : Fin 38912) (k : Fin 1024) : EReal :=
  A (ix2 (rowOf r ⟨k.val / 128, by omega⟩) (⟨k.val % 128, by omega⟩ : Fin 128))

theorem slots_apply (A : FVec Ideal S350208x128 .f32) (r : Fin 38912) (p : Fin 9) (l : Fin 128) :
    slots A (ix3 r p l) = A (ix2 (rowOf r p) l) := by
  pointwise [slots]

theorem tokens_apply (A : FVec Ideal S350208x128 .f32) (r : Fin 38912) (k : Fin 1024) : tokens A (ix2 r k) = tok A r k := by
  pointwise [tokens, tok]
  exact slots_apply A r _ _

theorem route_apply (A : FVec Ideal S350208x128 .f32) (r : Fin 38912) (l : Fin 128) : route A (ix2 r l) = A (ix2 (rowOf r 8) l) := by
  pointwise [route]
  exact slots_apply A r _ _

theorem normed_apply (X : FVec Ideal S38912x1024 .f32) (nw : FVec Ideal S1024 .f32) (r : Fin 38912) (k : Fin 1024) :
    normed X nw (ix2 r k) = rms (fun j => X (ix2 r j)) (nw (ix1 k)) k := by
  pointwise [normed, rms]

/-- The tile of a row. -/
abbrev tileOf (r : Fin 38912) : Fin 152 := ⟨r.val / 256, by omega⟩

theorem perRow_apply (e : IVec S152 32) (r : Fin 38912) : perRow e (ix1 r) = e (ix1 (tileOf r)) := by
  pointwise [perRow]

theorem combine_apply (A : FVec Ideal S350208x128 .f32) (ea eb : IVec S152 32) (r : Fin 38912) (e : Fin 16) :
    combine A ea eb (ix2 r e) = pick (ea (ix1 (tileOf r))) e * A (ix2 (rowOf r 8) 1) + pick (eb (ix1 (tileOf r))) e * A (ix2 (rowOf r 8) 2) := by
  have e : ∀ w : BitVec 32, FloatOps.uitofp (F := Ideal) FTy.f32 (IntOp.cmpi CmpIPredicate.eq w (BitVec.ofNat 32 e.val)) = pick w e := by
    intro w
    show ((BitVec.ofBool (w == BitVec.ofNat 32 e.val)).toNat : EReal) = pick w e
    unfold pick
    by_cases h : w = BitVec.ofNat 32 e.val
    · rw [if_pos h, h]; simp
    · rw [if_neg h, beq_eq_false_iff_ne.mpr h]; simp
  pointwise [combine]
  simp only [e, Fin.sum_univ_one, perRow_apply, route_apply, Finset.sum_const, Finset.card_univ, Fintype.card_fin, one_smul]

theorem against_apply (T : FVec Ideal S38912x1024 .f32) (W : FVec Ideal S2x16x1024x256 .f32) (r : Fin 38912) (e : Fin 16) (f : Fin 256) :
    against T W (ix3 r e f) = ∑ k, T (ix2 r k) * W (ix4 0 e k f) := by
  pointwise [against]

theorem hidden_apply (G U : FVec Ideal S38912x16x256 .f32) (y : S38912x16x256.Idx) :
    hidden G U y = swish (G y) * U y := by
  obtain ⟨r, e, f, rfl⟩ : ∃ (r : Fin 38912) (e : Fin 16) (f : Fin 256), y = ix3 r e f := ⟨y 0, y 1, y 2, (ix3_eta y).symm⟩
  pointwise [hidden, swish]

theorem down_apply (H : FVec Ideal S38912x16x256 .f32) (W : FVec Ideal S2x16x256x1024 .f32) (r : Fin 38912) (e : Fin 16) (k : Fin 1024) :
    down H W (ix3 r e k) = ∑ f, W (ix4 0 e f k) * H (ix3 r e f) := by
  pointwise [down]

theorem mixed_apply (X : FVec Ideal S38912x1024 .f32) (C : FVec Ideal S38912x16 .f32) (D : FVec Ideal S38912x16x1024 .f32) (r : Fin 38912) (k : Fin 1024) :
    mixed X C D (ix2 r k) = X (ix2 r k) + ∑ e, C (ix2 r e) * D (ix3 r e k) := by
  pointwise [mixed]

theorem placed_apply (A : FVec Ideal S350208x128 .f32) (Y : FVec Ideal S38912x1024 .f32) (nu : IVec S1 32) (R : Fin 350208) (l : Fin 128) :
    placed A Y nu (ix2 R l) = if (BitVec.ofNat 32 (R.val / 9 / 256)).slt (nu (ix1 0)) then
      (if h : R.val % 9 < 8 then Y (ix2 (⟨R.val / 9, by omega⟩ : Fin 38912) (⟨R.val % 9 * 128 + l.val, by omega⟩ : Fin 1024)) else A (ix2 R l)) else 0 := by
  pointwise [placed]
  show (if BitVec.ofBool ((BitVec.ofNat 32 (R.val / 9 / 256)).slt (nu (ix1 0))) = 1#1 then _ else _) = _
  by_cases hs : (BitVec.ofNat 32 (R.val / 9 / 256)).slt (nu (ix1 0)) = true
  · rw [if_pos hs, if_pos (by rw [hs]; rfl)]
    by_cases h : R.val % 9 < 8
    · rw [dif_pos h, dif_pos h]
    · rw [dif_neg h, dif_neg h, route_apply]
      refine congrArg (fun q => A (ix2 q l)) (Fin.ext ?_)
      show R.val / 9 * 9 + 8 = R.val
      have := R.isLt
      omega
  · rw [if_neg hs, if_neg (by rw [Bool.not_eq_true] at hs; rw [hs]; decide)]
    exact Ideal.ofBits_zero .f32

end Cert.FfnRefIdeal.Val

end
-- ==== Proof.FfnValue.lean ====
module

public import proofs.«01_k».proof.Proof.FfnLaunch
public import proofs.«01_k».proof.Proof.FfnRef

@[expose] public section

set_option maxRecDepth 16384

noncomputable section

namespace Cert.FfnIdeal.Moe

open Cert.FfnIdeal Cert.FfnIdeal.Gen Cert.Moe
open Idealize.ShloMosaic Idealize.ShloMosaic.TcCoe Idealize.SL.Sem
open Idealize.ShloMosaic.Pipeline (Dat)

/-! ## The entries of what the body computes -/

/-- The row of a tile's block that piece `p` of slot `i` is. -/
abbrev pieceRow (i : Fin 256) (p : Fin 9) : Fin 2304 := ⟨9 * i.val + p.val, by omega⟩

theorem cut0_apply (x0 : Vec Ideal S2304x128 .f32) (i : Fin 256) (l : Fin 128) : cut0 x0 (ix2 i l) = x0 (ix2 (pieceRow i 0) l) := by
  show x0 (Rect.emb _ _) = _
  rw [emb_strided 0 (by decide)]; rfl
theorem cut1_apply (x0 : Vec Ideal S2304x128 .f32) (i : Fin 256) (l : Fin 128) : cut1 x0 (ix2 i l) = x0 (ix2 (pieceRow i 1) l) := by
  show x0 (Rect.emb _ _) = _
  rw [emb_strided 1 (by decide)]; rfl
theorem cut2_apply (x0 : Vec Ideal S2304x128 .f32) (i : Fin 256) (l : Fin 128) : cut2 x0 (ix2 i l) = x0 (ix2 (pieceRow i 2) l) := by
  show x0 (Rect.emb _ _) = _
  rw [emb_strided 2 (by decide)]; rfl
theorem cut3_apply (x0 : Vec Ideal S2304x128 .f32) (i : Fin 256) (l : Fin 128) : cut3 x0 (ix2 i l) = x0 (ix2 (pieceRow i 3) l) := by
  show x0 (Rect.emb _ _) = _
  rw [emb_strided 3 (by decide)]; rfl
theorem cut4_apply (x0 : Vec Ideal S2304x128 .f32) (i : Fin 256) (l : Fin 128) : cut4 x0 (ix2 i l) = x0 (ix2 (pieceRow i 4) l) := by
  show x0 (Rect.emb _ _) = _
  rw [emb_strided 4 (by decide)]; rfl
theorem cut5_apply (x0 : Vec Ideal S2304x128 .f32) (i : Fin 256) (l : Fin 128) : cut5 x0 (ix2 i l) = x0 (ix2 (pieceRow i 5) l) := by
  show x0 (Rect.emb _ _) = _
  rw [emb_strided 5 (by decide)]; rfl
theorem cut6_apply (x0 : Vec Ideal S2304x128 .f32) (i : Fin 256) (l : Fin 128) : cut6 x0 (ix2 i l) = x0 (ix2 (pieceRow i 6) l) := by
  show x0 (Rect.emb _ _) = _
  rw [emb_strided 6 (by decide)]; rfl
theorem cut7_apply (x0 : Vec Ideal S2304x128 .f32) (i : Fin 256) (l : Fin 128) : cut7 x0 (ix2 i l) = x0 (ix2 (pieceRow i 7) l) := by
  show x0 (Rect.emb _ _) = _
  rw [emb_strided 7 (by decide)]; rfl
theorem cut8_apply (x0 : Vec Ideal S2304x128 .f32) (i : Fin 256) (l : Fin 128) : cut8 x0 (ix2 i l) = x0 (ix2 (pieceRow i 8) l) := by
  show x0 (Rect.emb _ _) = _
  rw [emb_strided 8 (by decide)]; rfl

/-- Entry `k` of the token in slot `i` of a tile. -/
def tok (x0 : Vec Ideal S2304x128 .f32) (i : Fin 256) (k : Fin 1024) : EReal :=
  x0 (ix2 (pieceRow i ⟨k.val / 128, by omega⟩) (⟨k.val % 128, by omega⟩ : Fin 128))

theorem tok_piece (x0 : Vec Ideal S2304x128 .f32) (i : Fin 256) (k : Fin 1024) (p : Fin 9) (l : Fin 128) (h : k.val = p.val * 128 + l.val) :
    x0 (ix2 (pieceRow i p) l) = tok x0 i k := by
  have hp : (⟨k.val / 128, by omega⟩ : Fin 9) = p := Fin.ext (by show k.val / 128 = p.val; omega)
  have hl : (⟨k.val % 128, by omega⟩ : Fin 128) = l := Fin.ext (by show k.val % 128 = l.val; omega)
  unfold tok; rw [hp, hl]

theorem tokens_apply (x0 : Vec Ideal S2304x128 .f32) (i : Fin 256) (k : Fin 1024) : tokens (F := Ideal) x0 (ix2 i k) = tok x0 i k := by
  pointwise [tokens, k0_pay11]
  have hk := k.isLt
  by_cases h0 : k.val < 128
  · rw [dif_pos h0]; exact (cut0_apply x0 i _).trans (tok_piece x0 i k 0 _ (by show k.val = 0 * 128 + (k.val); omega))
  rw [dif_neg h0]
  by_cases h1 : k.val - 128 < 128
  · rw [dif_pos h1]; exact (cut1_apply x0 i _).trans (tok_piece x0 i k 1 _ (by show k.val = 1 * 128 + (k.val - 128); omega))
  rw [dif_neg h1]
  by_cases h2 : k.val - 128 - 128 < 128
  · rw [dif_pos h2]; exact (cut2_apply x0 i _).trans (tok_piece x0 i k 2 _ (by show k.val = 2 * 128 + (k.val - 128 - 128); omega))
  rw [dif_neg h2]
  by_cases h3 : k.val - 128 - 128 - 128 < 128
  · rw [dif_pos h3]; exact (cut3_apply x0 i _).trans (tok_piece x0 i k 3 _ (by show k.val = 3 * 128 + (k.val - 128 - 128 - 128); omega))
  rw [dif_neg h3]
  by_cases h4 : k.val - 128 - 128 - 128 - 128 < 128
  · rw [dif_pos h4]; exact (cut4_apply x0 i _).trans (tok_piece x0 i k 4 _ (by show k.val = 4 * 128 + (k.val - 128 - 128 - 128 - 128); omega))
  rw [dif_neg h4]
  by_cases h5 : k.val - 128 - 128 - 128 - 128 - 128 < 128
  · rw [dif_pos h5]; exact (cut5_apply x0 i _).trans (tok_piece x0 i k 5 _ (by show k.val = 5 * 128 + (k.val - 128 - 128 - 128 - 128 - 128); omega))
  rw [dif_neg h5]
  by_cases h6 : k.val - 128 - 128 - 128 - 128 - 128 - 128 < 128
  · rw [dif_pos h6]; exact (cut6_apply x0 i _).trans (tok_piece x0 i k 6 _ (by show k.val = 6 * 128 + (k.val - 128 - 128 - 128 - 128 - 128 - 128); omega))
  rw [dif_neg h6]
  exact (cut7_apply x0 i _).trans (tok_piece x0 i k 7 _ (by show k.val = 7 * 128 + (k.val - 128 - 128 - 128 - 128 - 128 - 128 - 128); omega))

theorem normed_apply (x0 : Vec Ideal S2304x128 .f32) (x1 : Vec Ideal S1x1024 .f32) (i : Fin 256) (k : Fin 1024) :
    normed (F := Ideal) x0 x1 (ix2 i k) = rms (tok x0 i) (x1 (ix2 0 k)) k := by
  have e : ∀ k, k0_pay11 (F := Ideal) (cut0 x0) (cut1 x0) (cut2 x0) (cut3 x0) (cut4 x0) (cut5 x0) (cut6 x0) (cut7 x0) (ix2 i k) = tok x0 i k := fun k => tokens_apply x0 i k
  pointwise [normed, k0_pay14, rms]
  simp only [e]

/-- A tile's rows against one matrix. -/
def against (x0 : Vec Ideal S2304x128 .f32) (x1 : Vec Ideal S1x1024 .f32) (W : Vec Ideal S1x1x1024x256 .f32) (i : Fin 256) (f : Fin 256) : EReal :=
  ∑ k, rms (tok x0 i) (x1 (ix2 0 k)) k * W (ix4 0 0 k f)

/-- Half of it times one plus its tanh, as the body has it. -/
def gated (g u : EReal) : EReal :=
  (Ideal.ofBits FTy.f32 0x3F000000#32 * g + Ideal.ofBits FTy.f32 0x3F000000#32 * g * Ideal.tanh (Ideal.ofBits FTy.f32 0x3F000000#32 * g)) * u

theorem low_apply (x0 : Vec Ideal S2304x128 .f32) (x1 x2 : Vec Ideal S1x1024 .f32) (x3 x4 x5 x6 : Vec Ideal S1x1x1024x256 .f32) (x7 x8 : Vec Ideal S1x1x256x1024 .f32) (i : Fin 256) (k : Fin 1024) :
    low (F := Ideal) x0 x1 x2 x3 x4 x5 x6 x7 x8 (ix2 i k) = ∑ f, gated (against x0 x1 x3 i f) (against x0 x1 x5 i f) * x0 (ix2 (pieceRow i 8) 1) * x7 (ix4 0 0 f k) := by
  pointwise [low, k0_pay16, k0_pay15, k0_pay12, gated, against]
  refine Finset.sum_congr rfl fun f _ => ?_
  have e : ∀ k, k0_pay14 (F := Ideal) (cut0 x0) (cut1 x0) (cut2 x0) (cut3 x0) (cut4 x0) (cut5 x0) (cut6 x0) (cut7 x0) x1 (ix2 i k) = rms (tok x0 i) (x1 (ix2 0 k)) k := fun k => normed_apply x0 x1 i k
  simp only [normed_apply, e]
  rw [← cut8_apply x0 i 1]

theorem high_apply (x0 : Vec Ideal S2304x128 .f32) (x1 x2 : Vec Ideal S1x1024 .f32) (x3 x4 x5 x6 : Vec Ideal S1x1x1024x256 .f32) (x7 x8 : Vec Ideal S1x1x256x1024 .f32) (i : Fin 256) (f : Fin 256) :
    high (F := Ideal) x0 x1 x2 x3 x4 x5 x6 x7 x8 (ix2 i f) = gated (against x0 x1 x4 i f) (against x0 x1 x6 i f) * x0 (ix2 (pieceRow i 8) 2) := by
  pointwise [high, k0_pay17, k0_pay13, gated, against]
  simp only [normed_apply]
  rw [← cut8_apply x0 i 2]

theorem mixed_apply (x0 : Vec Ideal S2304x128 .f32) (x1 x2 : Vec Ideal S1x1024 .f32) (x3 x4 x5 x6 : Vec Ideal S1x1x1024x256 .f32) (x7 x8 : Vec Ideal S1x1x256x1024 .f32) (i : Fin 256) (k : Fin 1024) :
    mixed (F := Ideal) x0 x1 x2 x3 x4 x5 x6 x7 x8 (ix2 i k) = tok x0 i k
      + (∑ f, gated (against x0 x1 x3 i f) (against x0 x1 x5 i f) * x0 (ix2 (pieceRow i 8) 1) * x7 (ix4 0 0 f k)
        + ∑ f, gated (against x0 x1 x4 i f) (against x0 x1 x6 i f) * x0 (ix2 (pieceRow i 8) 2) * x8 (ix4 0 0 f k)) := by
  pointwise [mixed, k0_pay1]
  rw [tokens_apply, low_apply]
  refine congrArg _ (congrArg _ (Finset.sum_congr rfl fun f _ => ?_))
  rw [high_apply]

/-! ## The blocks a tile in use reads -/

/-- A tile in use is its own clamp. -/
theorem clamp_live (n : Nat) (hn : n < 152) (w : BitVec 32) (h : (BitVec.ofNat 32 n).slt w = true) :
    IntOp.minsi (BitVec.ofNat 32 n) (IntOp.maxsi (IntOp.subi w 1#32) 0#32) = BitVec.ofNat 32 n := by
  have hj : (BitVec.ofNat 32 n).toNat = n := by rw [BitVec.toNat_ofNat]; omega
  have hji : (BitVec.ofNat 32 n).toInt = n := by rw [BitVec.toInt_eq_toNat_of_lt (by omega), hj]
  have hz : (0#32 : BitVec 32).toInt = 0 := by decide
  simp only [BitVec.slt, decide_eq_true_eq, hji] at h
  have hw := BitVec.toInt_eq_toNat_cond w
  have hlt := w.isLt
  have hwn : n < w.toNat ∧ w.toNat < 2 ^ 31 := by split at hw <;> omega
  have hs : (IntOp.subi w 1#32).toNat = w.toNat - 1 := by
    show (w - 1#32).toNat = _
    rw [BitVec.toNat_sub]; show (2 ^ 32 - 1 + w.toNat) % 2 ^ 32 = _; omega
  have hsi : (IntOp.subi w 1#32).toInt = (w.toNat - 1 : Nat) := by rw [BitVec.toInt_eq_toNat_of_lt (by omega), hs]
  unfold IntOp.minsi IntOp.maxsi
  by_cases h0 : (0#32 : BitVec 32).slt (IntOp.subi w 1#32) = true
  · rw [if_pos h0]
    by_cases h1 : (BitVec.ofNat 32 n).slt (IntOp.subi w 1#32) = true
    · rw [if_pos h1]
    · rw [if_neg h1]
      simp only [BitVec.slt, decide_eq_true_eq, hji, hsi] at h1
      apply BitVec.eq_of_toNat_eq; omega
  · rw [if_neg h0]
    simp only [BitVec.slt, decide_eq_true_eq, hz, hsi] at h0
    have : n = 0 := by omega
    subst this; decide

theorem starts_live (nu : S1.Idx → BitVec 32) (j : Fin 152) (h : (BitVec.ofNat 32 j.val).slt (nu (ix1 0)) = true) :
    starts nu (ix2 j 0) = BitVec.ofNat 32 j.val := by
  pointwise [starts]
  rw [clamp_live j.val j.isLt _ h]
  refine if_neg ?_
  show ¬BitVec.ofBool ((BitVec.ofNat 32 j.val).slt 0#32) = 1#1
  have hj : (BitVec.ofNat 32 j.val).toNat = j.val := by rw [BitVec.toNat_ofNat]; omega
  have hji : (BitVec.ofNat 32 j.val).toInt = j.val := by rw [BitVec.toInt_eq_toNat_of_lt (by omega), hj]
  have : (BitVec.ofNat 32 j.val).slt 0#32 = false := by
    simp only [BitVec.slt, decide_eq_false_iff_not, hji]
    show ¬((j.val : Int) < 0); omega
  rw [this]; decide

/-- A tile in use reads its own entry of a table. -/
theorem gather_live (A : S152.Idx → BitVec 32) (nu : S1.Idx → BitVec 32) (j : Fin 152) (h : (BitVec.ofNat 32 j.val).slt (nu (ix1 0)) = true) :
    Host.gather gather_S152_S152x1_S152_n_0_n_n_0_1_1 A (starts nu) (ix1 j) = A (ix1 j) := by
  have e := starts_live nu j h
  refine (gather_word A (starts nu) j).trans (congrArg (fun q => A (ix1 q)) (Fin.ext ?_))
  show min (starts nu (ix2 j 0)).toInt.toNat 151 = j.val
  rw [e]
  have hj : (BitVec.ofNat 32 j.val).toNat = j.val := by rw [BitVec.toNat_ofNat]; omega
  rw [BitVec.toInt_eq_toNat_of_lt (by omega), hj]; omega

/-! ## The blocks -/

variable (m : (ℓ : Loc nD τ sig) → Buf (Elt Ideal) ℓ)

/-- The number of tiles in use. -/
abbrev nu (c : Dev nD) : BitVec 32 := (show S1.Idx → BitVec 32 from m ((c : Thread nD τ).loc main_arg3)) (ix1 0)

variable (h : InRange m)

/-- The tables, with what makes them usable. -/
abbrev adm : (pcfg0 (F := Ideal)).Adm := ⟨tabs m, ok_tabs m h⟩

theorem idx1 (a : (pcfg0 (F := Ideal)).Adm) (t : Fin (cfg0 a).N) : (pcfg0.win a 1).index t = ![0, 0] := rfl
theorem idx2 (a : (pcfg0 (F := Ideal)).Adm) (t : Fin (cfg0 a).N) : (pcfg0.win a 2).index t = ![0, 0] := rfl
theorem idx9 (a : (pcfg0 (F := Ideal)).Adm) : ∀ t : Fin (cfg0 a).N, (pcfg0.win a 9).index t = ![t.val, 0] :=
  (by decide +kernel : ∀ t : Fin grid0.N, cc0_transform_9 (grid0.coords t) = ![t.val, 0])

theorem coord : ∀ t : Fin grid0.N, (grid0.coords t 0).val = t.val := by decide +kernel

/-- The word the index maps clamp with is the number of tiles in use. -/
theorem used_word (c : Dev nD) (y : S1.Idx) : (show S1.Idx → BitVec 32 from tabs m 2) y = nu m c := by
  obtain rfl : c = 0 := Subsingleton.elim _ _
  obtain ⟨j, rfl⟩ : ∃ j : Fin 1, y = ix1 j := ⟨y 0, (ix1_eta y).symm⟩
  obtain rfl : j = 0 := Subsingleton.elim _ _
  exact congrFun (V_arg3 m 0) (ix1 0)

theorem idx0 (c : Dev nD) (t : Fin (cfg0 (adm m h)).N) (hl : (BitVec.ofNat 32 t.val).slt (nu m c) = true) :
    (pcfg0.win (adm m h) 0).index t = ![t.val, 0] := by
  refine (congrArg (fun w : BitVec 32 => (![(IntOp.minsi (BitVec.ofNat 32 (grid0.coords t 0).val) (IntOp.maxsi (IntOp.subi w 1#32) 0#32)).toNat, 0] : Fin 2 → Nat)) (used_word m c _)).trans ?_
  have ht : (t.val : Nat) < 152 := t.isLt
  have : (BitVec.ofNat 32 t.val).toNat = t.val := by rw [BitVec.toNat_ofNat]; omega
  show ![(IntOp.minsi (BitVec.ofNat 32 (grid0.coords t 0).val) _).toNat, 0] = _
  rw [coord t, clamp_live t.val t.isLt _ hl, this]

theorem tile_block (c : Dev nD) (t : Fin (cfg0 (adm m h)).N) (hl : (BitVec.ofNat 32 t.val).slt (nu m c) = true) (r : Fin 2304) (l : Fin 128) :
    iblk m (adm m h) c 0 t (ix2 r l) = (show S350208x128.Idx → EReal from m ((c : Thread nD τ).loc main_arg0)) (ix2 (⟨t.val * 2304 + r.val, by have : t.val < 152 := t.isLt; omega⟩ : Fin 350208) l) := by
  have : iblk m (adm m h) c 0 t (ix2 r l) = V m c main_arg0 (ix2 (⟨t.val * 2304 + r.val, by have : t.val < 152 := t.isLt; omega⟩ : Fin 350208) l) := by
    blk_ext [iblk]
    · exact congrArg (· * 2304 + r.val) (congrFun (idx0 m h c t hl) 0)
    · exact (congrArg (· * 128 + l.val) (congrFun (idx0 m h c t hl) 1)).trans (by show 0 * 128 + l.val = l.val; omega)
  rw [this, V_arg0]

theorem norm_block (c : Dev nD) (t : Fin (cfg0 (adm m h)).N) (k : Fin 1024) :
    iblk m (adm m h) c 1 t (ix2 0 k) = (show S1024.Idx → EReal from m ((c : Thread nD τ).loc main_arg4)) (ix1 k) := by
  have : iblk m (adm m h) c 1 t (ix2 0 k) = V m c main_v0 (ix2 0 k) := by
    blk_ext [iblk]
    · exact congrArg (· + 0) (congrFun (idx1 (adm m h) t) 0)
    · exact (congrArg (· * 1024 + k.val) (congrFun (idx1 (adm m h) t) 1)).trans (by show 0 * 1024 + k.val = k.val; omega)
  rw [this]; unfold V; entry_read; pointwise

theorem last_norm_block (c : Dev nD) (t : Fin (cfg0 (adm m h)).N) (k : Fin 1024) :
    iblk m (adm m h) c 2 t (ix2 0 k) = (show S1024.Idx → EReal from m ((c : Thread nD τ).loc main_arg5)) (ix1 k) := by
  have : iblk m (adm m h) c 2 t (ix2 0 k) = V m c main_v1 (ix2 0 k) := by
    blk_ext [iblk]
    · exact congrArg (· + 0) (congrFun (idx2 (adm m h) t) 0)
    · exact (congrArg (· * 1024 + k.val) (congrFun (idx2 (adm m h) t) 1)).trans (by show 0 * 1024 + k.val = k.val; omega)
  rw [this]; unfold V; entry_read; pointwise

/-- The experts of a point. -/
abbrev lo (c : Dev nD) (t : Fin (cfg0 (adm m h)).N) : Fin 16 := ⟨(show BitVec 32 from (show S152.Idx → BitVec 32 from m ((c : Thread nD τ).loc main_arg1)) (ix1 (⟨t.val, t.isLt⟩ : Fin 152))).toNat, (h c _).1⟩
abbrev hi (c : Dev nD) (t : Fin (cfg0 (adm m h)).N) : Fin 16 := ⟨(show BitVec 32 from (show S152.Idx → BitVec 32 from m ((c : Thread nD τ).loc main_arg2)) (ix1 (⟨t.val, t.isLt⟩ : Fin 152))).toNat, (h c _).2⟩

theorem entry_at (t : Fin grid0.N) (y : S152.Idx) (hy : (y 0).val = k0_off1 (grid0.coords t) 0) : y = ix1 (⟨t.val, t.isLt⟩ : Fin 152) := by
  have e : k0_off1 (grid0.coords t) 0 = t.val := (congrFun (k0_off1_eq (grid0.coords t)) 0).trans (coord t)
  obtain ⟨j, rfl⟩ : ∃ j : Fin 152, y = ix1 j := ⟨y 0, (ix1_eta y).symm⟩
  exact congrArg (ix1 (n0 := 152)) (Fin.ext (hy.trans e))

theorem lo_word (c : Dev nD) (t : Fin grid0.N) (hl : (BitVec.ofNat 32 t.val).slt (nu m c) = true) (y : S152.Idx) (hy : (y 0).val = k0_off1 (grid0.coords t) 0) :
    (show S152.Idx → BitVec 32 from tabs m 0) y = (show S152.Idx → BitVec 32 from m ((c : Thread nD τ).loc main_arg1)) (ix1 (⟨t.val, t.isLt⟩ : Fin 152)) := by
  obtain rfl : c = 0 := Subsingleton.elim _ _
  rw [entry_at t y hy]; exact (congrFun (V_low m 0) _).trans (gather_live _ _ _ hl)

theorem hi_word (c : Dev nD) (t : Fin grid0.N) (hl : (BitVec.ofNat 32 t.val).slt (nu m c) = true) (y : S152.Idx) (hy : (y 0).val = k0_off1 (grid0.coords t) 0) :
    (show S152.Idx → BitVec 32 from tabs m 1) y = (show S152.Idx → BitVec 32 from m ((c : Thread nD τ).loc main_arg2)) (ix1 (⟨t.val, t.isLt⟩ : Fin 152)) := by
  obtain rfl : c = 0 := Subsingleton.elim _ _
  rw [entry_at t y hy]; exact (congrFun (V_high m 0) _).trans (gather_live _ _ _ hl)

theorem idx3 (c : Dev nD) (t : Fin (cfg0 (adm m h)).N) (hl : (BitVec.ofNat 32 t.val).slt (nu m c) = true) :
    (pcfg0.win (adm m h) 3).index t = ![0, (lo m h c t).val, 0, 0] :=
  congrArg (fun w : BitVec 32 => (![0, w.toNat, 0, 0] : Fin 4 → Nat)) (lo_word m c t hl _ rfl)

theorem gate_low_block (c : Dev nD) (t : Fin (cfg0 (adm m h)).N) (hl : (BitVec.ofNat 32 t.val).slt (nu m c) = true) (k : Fin 1024) (f : Fin 256) :
    iblk m (adm m h) c 3 t (ix4 0 0 k f) = (show S2x16x1024x256.Idx → EReal from m ((c : Thread nD τ).loc main_arg6)) (ix4 0 (lo m h c t) k f) := by
  have : iblk m (adm m h) c 3 t (ix4 0 0 k f) = V m c main_arg6 (ix4 0 (lo m h c t) k f) := by
    blk_ext [iblk]
    · exact congrArg (· + 0) (congrFun (idx3 m h c t hl) 0)
    · exact congrArg (· + 0) (congrFun (idx3 m h c t hl) 1)
    · exact (congrArg (· * 1024 + k.val) (congrFun (idx3 m h c t hl) 2)).trans (by show 0 * 1024 + k.val = k.val; omega)
    · exact (congrArg (· * 256 + f.val) (congrFun (idx3 m h c t hl) 3)).trans (by show 0 * 256 + f.val = f.val; omega)
  rw [this, V_arg6]

theorem idx4 (c : Dev nD) (t : Fin (cfg0 (adm m h)).N) (hl : (BitVec.ofNat 32 t.val).slt (nu m c) = true) :
    (pcfg0.win (adm m h) 4).index t = ![0, (hi m h c t).val, 0, 0] :=
  congrArg (fun w : BitVec 32 => (![0, w.toNat, 0, 0] : Fin 4 → Nat)) (hi_word m c t hl _ rfl)

theorem gate_high_block (c : Dev nD) (t : Fin (cfg0 (adm m h)).N) (hl : (BitVec.ofNat 32 t.val).slt (nu m c) = true) (k : Fin 1024) (f : Fin 256) :
    iblk m (adm m h) c 4 t (ix4 0 0 k f) = (show S2x16x1024x256.Idx → EReal from m ((c : Thread nD τ).loc main_arg6)) (ix4 0 (hi m h c t) k f) := by
  have : iblk m (adm m h) c 4 t (ix4 0 0 k f) = V m c main_arg6 (ix4 0 (hi m h c t) k f) := by
    blk_ext [iblk]
    · exact congrArg (· + 0) (congrFun (idx4 m h c t hl) 0)
    · exact congrArg (· + 0) (congrFun (idx4 m h c t hl) 1)
    · exact (congrArg (· * 1024 + k.val) (congrFun (idx4 m h c t hl) 2)).trans (by show 0 * 1024 + k.val = k.val; omega)
    · exact (congrArg (· * 256 + f.val) (congrFun (idx4 m h c t hl) 3)).trans (by show 0 * 256 + f.val = f.val; omega)
  rw [this, V_arg6]

theorem idx5 (c : Dev nD) (t : Fin (cfg0 (adm m h)).N) (hl : (BitVec.ofNat 32 t.val).slt (nu m c) = true) :
    (pcfg0.win (adm m h) 5).index t = ![0, (lo m h c t).val, 0, 0] :=
  congrArg (fun w : BitVec 32 => (![0, w.toNat, 0, 0] : Fin 4 → Nat)) (lo_word m c t hl _ rfl)

theorem up_low_block (c : Dev nD) (t : Fin (cfg0 (adm m h)).N) (hl : (BitVec.ofNat 32 t.val).slt (nu m c) = true) (k : Fin 1024) (f : Fin 256) :
    iblk m (adm m h) c 5 t (ix4 0 0 k f) = (show S2x16x1024x256.Idx → EReal from m ((c : Thread nD τ).loc main_arg7)) (ix4 0 (lo m h c t) k f) := by
  have : iblk m (adm m h) c 5 t (ix4 0 0 k f) = V m c main_arg7 (ix4 0 (lo m h c t) k f) := by
    blk_ext [iblk]
    · exact congrArg (· + 0) (congrFun (idx5 m h c t hl) 0)
    · exact congrArg (· + 0) (congrFun (idx5 m h c t hl) 1)
    · exact (congrArg (· * 1024 + k.val) (congrFun (idx5 m h c t hl) 2)).trans (by show 0 * 1024 + k.val = k.val; omega)
    · exact (congrArg (· * 256 + f.val) (congrFun (idx5 m h c t hl) 3)).trans (by show 0 * 256 + f.val = f.val; omega)
  rw [this, V_arg7]

theorem idx6 (c : Dev nD) (t : Fin (cfg0 (adm m h)).N) (hl : (BitVec.ofNat 32 t.val).slt (nu m c) = true) :
    (pcfg0.win (adm m h) 6).index t = ![0, (hi m h c t).val, 0, 0] :=
  congrArg (fun w : BitVec 32 => (![0, w.toNat, 0, 0] : Fin 4 → Nat)) (hi_word m c t hl _ rfl)

theorem up_high_block (c : Dev nD) (t : Fin (cfg0 (adm m h)).N) (hl : (BitVec.ofNat 32 t.val).slt (nu m c) = true) (k : Fin 1024) (f : Fin 256) :
    iblk m (adm m h) c 6 t (ix4 0 0 k f) = (show S2x16x1024x256.Idx → EReal from m ((c : Thread nD τ).loc main_arg7)) (ix4 0 (hi m h c t) k f) := by
  have : iblk m (adm m h) c 6 t (ix4 0 0 k f) = V m c main_arg7 (ix4 0 (hi m h c t) k f) := by
    blk_ext [iblk]
    · exact congrArg (· + 0) (congrFun (idx6 m h c t hl) 0)
    · exact congrArg (· + 0) (congrFun (idx6 m h c t hl) 1)
    · exact (congrArg (· * 1024 + k.val) (congrFun (idx6 m h c t hl) 2)).trans (by show 0 * 1024 + k.val = k.val; omega)
    · exact (congrArg (· * 256 + f.val) (congrFun (idx6 m h c t hl) 3)).trans (by show 0 * 256 + f.val = f.val; omega)
  rw [this, V_arg7]

theorem idx7 (c : Dev nD) (t : Fin (cfg0 (adm m h)).N) (hl : (BitVec.ofNat 32 t.val).slt (nu m c) = true) :
    (pcfg0.win (adm m h) 7).index t = ![0, (lo m h c t).val, 0, 0] :=
  congrArg (fun w : BitVec 32 => (![0, w.toNat, 0, 0] : Fin 4 → Nat)) (lo_word m c t hl _ rfl)

theorem down_low_block (c : Dev nD) (t : Fin (cfg0 (adm m h)).N) (hl : (BitVec.ofNat 32 t.val).slt (nu m c) = true) (k : Fin 256) (f : Fin 1024) :
    iblk m (adm m h) c 7 t (ix4 0 0 k f) = (show S2x16x256x1024.Idx → EReal from m ((c : Thread nD τ).loc main_arg8)) (ix4 0 (lo m h c t) k f) := by
  have : iblk m (adm m h) c 7 t (ix4 0 0 k f) = V m c main_arg8 (ix4 0 (lo m h c t) k f) := by
    blk_ext [iblk]
    · exact congrArg (· + 0) (congrFun (idx7 m h c t hl) 0)
    · exact congrArg (· + 0) (congrFun (idx7 m h c t hl) 1)
    · exact (congrArg (· * 256 + k.val) (congrFun (idx7 m h c t hl) 2)).trans (by show 0 * 256 + k.val = k.val; omega)
    · exact (congrArg (· * 1024 + f.val) (congrFun (idx7 m h c t hl) 3)).trans (by show 0 * 1024 + f.val = f.val; omega)
  rw [this, V_arg8]

theorem idx8 (c : Dev nD) (t : Fin (cfg0 (adm m h)).N) (hl : (BitVec.ofNat 32 t.val).slt (nu m c) = true) :
    (pcfg0.win (adm m h) 8).index t = ![0, (hi m h c t).val, 0, 0] :=
  congrArg (fun w : BitVec 32 => (![0, w.toNat, 0, 0] : Fin 4 → Nat)) (hi_word m c t hl _ rfl)

theorem down_high_block (c : Dev nD) (t : Fin (cfg0 (adm m h)).N) (hl : (BitVec.ofNat 32 t.val).slt (nu m c) = true) (k : Fin 256) (f : Fin 1024) :
    iblk m (adm m h) c 8 t (ix4 0 0 k f) = (show S2x16x256x1024.Idx → EReal from m ((c : Thread nD τ).loc main_arg8)) (ix4 0 (hi m h c t) k f) := by
  have : iblk m (adm m h) c 8 t (ix4 0 0 k f) = V m c main_arg8 (ix4 0 (hi m h c t) k f) := by
    blk_ext [iblk]
    · exact congrArg (· + 0) (congrFun (idx8 m h c t hl) 0)
    · exact congrArg (· + 0) (congrFun (idx8 m h c t hl) 1)
    · exact (congrArg (· * 256 + k.val) (congrFun (idx8 m h c t hl) 2)).trans (by show 0 * 256 + k.val = k.val; omega)
    · exact (congrArg (· * 1024 + f.val) (congrFun (idx8 m h c t hl) 3)).trans (by show 0 * 1024 + f.val = f.val; omega)
  rw [this, V_arg8]

end Cert.FfnIdeal.Moe

end
-- ==== Proof.FfnRouted.lean ====
module

public import proofs.«01_k».proof.Proof.FfnMath
public import proofs.«01_k».proof.Pre_routed
public import proofs.«01_k».proof.Pre_in_range
public import proofs.«01_k».proof.Proof.Gen.Pre_routed
public import proofs.«01_k».proof.Proof.Gen.Pre_in_range
public import Idealize.ShloMosaic.Lib.Claim
public import Idealize.ShloMosaic.Lib.ReduceAll
public import Idealize.ShloMosaic.Lib.Pipeline.ValueKit

@[expose] public section

set_option maxRecDepth 16384

noncomputable section

namespace Cert.Moe

open Cert.Pre_routed
open Idealize.ShloMosaic Idealize.ShloMosaic.TcCoe

/-! # What the precondition of the expert layer says of its arrays -/

theorem left_one (a b : BitVec 1) (h : IntOp.andi a b = 1#1) : a = 1#1 := by
  revert h; show a &&& b = 1#1 → _; revert a b; decide
theorem right_one (a b : BitVec 1) (h : IntOp.andi a b = 1#1) : b = 1#1 := by
  revert h; show a &&& b = 1#1 → _; revert a b; decide

/-- A number strictly between the infinities is real. -/
theorem isReal_of (x : EReal) (h : IntOp.andi (Ideal.cmp .ogt x (Ideal.ofBits FTy.f32 0xFF800000#32)) (Ideal.cmp .olt x (Ideal.ofBits FTy.f32 0x7F800000#32)) = 1#1) : IsReal x := by
  have e0 : Ideal.ofBits FTy.f32 0xFF800000#32 = ⊥ := by simp [Ideal.ofBits, Ideal.ieee]
  have e1 : Ideal.ofBits FTy.f32 0x7F800000#32 = ⊤ := by simp [Ideal.ofBits, Ideal.ieee]
  rw [e0, e1] at h
  have h0 := left_one _ _ h
  have h1 := right_one _ _ h
  constructor
  · rintro rfl; revert h0; simp [Ideal.cmp]
  · rintro rfl; revert h1; simp [Ideal.cmp]

theorem nonneg_of (x : EReal) (h : Ideal.cmp .oge x (Ideal.ofBits FTy.f32 0x00000000#32) = 1#1) : 0 ≤ x := by
  rw [Ideal.ofBits_zero .f32] at h
  by_contra hn
  revert h; simp [Ideal.cmp, hn]

/-- Real tokens, norm and gate weights, and routes that are not negative. -/
structure Routed (A : FVec Ideal S350208x128 .f32) (nw : FVec Ideal S1024 .f32) (wg : FVec Ideal S2x16x1024x256 .f32) : Prop where
  rows : ∀ i, IsReal (A i)
  norm : ∀ i, IsReal (nw i)
  gate : ∀ i, IsReal (wg i)
  first : ∀ r : Fin 38912, 0 ≤ A (ix2 (⟨r.val * 9 + 8, by omega⟩ : Fin 350208) (1 : Fin 128))
  second : ∀ r : Fin 38912, 0 ≤ A (ix2 (⟨r.val * 9 + 8, by omega⟩ : Fin 350208) (2 : Fin 128))

/-- The route's two weights of every slot. -/
def weights (A : FVec Ideal S350208x128 .f32) : FVec Ideal S38912x2 .f32 :=
  shapeCast S38912x2 (extractStridedSlice S38912x1x2 ![0, 8, 1] (shapeCast S38912x9x128 A Facts.shapeCasts_S350208x128_S38912x9x128) Facts.slices_S38912x9x128_S38912x1x2_0_8_1) Facts.shapeCasts_S38912x1x2_S38912x2

theorem weights_apply (A : FVec Ideal S350208x128 .f32) (r : Fin 38912) (e : Fin 2) :
    weights A (ix2 r e) = A (ix2 (⟨r.val * 9 + 8, by omega⟩ : Fin 350208) (⟨1 + e.val, by omega⟩ : Fin 128)) := by
  pointwise [weights]

theorem routed_of (A : FVec Ideal S350208x128 .f32) (ea eb : IVec S152 32) (nu : IVec S1 32) (nw fw : FVec Ideal S1024 .f32) (wg wu : FVec Ideal S2x16x1024x256 .f32) (wd : FVec Ideal S2x16x256x1024 .f32)
    (h : Cert.Pre_routed.fn (F := Ideal) A ea eb nu nw fw wg wu wd = fun _ => 1#1) :
    Cert.Pre_in_range.fn (F := Ideal) A ea eb nu nw fw wg wu wd = (fun _ => 1#1) ∧ Routed A nw wg := by
  have hh : ∀ j : S152.Idx, IntOp.andi (IntOp.andi (IntOp.andi (IntOp.andi (Cert.Pre_in_range.fn (F := Ideal) A ea eb nu nw fw wg wu wd j)
      (broadcastInDim S152 ![] Facts.bcast_S_S152 (Host.reduce IntOp.andi (andi (cmpf .ogt A (broadcastInDim S350208x128 ![] Facts.bcast_S_S350208x128 (constant S_ .f32 0xFF800000#32))) (cmpf .olt A (broadcastInDim S350208x128 ![] Facts.bcast_S_S350208x128 (constant S_ .f32 0x7F800000#32)))) (constantI S_ 1 1#1) Facts.reducesTo_S350208x128_S_d0_1 Facts.h_S_) j))
      (broadcastInDim S152 ![] Facts.bcast_S_S152 (Host.reduce IntOp.andi (andi (cmpf .ogt nw (broadcastInDim S1024 ![] Facts.bcast_S_S1024 (constant S_ .f32 0xFF800000#32))) (cmpf .olt nw (broadcastInDim S1024 ![] Facts.bcast_S_S1024 (constant S_ .f32 0x7F800000#32)))) (constantI S_ 1 1#1) Facts.reducesTo_S1024_S_d0 Facts.h_S_) j))
      (broadcastInDim S152 ![] Facts.bcast_S_S152 (Host.reduce IntOp.andi (andi (cmpf .ogt wg (broadcastInDim S2x16x1024x256 ![] Facts.bcast_S_S2x16x1024x256 (constant S_ .f32 0xFF800000#32))) (cmpf .olt wg (broadcastInDim S2x16x1024x256 ![] Facts.bcast_S_S2x16x1024x256 (constant S_ .f32 0x7F800000#32)))) (constantI S_ 1 1#1) Facts.reducesTo_S2x16x1024x256_S_d0_1_2_3 Facts.h_S_) j))
      (broadcastInDim S152 ![] Facts.bcast_S_S152 (Host.reduce IntOp.andi (cmpf .oge (weights A) (broadcastInDim S38912x2 ![] Facts.bcast_S_S38912x2 (constant S_ .f32 0x00000000#32))) (constantI S_ 1 1#1) Facts.reducesTo_S38912x2_S_d0_1 Facts.h_S_) j) = 1#1 := fun j => congrFun h j
  have h4 := hh (ix1 0)
  have h3 := left_one _ _ h4
  have h2 := left_one _ _ h3
  have h1 := left_one _ _ h2
  have w : ∀ r e, 0 ≤ weights A (ix2 r e) := fun r e => nonneg_of _ (Host.reduce_andi_all _ _ _ _ _ (right_one _ _ h4) (ix2 r e))
  refine ⟨funext fun j => left_one _ _ (left_one _ _ (left_one _ _ (left_one _ _ (hh j)))), fun i => ?_, fun i => ?_, fun i => ?_, fun r => ?_, fun r => ?_⟩
  · exact isReal_of _ (Host.reduce_andi_all _ _ _ _ _ (right_one _ _ h1) i)
  · exact isReal_of _ (Host.reduce_andi_all _ _ _ _ _ (right_one _ _ h2) i)
  · exact isReal_of _ (Host.reduce_andi_all _ _ _ _ _ (right_one _ _ h3) i)
  · exact (weights_apply A r 0) ▸ w r 0
  · exact (weights_apply A r 1) ▸ w r 1

end Cert.Moe

end
-- ==== Proof.FfnResult.lean ====
module

public import proofs.«01_k».proof.Proof.FfnValue
public import proofs.«01_k».proof.Proof.FfnRouted

@[expose] public section

set_option maxRecDepth 16384

noncomputable section

namespace Cert.FfnIdeal.Moe

open Cert.FfnIdeal Cert.FfnIdeal.Gen Cert.Moe
open Idealize.ShloMosaic Idealize.ShloMosaic.TcCoe Idealize.SL.Sem
open Idealize.ShloMosaic.Pipeline (Dat)

/-! # The array the expert layer leaves is the reference's -/

/-- The reference's mixed rows. -/
abbrev refMixed (A : FVec Ideal S350208x128 .f32) (ea eb : IVec S152 32) (nw : FVec Ideal S1024 .f32) (wg wu : FVec Ideal S2x16x1024x256 .f32) (wd : FVec Ideal S2x16x256x1024 .f32) : FVec Ideal FfnRefIdeal.S38912x1024 .f32 :=
  FfnRefIdeal.Val.mixed (FfnRefIdeal.Val.tokens A) (FfnRefIdeal.Val.combine A ea eb) (FfnRefIdeal.Val.down (FfnRefIdeal.Val.hidden (FfnRefIdeal.Val.against (FfnRefIdeal.Val.normed (FfnRefIdeal.Val.tokens A) nw) wg) (FfnRefIdeal.Val.against (FfnRefIdeal.Val.normed (FfnRefIdeal.Val.tokens A) nw) wu)) wd)

/-! ## One slot of a block against the same slot of the reference -/

section Slot

variable (A : FVec Ideal S350208x128 .f32) (nw fw : FVec Ideal S1024 .f32) (wg wu : FVec Ideal S2x16x1024x256 .f32) (wd : FVec Ideal S2x16x256x1024 .f32)
variable (x0 : Vec Ideal S2304x128 .f32) (x1 : Vec Ideal S1x1024 .f32) (i : Fin 256) (s : Fin 38912)
variable (hx : ∀ k, tok x0 i k = FfnRefIdeal.Val.tok A s k) (hn : ∀ k, x1 (ix2 0 k) = nw (ix1 k))

include hx hn in
theorem against_eq (W : FVec Ideal S2x16x1024x256 .f32) (xw : Vec Ideal S1x1x1024x256 .f32) (e : Fin 16) (hW : ∀ k f, xw (ix4 0 0 k f) = W (ix4 0 e k f)) (f : Fin 256) :
    against x0 x1 xw i f = FfnRefIdeal.Val.against (FfnRefIdeal.Val.normed (FfnRefIdeal.Val.tokens A) nw) W (ix3 s e f) := by
  rw [FfnRefIdeal.Val.against_apply]
  unfold against
  have e0 : tok x0 i = fun j => FfnRefIdeal.Val.tokens A (ix2 s j) := funext fun j => (hx j).trans (FfnRefIdeal.Val.tokens_apply A s j).symm
  refine Finset.sum_congr rfl fun k _ => ?_
  rw [FfnRefIdeal.Val.normed_apply, hW, hn, e0]

include hx hn in
theorem expert_eq (xg xu : Vec Ideal S1x1x1024x256 .f32) (xd : Vec Ideal S1x1x256x1024 .f32) (e : Fin 16) (w : EReal) (h0 : 0 ≤ w) (h1 : w ≠ ⊤)
    (hg : ∀ k f, xg (ix4 0 0 k f) = wg (ix4 0 e k f)) (hu : ∀ k f, xu (ix4 0 0 k f) = wu (ix4 0 e k f)) (hd : ∀ f k, xd (ix4 0 0 f k) = wd (ix4 0 e f k))
    (hG : ∀ f, FfnRefIdeal.Val.against (FfnRefIdeal.Val.normed (FfnRefIdeal.Val.tokens A) nw) wg (ix3 s e f) ≠ ⊥) (k : Fin 1024) :
    ∑ f, gated (against x0 x1 xg i f) (against x0 x1 xu i f) * w * xd (ix4 0 0 f k)
      = w * FfnRefIdeal.Val.down (FfnRefIdeal.Val.hidden (FfnRefIdeal.Val.against (FfnRefIdeal.Val.normed (FfnRefIdeal.Val.tokens A) nw) wg) (FfnRefIdeal.Val.against (FfnRefIdeal.Val.normed (FfnRefIdeal.Val.tokens A) nw) wu)) wd (ix3 s e k) := by
  rw [FfnRefIdeal.Val.down_apply, ← weight_out w h0 h1]
  refine Finset.sum_congr rfl fun f _ => ?_
  rw [hd, FfnRefIdeal.Val.hidden_apply, against_eq A nw x0 x1 i s hx hn wg xg e hg f, against_eq A nw x0 x1 i s hx hn wu xu e hu f]
  unfold gated
  rw [swish_half _ (hG f)]

/-- With real tokens, norm weights and gate weights, what the gate is fed is real. -/
theorem gate_real (hr : Routed A nw wg) (e : Fin 16) (f : Fin 256) :
    FfnRefIdeal.Val.against (FfnRefIdeal.Val.normed (FfnRefIdeal.Val.tokens A) nw) wg (ix3 s e f) ≠ ⊥ := by
  rw [FfnRefIdeal.Val.against_apply]
  refine (IsReal.sum _ _ fun k => ?_).1
  rw [FfnRefIdeal.Val.normed_apply]
  refine (rms_fin _ _ _ (fun j => ?_) (hr.norm _)).mul (hr.gate _)
  rw [FfnRefIdeal.Val.tokens_apply]; exact hr.rows _

include hx hn in
theorem slot_eq (hr : Routed A nw wg) (ea eb : IVec S152 32) (a b : BitVec 32) (ha : a.toNat < 16) (hb : b.toNat < 16)
    (hea : ea (ix1 (FfnRefIdeal.Val.tileOf s)) = a) (heb : eb (ix1 (FfnRefIdeal.Val.tileOf s)) = b)
    (x2 : Vec Ideal S1x1024 .f32) (x3 x4 x5 x6 : Vec Ideal S1x1x1024x256 .f32) (x7 x8 : Vec Ideal S1x1x256x1024 .f32)
    (hw1 : x0 (ix2 (pieceRow i 8) 1) = A (ix2 (FfnRefIdeal.Val.rowOf s 8) 1)) (hw2 : x0 (ix2 (pieceRow i 8) 2) = A (ix2 (FfnRefIdeal.Val.rowOf s 8) 2))
    (h3 : ∀ k f, x3 (ix4 0 0 k f) = wg (ix4 0 ⟨a.toNat, ha⟩ k f)) (h4 : ∀ k f, x4 (ix4 0 0 k f) = wg (ix4 0 ⟨b.toNat, hb⟩ k f))
    (h5 : ∀ k f, x5 (ix4 0 0 k f) = wu (ix4 0 ⟨a.toNat, ha⟩ k f)) (h6 : ∀ k f, x6 (ix4 0 0 k f) = wu (ix4 0 ⟨b.toNat, hb⟩ k f))
    (h7 : ∀ f k, x7 (ix4 0 0 f k) = wd (ix4 0 ⟨a.toNat, ha⟩ f k)) (h8 : ∀ f k, x8 (ix4 0 0 f k) = wd (ix4 0 ⟨b.toNat, hb⟩ f k)) (k : Fin 1024) :
    mixed (F := Ideal) x0 x1 x2 x3 x4 x5 x6 x7 x8 (ix2 i k) = refMixed A ea eb nw wg wu wd (ix2 s k) := by
  rw [mixed_apply, hw1, hw2,
    expert_eq A nw wg wu wd x0 x1 i s hx hn x3 x5 x7 ⟨a.toNat, ha⟩ (A (ix2 (FfnRefIdeal.Val.rowOf s 8) 1)) (hr.first s) (hr.rows _).2 h3 h5 h7 (gate_real A nw wg s hr _),
    expert_eq A nw wg wu wd x0 x1 i s hx hn x4 x6 x8 ⟨b.toNat, hb⟩ (A (ix2 (FfnRefIdeal.Val.rowOf s 8) 2)) (hr.second s) (hr.rows _).2 h4 h6 h8 (gate_real A nw wg s hr _)]
  unfold refMixed
  rw [FfnRefIdeal.Val.mixed_apply, FfnRefIdeal.Val.tokens_apply, hx]
  generalize FfnRefIdeal.Val.down _ _ = D
  refine congrArg _ (((Finset.sum_congr rfl fun e _ => ?_).trans (pick_two a b ha hb (A (ix2 (FfnRefIdeal.Val.rowOf s 8) 1)) (A (ix2 (FfnRefIdeal.Val.rowOf s 8) 2)) (hr.first s) (hr.second s) (fun e => D (ix3 s e k)))).symm)
  rw [FfnRefIdeal.Val.combine_apply, hea, heb]

end Slot

/-! ## The whole array -/

variable (m : (ℓ : Loc nD τ sig) → Buf (Elt Ideal) ℓ) (h : InRange m)

theorem cond1_iff (t : Fin grid0.N) (w : BitVec 32) : k0_cond1 (grid0.coords t) w = 1#1 ↔ (BitVec.ofNat 32 t.val).slt w = true := by
  have e : ∀ b : Bool, Scalar.cmpi .ne (Scalar.extui (BitVec.ofBool b) : BitVec 32) 0#32 = 1#1 ↔ b = true := by decide
  show Scalar.cmpi .ne (Scalar.extui (BitVec.ofBool ((BitVec.ofNat 32 (grid0.coords t 0).val).slt w)) : BitVec 32) 0#32 = 1#1 ↔ _
  rw [e, coord]

theorem used_eq (c : Dev nD) : used (adm m h) = nu m c := used_word m c _

/-- Every block is written back: no two points share one. -/
theorem flush9 (a : (pcfg0 (F := Ideal)).Adm) (t : Fin (cfg0 a).N) : (pcfg0.win a 9).flush t = true := by
  refine (Pipeline.Window.flush_out _ rfl _).2 ?_
  have ht : t.val < 152 := t.isLt
  by_cases e : t.val + 1 = 152
  · exact Or.inl e
  · refine Or.inr ⟨(show t.val + 1 < 152 by omega), fun q => ?_⟩
    rw [idx9, idx9] at q
    have := congrFun q 0
    have : t.val + 1 = t.val := this
    omega

/-- The blocks written cover the array, whatever the tables. -/
theorem covers (a : (pcfg0 (F := Ideal)).Adm) : (pcfg0.win a 9).Covers := by
  refine ⟨(by decide : ∀ a : Fin 2, 0 < (![2304, 128] : Fin 2 → Nat) a), fun β => ?_⟩
  have hβ : (β 0).val < 152 := by have q := (β 0).isLt; change (β 0).val < (350208 + 2304 - 1) / 2304 at q; omega
  have hβ1 : (β 1).val < 1 := by have q := (β 1).isLt; change (β 1).val < (128 + 128 - 1) / 128 at q; omega
  refine ⟨⟨(β 0).val, hβ⟩, flush9 a _, fun b => ?_⟩
  rw [idx9]
  refine ⟨?_, Or.inl rfl⟩
  revert b
  exact Fin.forall_fin_two.2 ⟨rfl, by show 0 = (β 1).val; omega⟩

/-- The slot of the whole array that slot `i` of tile `t` is. -/
abbrev slotAt (t : Fin (cfg0 (adm m h)).N) (i : Fin 256) : Fin 38912 := ⟨t.val * 256 + i.val, by have : t.val < 152 := t.isLt; omega⟩

theorem row_eq (c : Dev nD) (t : Fin (cfg0 (adm m h)).N) (hl : (BitVec.ofNat 32 t.val).slt (nu m c) = true) (i : Fin 256) (p : Fin 9) (l : Fin 128) :
    iblk m (adm m h) c 0 t (ix2 (pieceRow i p) l) = (show S350208x128.Idx → EReal from m ((c : Thread nD τ).loc main_arg0)) (ix2 (FfnRefIdeal.Val.rowOf (slotAt m h t i) p) l) := by
  rw [tile_block m h c t hl]
  exact congrArg (fun q => (show S350208x128.Idx → EReal from m ((c : Thread nD τ).loc main_arg0)) (ix2 q l)) (Fin.ext (by show t.val * 2304 + (9 * i.val + p.val) = (t.val * 256 + i.val) * 9 + p.val; omega))

theorem mixed_eq (c : Dev nD) (hr : Routed (m ((c : Thread nD τ).loc main_arg0)) (m ((c : Thread nD τ).loc main_arg4)) (m ((c : Thread nD τ).loc main_arg6)))
    (t : Fin (cfg0 (adm m h)).N) (hl : (BitVec.ofNat 32 t.val).slt (nu m c) = true) (i : Fin 256) (k : Fin 1024) :
    mixed (F := Ideal) (iblk m (adm m h) c 0 t) (iblk m (adm m h) c 1 t) (iblk m (adm m h) c 2 t) (iblk m (adm m h) c 3 t) (iblk m (adm m h) c 4 t) (iblk m (adm m h) c 5 t) (iblk m (adm m h) c 6 t) (iblk m (adm m h) c 7 t) (iblk m (adm m h) c 8 t) (ix2 i k)
      = refMixed (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (ix2 (slotAt m h t i) k) := by
  have ht : FfnRefIdeal.Val.tileOf (slotAt m h t i) = (⟨t.val, t.isLt⟩ : Fin 152) := Fin.ext (by show (t.val * 256 + i.val) / 256 = t.val; omega)
  have hx : ∀ k, tok (iblk m (adm m h) c 0 t) i k = FfnRefIdeal.Val.tok (m ((c : Thread nD τ).loc main_arg0)) (slotAt m h t i) k := fun k => row_eq m h c t hl i _ _
  exact slot_eq (m ((c : Thread nD τ).loc main_arg0)) (m ((c : Thread nD τ).loc main_arg4)) (m ((c : Thread nD τ).loc main_arg6)) (m ((c : Thread nD τ).loc main_arg7)) (m ((c : Thread nD τ).loc main_arg8)) _ _ i (slotAt m h t i) hx (norm_block m h c t) hr
    (m ((c : Thread nD τ).loc main_arg1)) (m ((c : Thread nD τ).loc main_arg2)) _ _ (h c _).1 (h c _).2 (by rw [ht]) (by rw [ht]) _ _ _ _ _ _ _
    (row_eq m h c t hl i 8 1) (row_eq m h c t hl i 8 2) (gate_low_block m h c t hl) (gate_high_block m h c t hl) (up_low_block m h c t hl) (up_high_block m h c t hl) (down_low_block m h c t hl) (down_high_block m h c t hl) k

theorem final (c : Dev nD) (hr : Routed (m ((c : Thread nD τ).loc main_arg0)) (m ((c : Thread nD τ).loc main_arg4)) (m ((c : Thread nD τ).loc main_arg6))) :
    (dats m (adm m h) 0 c).arrAt 9 (cfg0 (adm m h)).N = FfnRefIdeal.Val.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m (adm m h) 0 c).arrAt_eq_of_covers 9 _ (covers (adm m h)) fun t _ y => ?_
  blk_simp
  rw [after_9]
  obtain ⟨r, l, hy⟩ : ∃ (r : Fin 2304) (l : Fin 128), (show S2304x128.Idx from y) = ix2 r l := ⟨(show S2304x128.Idx from y) 0, (show S2304x128.Idx from y) 1, (ix2_eta _).symm⟩
  obtain rfl : y = ix2 r l := hy
  have ht : t.val < 152 := t.isLt
  have e : ((cfg0 (adm m h)).win 9 |>.blk t).view.emb (ix2 r l) = (ix2 (⟨t.val * 2304 + r.val, by omega⟩ : Fin 350208) l : S350208x128.Idx) := by
    blk_ext
    · exact congrArg (· * 2304 + r.val) (congrFun (idx9 (adm m h) t) 0)
    · exact (congrArg (· * 128 + l.val) (congrFun (idx9 (adm m h) t) 1)).trans (by show 0 * 128 + l.val = l.val; omega)
  refine Eq.trans ?_ (congrArg _ e.symm)
  refine Eq.trans ?_ (FfnRefIdeal.Val.placed_apply _ _ _ _ _).symm
  have hd : (t.val * 2304 + r.val) / 9 / 256 = t.val := by omega
  show outAt m (adm m h) c t (ix2 r l) = if (BitVec.ofNat 32 ((t.val * 2304 + r.val) / 9 / 256)).slt (nu m c) then _ else _
  unfold outAt
  rw [used_eq m h c, hd]
  by_cases hl : (BitVec.ofNat 32 t.val).slt (nu m c) = true
  · rw [if_pos ((cond1_iff t _).2 hl), if_pos hl]
    unfold outLive
    by_cases h8 : r.val % 9 = 8
    · rw [dif_neg (by show ¬(t.val * 2304 + r.val) % 9 < 8; omega)]
      refine (if_pos h8).trans ((cut8_apply _ _ _).trans ((row_eq m h c t hl _ 8 l).trans ?_))
      exact congrArg (fun q => (show S350208x128.Idx → EReal from m ((c : Thread nD τ).loc main_arg0)) (ix2 q l)) (Fin.ext (by show (t.val * 256 + r.val / 9) * 9 + 8 = t.val * 2304 + r.val; omega))
    · rw [dif_pos (by show (t.val * 2304 + r.val) % 9 < 8; omega)]
      refine (if_neg h8).trans ((mixed_eq m h c hr t hl _ _).trans ?_)
      exact congrArg₂ (fun a b => (refMixed (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8))) (ix2 a b)) (Fin.ext (by show t.val * 256 + r.val / 9 = (t.val * 2304 + r.val) / 9; omega)) (Fin.ext (by show r.val % 9 % 8 * 128 + l.val = (t.val * 2304 + r.val) % 9 * 128 + l.val; omega))
  · rw [if_neg (fun hc => hl ((cond1_iff t _).1 hc)), if_neg hl]
    pointwise [k0_pay10]

include h in
/-- The call ends with the reference's array as its result and the arguments as they were. -/
theorem run_value (ρ : Dev nD → PrngReg) (hr : ∀ c : Dev nD, Routed (m ((c : Thread nD τ).loc main_arg0)) (m ((c : Thread nD τ).loc main_arg4)) (m ((c : Thread nD τ).loc main_arg6))) :
    θ_run defs (onTc (τ := τ) (main (F := Ideal))) ⟨m, fun _ => 0, ρ⟩ (fun r => ∀ c : Dev nD,
      r.2.mem ((c : Thread nD τ).loc main_v22) = FfnRefIdeal.Val.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r q c => ⟨((q.1 c).1 9).trans (final m h c (hr c)),
      ((q.1 c).1 0).trans (((dats m (adm m h) 0 c).arrAt_in 0 rfl _).trans (V_arg0 m c)),
      ((q.1 c).2 main_arg1 (Pipeline.mem_restRefs_of (win := spec0) main_arg1 (by decide) (by decide))).trans (V_arg1 m c),
      ((q.1 c).2 main_arg2 (Pipeline.mem_restRefs_of (win := spec0) main_arg2 (by decide) (by decide))).trans (V_arg2 m c),
      ((q.1 c).2 main_arg3 (Pipeline.mem_restRefs_of (win := spec0) main_arg3 (by decide) (by decide))).trans (V_arg3 m c),
      ((q.1 c).2 main_arg4 (Pipeline.mem_restRefs_of (win := spec0) main_arg4 (by decide) (by decide))).trans (V_arg4 m c),
      ((q.1 c).2 main_arg5 (Pipeline.mem_restRefs_of (win := spec0) main_arg5 (by decide) (by decide))).trans (V_arg5 m c),
      ((q.1 c).1 3).trans (((dats m (adm m h) 0 c).arrAt_in 3 rfl _).trans (V_arg6 m c)),
      ((q.1 c).1 5).trans (((dats m (adm m h) 0 c).arrAt_in 5 rfl _).trans (V_arg7 m c)),
      ((q.1 c).1 7).trans (((dats m (adm m h) 0 c).arrAt_in 7 rfl _).trans (V_arg8 m c))⟩) (run_main m ρ (adm m h) (tabs_eq m))

end Cert.FfnIdeal.Moe

end
-- ==== Proof.LastBody.lean ====
module

public import proofs.«01_k».proof.Proof.Gen.LastIdeal.Launch
public import proofs.«01_k».proof.Proof.Gen.LastIdeal.Skeleton
public import Idealize.ShloMosaic.Lib.Pipeline.FrameBody
public import Idealize.ShloMosaic.Lib.Pipeline.TableIdle
public import Idealize.ShloMosaic.Lib.Writes
public import Idealize.ShloMosaic.Lib.Exec
public import Idealize.ShloMosaic.Lib.Tactic
public import Idealize.ShloMosaic.Lib.Claim

@[expose] public section

set_option maxRecDepth 16384

noncomputable section

namespace Cert.LastIdeal.Moe

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three prefetched tables as the body holds them: the low experts, the high experts, the number of tiles in use. -/
abbrev tM0 : Memref sig .tc .smem S152 .i32 := Memref.whole main_v14
abbrev tM1 : Memref sig .tc .smem S152 .i32 := Memref.whole main_v21
abbrev tM2 : Memref sig .tc .smem S1 .i32 := Memref.whole main_arg3

/-- The number of tiles in use, as the body loads it from its table. -/
abbrev word (T2 : S1.Idx → Elt F .i32) : BitVec 32 :=
  View.readAt (Elt F) tM2.view (Rect.unit (s := S1) ![0] S1.size inb_S1_S1_0).toLoadRect T2 (Shape.Idx.first (numel1_S1.symm ▸ Nat.one_pos))

set_option backward.proofsInPublic true in
set_option maxHeartbeats 8000000 in
/-- The body at a tile in use: the nine pieces its stores leave in the output block, with the proof that the body, called
    on whole buffers and holding the tables, ends with the inputs and tables as they were and those pieces written. -/
noncomputable def runLive (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : k0_cond1 i (View.readAt (Elt F) tM2.view (Rect.unit (s := S1) ![0] S1.size inb_S1_S1_0).toLoadRect T2 (Shape.Idx.first (numel1_S1.symm ▸ Nat.one_pos))) = 1#1) (h2 : ¬k0_cond2 i (View.readAt (Elt F) tM2.view (Rect.unit (s := S1) ![0] S1.size inb_S1_S1_0).toLoadRect T2 (Shape.Idx.first (numel1_S1.symm ▸ Nat.one_pos))) = 1#1) :
    { L : List (View.Piece (Elt F) S2304x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tM0.view.loc (c : Thread nD τ) ↦{fullShare.right} T0)
          ∗ (tM1.view.loc (c : Thread nD τ) ↦{fullShare.right} T1)
          ∗ (tM2.view.loc (c : Thread nD τ) ↦{fullShare.right} T2)
          ∗ (∃ d, owns (c : Thread nD τ) arg13 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (tM0.view.loc (c : Thread nD τ) ↦{fullShare.right} T0)
              ∗ (tM1.view.loc (c : Thread nD τ) ↦{fullShare.right} T1)
              ∗ (tM2.view.loc (c : Thread nD τ) ↦{fullShare.right} T2)
              ∗ (∃ f, arg13.view.loc (c : Thread nD τ) ↦[arg13.view.set]{fullShare} arg13.view.writes (Elt F) f L)) -∗ K ⟨⟩))
          ⊢ wp frame (wpE (defs₀ (F := F)) Variants.none c none) Set.univ (cc0_moe_ffn_sorted i tM0 (Memref.isWhole_whole _) tM1 (Memref.isWhole_whole _) tM2 (Memref.isWhole_whole _) arg4 harg4 arg5 harg5 arg6 harg6 arg7 harg7 arg8 harg8 arg9 harg9 arg10 harg10 arg11 harg11 arg12 harg12 arg13 harg13) K } :=
  ⟨_, fun K => by
    unfold owns
    rw [cc0_moe_ffn_sorted_eq_skeleton]; unfold cc0_moe_ffn_sorted_skel
    iintro ⟨H0, H1, H2, H3, H4, H5, H6, H7, H8, HT0, HT1, HT2, ⟨%d9, %f9, -, HO9⟩, Hk⟩
    have hT0 : tM0.IsWhole := Memref.isWhole_whole _
    have hT1 : tM1.IsWhole := Memref.isWhole_whole _
    have hT2 : tM2.IsWhole := Memref.isWhole_whole _
    rw [k0_part1_eq_skeleton, k0_part2_eq_skeleton, k0_part3_eq_skeleton]; unfold k0_part1_skel k0_part2_skel k0_part3_skel
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HT2]; · iexact HT2
    iexists _; iexact HO9⟩

set_option backward.proofsInPublic true in
set_option maxHeartbeats 8000000 in
/-- The body at a tile not in use: it fills the output block with zeros, the inputs and tables as they were. -/
noncomputable def runDead (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : ¬k0_cond1 i (View.readAt (Elt F) tM2.view (Rect.unit (s := S1) ![0] S1.size inb_S1_S1_0).toLoadRect T2 (Shape.Idx.first (numel1_S1.symm ▸ Nat.one_pos))) = 1#1) (h2 : k0_cond2 i (View.readAt (Elt F) tM2.view (Rect.unit (s := S1) ![0] S1.size inb_S1_S1_0).toLoadRect T2 (Shape.Idx.first (numel1_S1.symm ▸ Nat.one_pos))) = 1#1) :
    { L : List (View.Piece (Elt F) S2304x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (arg12.view.loc (c : Thread nD τ) ↦[arg12.view.set]{fullShare} arg12.view.rep x8)
          ∗ (tM0.view.loc (c : Thread nD τ) ↦{fullShare.right} T0)
          ∗ (tM1.view.loc (c : Thread nD τ) ↦{fullShare.right} T1)
          ∗ (tM2.view.loc (c : Thread nD τ) ↦{fullShare.right} T2)
          ∗ (∃ d, owns (c : Thread nD τ) arg13 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (arg12.view.loc (c : Thread nD τ) ↦[arg12.view.set]{fullShare} arg12.view.rep x8)
              ∗ (tM0.view.loc (c : Thread nD τ) ↦{fullShare.right} T0)
              ∗ (tM1.view.loc (c : Thread nD τ) ↦{fullShare.right} T1)
              ∗ (tM2.view.loc (c : Thread nD τ) ↦{fullShare.right} T2)
              ∗ (∃ f, arg13.view.loc (c : Thread nD τ) ↦[arg13.view.set]{fullShare} arg13.view.writes (Elt F) f L)) -∗ K ⟨⟩))
          ⊢ wp frame (wpE (defs₀ (F := F)) Variants.none c none) Set.univ (cc0_moe_ffn_sorted i tM0 (Memref.isWhole_whole _) tM1 (Memref.isWhole_whole _) tM2 (Memref.isWhole_whole _) arg4 harg4 arg5 harg5 arg6 harg6 arg7 harg7 arg8 harg8 arg9 harg9 arg10 harg10 arg11 harg11 arg12 harg12 arg13 harg13) K } :=
  ⟨_, fun K => by
    unfold owns
    rw [cc0_moe_ffn_sorted_eq_skeleton]; unfold cc0_moe_ffn_sorted_skel
    iintro ⟨H0, H1, H2, H3, H4, H5, H6, H7, H8, HT0, HT1, HT2, ⟨%d9, %f9, -, HO9⟩, Hk⟩
    have hT0 : tM0.IsWhole := Memref.isWhole_whole _
    have hT1 : tM1.IsWhole := Memref.isWhole_whole _
    have hT2 : tM2.IsWhole := Memref.isWhole_whole _
    skip
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HT2]; · iexact HT2
    iexists _; iexact HO9⟩

end Cert.LastIdeal.Moe

end
-- ==== Proof.LastFrame.lean ====
module

public import proofs.«01_k».proof.Proof.LastBody
public import proofs.«01_k».proof.Proof.FfnFrame
public import Idealize.ShloMosaic.Lib.Claim
public import Idealize.ShloMosaic.Lib.Pipeline.ValueKit
public import Idealize.ShloMosaic.Lib.Pipeline.TableIdle

@[expose] public section

set_option maxRecDepth 16384

noncomputable section

namespace Cert.LastIdeal.Moe

open Cert.LastIdeal Cert.LastIdeal.Gen
open Cert.FfnIdeal.Moe (cut0 cut1 cut2 cut3 cut4 cut5 cut6 cut7 cut8 tokens low high readAt_strided emb_strided piece_tokens mem_strided)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one tile leaves

The tile is laid out as in the first layer, and the tokens, the norm and both experts are that layer's; a second norm comes last. -/

/-- The tokens a tile in use ends with: those of the layer before, normed once more. -/
def mixed (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : FVec F S256x1024 .f32 :=
  k0_pay10 (tokens x0) (low x0 x1 x2 x3 x4 x5 x6 x7 x8) (high x0 x1 x2 x3 x4 x5 x6 x7 x8) x8 x2

/-- The block a tile in use ends with: the new tokens in the slots' first eight rows, the routes untouched in the ninth. -/
def outLive (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : Vec F S2304x128 .f32 := fun y =>
  if (y 0).val % 9 = 8 then cut8 x0 (ix2 (⟨(y 0).val / 9, by have : (y 0).val < 2304 := (y 0).isLt; omega⟩ : Fin 256) (y 1))
  else mixed x0 x1 x2 x3 x4 x5 x6 x7 x8 (ix2 (⟨(y 0).val / 9, by have : (y 0).val < 2304 := (y 0).isLt; omega⟩ : Fin 256)
    (⟨(y 0).val % 9 % 8 * 128 + (y 1).val, by have : (y 1).val < 128 := (y 1).isLt; omega⟩ : Fin 1024))

/-- The pieces a tile in use is written in. -/
def pieces (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) : List (View.Piece (Elt F) S2304x128 .f32) :=
  [⟨⟨⟨![8, 0], S256x128.size, ![9, 1], inb_S2304x128_S256x128_8_0_s_9_1⟩, spos_9_1⟩, cut8 x0⟩,
      ⟨⟨⟨![7, 0], S256x128.size, ![9, 1], inb_S2304x128_S256x128_7_0_s_9_1⟩, spos_9_1⟩, k0_pay1 (mixed x0 x1 x2 x3 x4 x5 x6 x7 x8)⟩,
      ⟨⟨⟨![6, 0], S256x128.size, ![9, 1], inb_S2304x128_S256x128_6_0_s_9_1⟩, spos_9_1⟩, k0_pay17 (tokens x0) (low x0 x1 x2 x3 x4 x5 x6 x7 x8) (high x0 x1 x2 x3 x4 x5 x6 x7 x8) x8 x2⟩,
      ⟨⟨⟨![5, 0], S256x128.size, ![9, 1], inb_S2304x128_S256x128_5_0_s_9_1⟩, spos_9_1⟩, k0_pay16 (tokens x0) (low x0 x1 x2 x3 x4 x5 x6 x7 x8) (high x0 x1 x2 x3 x4 x5 x6 x7 x8) x8 x2⟩,
      ⟨⟨⟨![4, 0], S256x128.size, ![9, 1], inb_S2304x128_S256x128_4_0_s_9_1⟩, spos_9_1⟩, k0_pay15 (tokens x0) (low x0 x1 x2 x3 x4 x5 x6 x7 x8) (high x0 x1 x2 x3 x4 x5 x6 x7 x8) x8 x2⟩,
      ⟨⟨⟨![3, 0], S256x128.size, ![9, 1], inb_S2304x128_S256x128_3_0_s_9_1⟩, spos_9_1⟩, k0_pay14 (tokens x0) (low x0 x1 x2 x3 x4 x5 x6 x7 x8) (high x0 x1 x2 x3 x4 x5 x6 x7 x8) x8 x2⟩,
      ⟨⟨⟨![2, 0], S256x128.size, ![9, 1], inb_S2304x128_S256x128_2_0_s_9_1⟩, spos_9_1⟩, k0_pay13 (tokens x0) (low x0 x1 x2 x3 x4 x5 x6 x7 x8) (high x0 x1 x2 x3 x4 x5 x6 x7 x8) x8 x2⟩,
      ⟨⟨⟨![1, 0], S256x128.size, ![9, 1], inb_S2304x128_S256x128_1_0_s_9_1⟩, spos_9_1⟩, k0_pay12 (tokens x0) (low x0 x1 x2 x3 x4 x5 x6 x7 x8) (high x0 x1 x2 x3 x4 x5 x6 x7 x8) x8 x2⟩,
      ⟨⟨⟨![0, 0], S256x128.size, ![9, 1], inb_S2304x128_S256x128_0_0_s_9_1⟩, spos_9_1⟩, k0_pay11 (tokens x0) (low x0 x1 x2 x3 x4 x5 x6 x7 x8) (high x0 x1 x2 x3 x4 x5 x6 x7 x8) x8 x2⟩]

set_option maxHeartbeats 4000000 in
theorem live_pieces (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : k0_cond1 i (View.readAt (Elt F) tM2.view (Rect.unit (s := S1) ![0] S1.size inb_S1_S1_0).toLoadRect T2 (Shape.Idx.first (numel1_S1.symm ▸ Nat.one_pos))) = 1#1) (h2 : ¬k0_cond2 i (View.readAt (Elt F) tM2.view (Rect.unit (s := S1) ![0] S1.size inb_S1_S1_0).toLoadRect T2 (Shape.Idx.first (numel1_S1.symm ▸ Nat.one_pos))) = 1#1) :
    (runLive c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1 = pieces x0 x1 x2 x3 x4 x5 x6 x7 x8 := by
  unfold runLive; dsimp only
  simp only [fun (v : View sig .tc .vmem S2304x128 .f32) X p inb => readAt_strided (F := F) v X p inb spos_9_1, View.readAt_eq_ld, View.read_rep, View.ld_unit_zero (S := S1x1024) (off := ![0, 0]) (by decide), View.ld_unit_zero (S := S1x1x1024x256) (off := ![0, 0, 0, 0]) (by decide), View.ld_unit_zero (S := S1x1x256x1024) (off := ![0, 0, 0, 0]) (by decide)]
  rfl

theorem pieces_agree (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) :
    ∀ p ∈ pieces x0 x1 x2 x3 x4 x5 x6 x7 x8, ∀ x : p.1.shape.Idx, p.2 x = outLive x0 x1 x2 x3 x4 x5 x6 x7 x8 (p.1.emb x) := by
  unfold pieces
  simp only [List.forall_mem_cons, List.not_mem_nil, false_implies, implies_true, and_true]
  refine ⟨fun x => ?_, fun x => ?_, fun x => ?_, fun x => ?_, fun x => ?_, fun x => ?_, fun x => ?_, fun x => ?_, fun x => ?_⟩
  · rw [emb_strided 8 (by decide)]; unfold outLive
    refine Eq.trans ?_ (if_pos (show (9 * (x 0).val + 8) % 9 = 8 by omega)).symm
    refine congrArg (cut8 x0) (funext fun b => Fin.ext ?_)
    fin_cases b
    · show (x 0).val = (9 * (x 0).val + 8) / 9; omega
    · rfl
  · rw [emb_strided 7 (by decide)]; unfold outLive
    refine Eq.trans ?_ (if_neg (show ¬(9 * (x 0).val + 7) % 9 = 8 by omega)).symm
    refine (piece_tokens 7 896 (by decide) rfl _ slices_S256x1024_o0_896_S256x128 x).trans (congrArg (mixed x0 x1 x2 x3 x4 x5 x6 x7 x8) (funext fun b => Fin.ext ?_))
    fin_cases b
    · show (x 0).val = (9 * (x 0).val + 7) / 9; omega
    · show 7 * 128 + (x 1).val = (9 * (x 0).val + 7) % 9 % 8 * 128 + (x 1).val; omega
  · rw [emb_strided 6 (by decide)]; unfold outLive
    refine Eq.trans ?_ (if_neg (show ¬(9 * (x 0).val + 6) % 9 = 8 by omega)).symm
    refine (piece_tokens 6 768 (by decide) rfl _ slices_S256x1024_o0_768_S256x128 x).trans (congrArg (mixed x0 x1 x2 x3 x4 x5 x6 x7 x8) (funext fun b => Fin.ext ?_))
    fin_cases b
    · show (x 0).val = (9 * (x 0).val + 6) / 9; omega
    · show 6 * 128 + (x 1).val = (9 * (x 0).val + 6) % 9 % 8 * 128 + (x 1).val; omega
  · rw [emb_strided 5 (by decide)]; unfold outLive
    refine Eq.trans ?_ (if_neg (show ¬(9 * (x 0).val + 5) % 9 = 8 by omega)).symm
    refine (piece_tokens 5 640 (by decide) rfl _ slices_S256x1024_o0_640_S256x128 x).trans (congrArg (mixed x0 x1 x2 x3 x4 x5 x6 x7 x8) (funext fun b => Fin.ext ?_))
    fin_cases b
    · show (x 0).val = (9 * (x 0).val + 5) / 9; omega
    · show 5 * 128 + (x 1).val = (9 * (x 0).val + 5) % 9 % 8 * 128 + (x 1).val; omega
  · rw [emb_strided 4 (by decide)]; unfold outLive
    refine Eq.trans ?_ (if_neg (show ¬(9 * (x 0).val + 4) % 9 = 8 by omega)).symm
    refine (piece_tokens 4 512 (by decide) rfl _ slices_S256x1024_o0_512_S256x128 x).trans (congrArg (mixed x0 x1 x2 x3 x4 x5 x6 x7 x8) (funext fun b => Fin.ext ?_))
    fin_cases b
    · show (x 0).val = (9 * (x 0).val + 4) / 9; omega
    · show 4 * 128 + (x 1).val = (9 * (x 0).val + 4) % 9 % 8 * 128 + (x 1).val; omega
  · rw [emb_strided 3 (by decide)]; unfold outLive
    refine Eq.trans ?_ (if_neg (show ¬(9 * (x 0).val + 3) % 9 = 8 by omega)).symm
    refine (piece_tokens 3 384 (by decide) rfl _ slices_S256x1024_o0_384_S256x128 x).trans (congrArg (mixed x0 x1 x2 x3 x4 x5 x6 x7 x8) (funext fun b => Fin.ext ?_))
    fin_cases b
    · show (x 0).val = (9 * (x 0).val + 3) / 9; omega
    · show 3 * 128 + (x 1).val = (9 * (x 0).val + 3) % 9 % 8 * 128 + (x 1).val; omega
  · rw [emb_strided 2 (by decide)]; unfold outLive
    refine Eq.trans ?_ (if_neg (show ¬(9 * (x 0).val + 2) % 9 = 8 by omega)).symm
    refine (piece_tokens 2 256 (by decide) rfl _ slices_S256x1024_o0_256_S256x128 x).trans (congrArg (mixed x0 x1 x2 x3 x4 x5 x6 x7 x8) (funext fun b => Fin.ext ?_))
    fin_cases b
    · show (x 0).val = (9 * (x 0).val + 2) / 9; omega
    · show 2 * 128 + (x 1).val = (9 * (x 0).val + 2) % 9 % 8 * 128 + (x 1).val; omega
  · rw [emb_strided 1 (by decide)]; unfold outLive
    refine Eq.trans ?_ (if_neg (show ¬(9 * (x 0).val + 1) % 9 = 8 by omega)).symm
    refine (piece_tokens 1 128 (by decide) rfl _ slices_S256x1024_o0_128_S256x128 x).trans (congrArg (mixed x0 x1 x2 x3 x4 x5 x6 x7 x8) (funext fun b => Fin.ext ?_))
    fin_cases b
    · show (x 0).val = (9 * (x 0).val + 1) / 9; omega
    · show 1 * 128 + (x 1).val = (9 * (x 0).val + 1) % 9 % 8 * 128 + (x 1).val; omega
  · rw [emb_strided 0 (by decide)]; unfold outLive
    refine Eq.trans ?_ (if_neg (show ¬(9 * (x 0).val + 0) % 9 = 8 by omega)).symm
    refine (piece_tokens 0 0 (by decide) rfl _ slices_S256x1024_o0_0_S256x128 x).trans (congrArg (mixed x0 x1 x2 x3 x4 x5 x6 x7 x8) (funext fun b => Fin.ext ?_))
    fin_cases b
    · show (x 0).val = (9 * (x 0).val + 0) / 9; omega
    · show 0 * 128 + (x 1).val = (9 * (x 0).val + 0) % 9 % 8 * 128 + (x 1).val; omega

theorem pieces_cover (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32) (y : S2304x128.Idx) : ∃ p ∈ pieces x0 x1 x2 x3 x4 x5 x6 x7 x8, y ∈ p.1.set := by
  have h9 : (y 0).val % 9 < 9 := Nat.mod_lt _ (by decide)
  unfold pieces
  simp only [List.exists_mem_cons_iff]
  by_cases h8 : (y 0).val % 9 = 8; · exact .inl (mem_strided 8 (by decide) _ spos_9_1 y h8)
  refine .inr ?_
  by_cases h7 : (y 0).val % 9 = 7; · exact .inl (mem_strided 7 (by decide) _ spos_9_1 y h7)
  refine .inr ?_
  by_cases h6 : (y 0).val % 9 = 6; · exact .inl (mem_strided 6 (by decide) _ spos_9_1 y h6)
  refine .inr ?_
  by_cases h5 : (y 0).val % 9 = 5; · exact .inl (mem_strided 5 (by decide) _ spos_9_1 y h5)
  refine .inr ?_
  by_cases h4 : (y 0).val % 9 = 4; · exact .inl (mem_strided 4 (by decide) _ spos_9_1 y h4)
  refine .inr ?_
  by_cases h3 : (y 0).val % 9 = 3; · exact .inl (mem_strided 3 (by decide) _ spos_9_1 y h3)
  refine .inr ?_
  by_cases h2 : (y 0).val % 9 = 2; · exact .inl (mem_strided 2 (by decide) _ spos_9_1 y h2)
  refine .inr ?_
  by_cases h1 : (y 0).val % 9 = 1; · exact .inl (mem_strided 1 (by decide) _ spos_9_1 y h1)
  refine .inr ?_
  exact .inl (mem_strided 0 (by decide) _ spos_9_1 y (by omega))

/-- What a tile in use ends with, read back. -/
theorem live_read (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : k0_cond1 i (View.readAt (Elt F) tM2.view (Rect.unit (s := S1) ![0] S1.size inb_S1_S1_0).toLoadRect T2 (Shape.Idx.first (numel1_S1.symm ▸ Nat.one_pos))) = 1#1) (h2 : ¬k0_cond2 i (View.readAt (Elt F) tM2.view (Rect.unit (s := S1) ![0] S1.size inb_S1_S1_0).toLoadRect T2 (Shape.Idx.first (numel1_S1.symm ▸ Nat.one_pos))) = 1#1) (f) :
    arg13.view.read (Elt F) (arg13.view.writes (Elt F) f (runLive c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1) = outLive x0 x1 x2 x3 x4 x5 x6 x7 x8 := by
  rw [live_pieces]; funext y
  exact View.read_writes_apply_of_pieces _ _ _ _ (pieces_agree x0 x1 x2 x3 x4 x5 x6 x7 x8) y (pieces_cover x0 x1 x2 x3 x4 x5 x6 x7 x8 y)

/-- What a tile past the ones in use ends with: zeros. -/
theorem dead_read (c : Dev nD) (i : grid0.Coords)
    (arg4 : Memref sig .tc .vmem S2304x128 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1x1024x256 .f32) (harg7 : arg7.IsWhole)
    (arg8 : Memref sig .tc .vmem S1x1x1024x256 .f32) (harg8 : arg8.IsWhole)
    (arg9 : Memref sig .tc .vmem S1x1x1024x256 .f32) (harg9 : arg9.IsWhole)
    (arg10 : Memref sig .tc .vmem S1x1x1024x256 .f32) (harg10 : arg10.IsWhole)
    (arg11 : Memref sig .tc .vmem S1x1x256x1024 .f32) (harg11 : arg11.IsWhole)
    (arg12 : Memref sig .tc .vmem S1x1x256x1024 .f32) (harg12 : arg12.IsWhole)
    (arg13 : Memref sig .tc .vmem S2304x128 .f32) (harg13 : arg13.IsWhole)
    (T0 T1 : S152.Idx → Elt F .i32) (T2 : S1.Idx → Elt F .i32)
    (x0 : Vec F S2304x128 .f32) (x1 : Vec F S1x1024 .f32) (x2 : Vec F S1x1024 .f32) (x3 : Vec F S1x1x1024x256 .f32) (x4 : Vec F S1x1x1024x256 .f32) (x5 : Vec F S1x1x1024x256 .f32) (x6 : Vec F S1x1x1024x256 .f32) (x7 : Vec F S1x1x256x1024 .f32) (x8 : Vec F S1x1x256x1024 .f32)
    (h1 : ¬k0_cond1 i (View.readAt (Elt F) tM2.view (Rect.unit (s := S1) ![0] S1.size inb_S1_S1_0).toLoadRect T2 (Shape.Idx.first (numel1_S1.symm ▸ Nat.one_pos))) = 1#1) (h2 : k0_cond2 i (View.readAt (Elt F) tM2.view (Rect.unit (s := S1) ![0] S1.size inb_S1_S1_0).toLoadRect T2 (Shape.Idx.first (numel1_S1.symm ▸ Nat.one_pos))) = 1#1) (f) :
    arg13.view.read (Elt F) (arg13.view.writes (Elt F) f (runDead c i arg4 harg4 arg5 harg5 arg6 harg6 arg7 harg7 arg8 harg8 arg9 harg9 arg10 harg10 arg11 harg11 arg12 harg12 arg13 harg13 T0 T1 T2 x0 x1 x2 x3 x4 x5 x6 x7 x8 h1 h2).1) = k0_pay2 := by
  funext y
  refine View.read_writes_apply_of_pieces (Val := Elt F) (e := .f32) arg13.view f (k0_pay2 (F := F)) _ ?_ y ?_
  · intro p hp x
    obtain rfl := List.mem_singleton.mp (show p ∈ [(⟨Rect.unit (s := S2304x128) ![0, 0] S2304x128.size inb_S2304x128_S2304x128_0_0, k0_pay2 (F := F)⟩ : View.Piece (Elt F) S2304x128 .f32)] from hp)
    rfl
  · exact View.cover_of_tiled _ S2304x128.size (by sl_kernel_rfl) y

theorem cond2_iff (i : grid0.Coords) (w : BitVec 32) : k0_cond2 i w = 1#1 ↔ ¬k0_cond1 i w = 1#1 := by
  unfold k0_cond1 k0_cond2
  generalize BitVec.ofNat 32 (i 0).val = j
  show (BitVec.ofBool (BitVec.zeroExtend 32 (BitVec.ofBool (w.sle j)) != 0#32) = 1#1)
    ↔ ¬(BitVec.ofBool (BitVec.zeroExtend 32 (BitVec.ofBool (j.slt w)) != 0#32) = 1#1)
  have : w.sle j = !(j.slt w) := by
    simp only [BitVec.sle, BitVec.slt, ← decide_not, not_lt]
  rw [this]; cases j.slt w <;> decide

/-! ## The proof data -/

variable (m : (ℓ : Loc nD τ sig) → Buf (Elt F) ℓ) (ρ : Dev nD → PrngReg)

/-- What each buffer holds when the call is reached. -/
def V (c : Dev nD) (b : Ref sig .tc) : Buf (Elt F) ((c.tc : Thread nD τ).loc b) := StableHlo.after hostOps0 (fun b => m (c, b)) b

theorem V_arg0 (c : Dev nD) : V m c main_arg0 = m ((c : Thread nD τ).loc main_arg0) := by unfold V; entry_read; rfl
theorem V_arg1 (c : Dev nD) : V m c main_arg1 = m ((c : Thread nD τ).loc main_arg1) := by unfold V; entry_read; rfl
theorem V_arg2 (c : Dev nD) : V m c main_arg2 = m ((c : Thread nD τ).loc main_arg2) := by unfold V; entry_read; rfl
theorem V_arg3 (c : Dev nD) : V m c main_arg3 = m ((c : Thread nD τ).loc main_arg3) := by unfold V; entry_read; rfl
theorem V_arg4 (c : Dev nD) : V m c main_arg4 = m ((c : Thread nD τ).loc main_arg4) := by unfold V; entry_read; rfl
theorem V_arg5 (c : Dev nD) : V m c main_arg5 = m ((c : Thread nD τ).loc main_arg5) := by unfold V; entry_read; rfl
theorem V_arg6 (c : Dev nD) : V m c main_arg6 = m ((c : Thread nD τ).loc main_arg6) := by unfold V; entry_read; rfl
theorem V_arg7 (c : Dev nD) : V m c main_arg7 = m ((c : Thread nD τ).loc main_arg7) := by unfold V; entry_read; rfl
theorem V_arg8 (c : Dev nD) : V m c main_arg8 = m ((c : Thread nD τ).loc main_arg8) := by unfold V; entry_read; rfl

variable (a : (pcfg0 (F := F)).Adm)

abbrev st0 (t : Fin (cfg0 a).N) : Memref sig .tc .vmem S2304x128 .f32 := spec0_0.stage ((cfg0 a).slots t 0)
abbrev hst0 (t : Fin (cfg0 a).N) : (st0 a t).IsWhole := hstage0_0 (((cfg0 a).slots t 0).cast nbuf0_0)
abbrev st1 (t : Fin (cfg0 a).N) : Memref sig .tc .vmem S1x1024 .f32 := spec0_1.stage ((cfg0 a).slots t 1)
abbrev hst1 (t : Fin (cfg0 a).N) : (st1 a t).IsWhole := hstage0_1 (((cfg0 a).slots t 1).cast nbuf0_1)
abbrev st2 (t : Fin (cfg0 a).N) : Memref sig .tc .vmem S1x1024 .f32 := spec0_2.stage ((cfg0 a).slots t 2)
abbrev hst2 (t : Fin (cfg0 a).N) : (st2 a t).IsWhole := hstage0_2 (((cfg0 a).slots t 2).cast nbuf0_2)
abbrev st3 (t : Fin (cfg0 a).N) : Memref sig .tc .vmem S1x1x1024x256 .f32 := spec0_3.stage ((cfg0 a).slots t 3)
abbrev hst3 (t : Fin (cfg0 a).N) : (st3 a t).IsWhole := hstage0_3 (((cfg0 a).slots t 3).cast nbuf0_3)
abbrev st4 (t : Fin (cfg0 a).N) : Memref sig .tc .vmem S1x1x1024x256 .f32 := spec0_4.stage ((cfg0 a).slots t 4)
abbrev hst4 (t : Fin (cfg0 a).N) : (st4 a t).IsWhole := hstage0_4 (((cfg0 a).slots t 4).cast nbuf0_4)
abbrev st5 (t : Fin (cfg0 a).N) : Memref sig .tc .vmem S1x1x1024x256 .f32 := spec0_5.stage ((cfg0 a).slots t 5)
abbrev hst5 (t : Fin (cfg0 a).N) : (st5 a t).IsWhole := hstage0_5 (((cfg0 a).slots t 5).cast nbuf0_5)
abbrev st6 (t : Fin (cfg0 a).N) : Memref sig .tc .vmem S1x1x1024x256 .f32 := spec0_6.stage ((cfg0 a).slots t 6)
abbrev hst6 (t : Fin (cfg0 a).N) : (st6 a t).IsWhole := hstage0_6 (((cfg0 a).slots t 6).cast nbuf0_6)
abbrev st7 (t : Fin (cfg0 a).N) : Memref sig .tc .vmem S1x1x256x1024 .f32 := spec0_7.stage ((cfg0 a).slots t 7)
abbrev hst7 (t : Fin (cfg0 a).N) : (st7 a t).IsWhole := hstage0_7 (((cfg0 a).slots t 7).cast nbuf0_7)
abbrev st8 (t : Fin (cfg0 a).N) : Memref sig .tc .vmem S1x1x256x1024 .f32 := spec0_8.stage ((cfg0 a).slots t 8)
abbrev hst8 (t : Fin (cfg0 a).N) : (st8 a t).IsWhole := hstage0_8 (((cfg0 a).slots t 8).cast nbuf0_8)
abbrev st9 (t : Fin (cfg0 a).N) : Memref sig .tc .vmem S2304x128 .f32 := spec0_9.stage ((cfg0 a).slots t 9)
abbrev hst9 (t : Fin (cfg0 a).N) : (st9 a t).IsWhole := hstage0_9 (((cfg0 a).slots t 9).cast nbuf0_9)

/-- Window `w`'s block at point `t`. -/
def iblk (c : Dev nD) (w : Fin (cfg0 a).W) (t : Fin (cfg0 a).N) : (((cfg0 a).win w).xblock (grid0.coords t)).Idx → Elt F ((cfg0 a).win w).elt :=
  (((cfg0 a).win w).blk t).view.read (Elt F) (V m c (Pipeline.arrRef spec0 w))

/-- The number of tiles in use, as the body reads it. -/
abbrev used : BitVec 32 := word (a.1 2)

/-- What point `t` leaves in its output block. -/
def outAt (c : Dev nD) (t : Fin (cfg0 a).N) : Vec F S2304x128 .f32 :=
  if k0_cond1 (grid0.coords t) (used a) = 1#1 then outLive (iblk m a c 0 t) (iblk m a c 1 t) (iblk m a c 2 t) (iblk m a c 3 t) (iblk m a c 4 t) (iblk m a c 5 t) (iblk m a c 6 t) (iblk m a c 7 t) (iblk m a c 8 t) else k0_pay2

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => iblk m a c 7 t
    | ⟨8, _⟩ => iblk m a c 8 t
    | ⟨9, _⟩ => outAt m a c t
  Φ t := iprop(Pipeline.ΦA spec0 c ∗ Pipeline.ΦT pre0 a.1 c)
  q w := Pipeline.shareOf spec0 w
  owed _ := 0

theorem after_0 (c : Dev nD) (t : Fin (cfg0 a).N) : (dats m a 0 c).after ((0 : Fin 10) : Fin (cfg0 a).W) t = iblk m a c 0 t := rfl
theorem before_0 (c : Dev nD) (t : Fin (cfg0 a).N) (d) : (dats m a 0 c).before ((0 : Fin 10) : Fin (cfg0 a).W) t d = iblk m a c 0 t :=
  ((dats m a 0 c).before_in_eq_fetched (0 : Fin 10) rfl (fun _ => rfl) (fun _ _ _ => rfl)
    (fun t => by rw [after_0]; unfold Dat.blockOf iblk; rfl) t d).trans (by unfold Dat.fetched Dat.blockOf iblk; rfl)
theorem after_1 (c : Dev nD) (t : Fin (cfg0 a).N) : (dats m a 0 c).after ((1 : Fin 10) : Fin (cfg0 a).W) t = iblk m a c 1 t := rfl
theorem before_1 (c : Dev nD) (t : Fin (cfg0 a).N) (d) : (dats m a 0 c).before ((1 : Fin 10) : Fin (cfg0 a).W) t d = iblk m a c 1 t :=
  ((dats m a 0 c).before_in_eq_fetched (1 : Fin 10) rfl (fun _ => rfl) (fun _ _ _ => rfl)
    (fun t => by rw [after_1]; unfold Dat.blockOf iblk; rfl) t d).trans (by unfold Dat.fetched Dat.blockOf iblk; rfl)
theorem after_2 (c : Dev nD) (t : Fin (cfg0 a).N) : (dats m a 0 c).after ((2 : Fin 10) : Fin (cfg0 a).W) t = iblk m a c 2 t := rfl
theorem before_2 (c : Dev nD) (t : Fin (cfg0 a).N) (d) : (dats m a 0 c).before ((2 : Fin 10) : Fin (cfg0 a).W) t d = iblk m a c 2 t :=
  ((dats m a 0 c).before_in_eq_fetched (2 : Fin 10) rfl (fun _ => rfl) (fun _ _ _ => rfl)
    (fun t => by rw [after_2]; unfold Dat.blockOf iblk; rfl) t d).trans (by unfold Dat.fetched Dat.blockOf iblk; rfl)
theorem after_3 (c : Dev nD) (t : Fin (cfg0 a).N) : (dats m a 0 c).after ((3 : Fin 10) : Fin (cfg0 a).W) t = iblk m a c 3 t := rfl
theorem before_3 (c : Dev nD) (t : Fin (cfg0 a).N) (d) : (dats m a 0 c).before ((3 : Fin 10) : Fin (cfg0 a).W) t d = iblk m a c 3 t :=
  ((dats m a 0 c).before_in_eq_fetched (3 : Fin 10) rfl (fun _ => rfl) (fun _ _ _ => rfl)
    (fun t => by rw [after_3]; unfold Dat.blockOf iblk; rfl) t d).trans (by unfold Dat.fetched Dat.blockOf iblk; rfl)
theorem after_4 (c : Dev nD) (t : Fin (cfg0 a).N) : (dats m a 0 c).after ((4 : Fin 10) : Fin (cfg0 a).W) t = iblk m a c 4 t := rfl
theorem before_4 (c : Dev nD) (t : Fin (cfg0 a).N) (d) : (dats m a 0 c).before ((4 : Fin 10) : Fin (cfg0 a).W) t d = iblk m a c 4 t :=
  ((dats m a 0 c).before_in_eq_fetched (4 : Fin 10) rfl (fun _ => rfl) (fun _ _ _ => rfl)
    (fun t => by rw [after_4]; unfold Dat.blockOf iblk; rfl) t d).trans (by unfold Dat.fetched Dat.blockOf iblk; rfl)
theorem after_5 (c : Dev nD) (t : Fin (cfg0 a).N) : (dats m a 0 c).after ((5 : Fin 10) : Fin (cfg0 a).W) t = iblk m a c 5 t := rfl
theorem before_5 (c : Dev nD) (t : Fin (cfg0 a).N) (d) : (dats m a 0 c).before ((5 : Fin 10) : Fin (cfg0 a).W) t d = iblk m a c 5 t :=
  ((dats m a 0 c).before_in_eq_fetched (5 : Fin 10) rfl (fun _ => rfl) (fun _ _ _ => rfl)
    (fun t => by rw [after_5]; unfold Dat.blockOf iblk; rfl) t d).trans (by unfold Dat.fetched Dat.blockOf iblk; rfl)
theorem after_6 (c : Dev nD) (t : Fin (cfg0 a).N) : (dats m a 0 c).after ((6 : Fin 10) : Fin (cfg0 a).W) t = iblk m a c 6 t := rfl
theorem before_6 (c : Dev nD) (t : Fin (cfg0 a).N) (d) : (dats m a 0 c).before ((6 : Fin 10) : Fin (cfg0 a).W) t d = iblk m a c 6 t :=
  ((dats m a 0 c).before_in_eq_fetched (6 : Fin 10) rfl (fun _ => rfl) (fun _ _ _ => rfl)
    (fun t => by rw [after_6]; unfold Dat.blockOf iblk; rfl) t d).trans (by unfold Dat.fetched Dat.blockOf iblk; rfl)
theorem after_7 (c : Dev nD) (t : Fin (cfg0 a).N) : (dats m a 0 c).after ((7 : Fin 10) : Fin (cfg0 a).W) t = iblk m a c 7 t := rfl
theorem before_7 (c : Dev nD) (t : Fin (cfg0 a).N) (d) : (dats m a 0 c).before ((7 : Fin 10) : Fin (cfg0 a).W) t d = iblk m a c 7 t :=
  ((dats m a 0 c).before_in_eq_fetched (7 : Fin 10) rfl (fun _ => rfl) (fun _ _ _ => rfl)
    (fun t => by rw [after_7]; unfold Dat.blockOf iblk; rfl) t d).trans (by unfold Dat.fetched Dat.blockOf iblk; rfl)
theorem after_8 (c : Dev nD) (t : Fin (cfg0 a).N) : (dats m a 0 c).after ((8 : Fin 10) : Fin (cfg0 a).W) t = iblk m a c 8 t := rfl
theorem before_8 (c : Dev nD) (t : Fin (cfg0 a).N) (d) : (dats m a 0 c).before ((8 : Fin 10) : Fin (cfg0 a).W) t d = iblk m a c 8 t :=
  ((dats m a 0 c).before_in_eq_fetched (8 : Fin 10) rfl (fun _ => rfl) (fun _ _ _ => rfl)
    (fun t => by rw [after_8]; unfold Dat.blockOf iblk; rfl) t d).trans (by unfold Dat.fetched Dat.blockOf iblk; rfl)
theorem after_9 (c : Dev nD) (t : Fin (cfg0 a).N) : (dats m a 0 c).after ((9 : Fin 10) : Fin (cfg0 a).W) t = outAt m a c t := rfl

theorem idle_eq (w : Fin 10) (t : Fin (cfg0 a).N) : (cfg0 a).idle w ((cfg0 a).grid.coords t) = false := by
  fin_cases w <;> try rfl
  show (!(k0_cond1 (grid0.coords t) (a.1.atD 2 ![0]) == 1#1) && !(k0_cond2 (grid0.coords t) (a.1.atD 2 ![0]) == 1#1)) = false
  by_cases h : k0_cond1 (grid0.coords t) (a.1.atD 2 ![0]) = 1#1
  · rw [h]; rfl
  · rw [(cond2_iff _ _).mpr h]; simp

/-- The tables as the region hands them over, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v14) ↦{q 0} v 0) ∗ (((c : Thread nD τ).loc main_v21) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body at a point -/

abbrev bodyAt (t : Fin (cfg0 a).N) : Prog (TpuEff nD τ sig (Elt F) Λ₀ .tc) PUnit :=
  cc0_moe_ffn_sorted (grid0.coords t) tM0 (Memref.isWhole_whole _) tM1 (Memref.isWhole_whole _) tM2 (Memref.isWhole_whole _) (st0 a t) (hst0 a t) (st1 a t) (hst1 a t) (st2 a t) (hst2 a t) (st3 a t) (hst3 a t) (st4 a t) (hst4 a t) (st5 a t) (hst5 a t) (st6 a t) (hst6 a t) (st7 a t) (hst7 a t) (st8 a t) (hst8 a t) (st9 a t) (hst9 a t)

def bodyPre (c : Dev nD) (t : Fin (cfg0 a).N) : sProp 𝕄 :=
  iprop((dats m a 0 c).Φ t.castSucc ∗ (dats m a 0 c).owesAt () t.castSucc
    ∗ (∃ d, owns (c : Thread nD τ) (st0 a t) fullShare ((dats m a 0 c).before ((0 : Fin 10) : Fin (cfg0 a).W) t d))
    ∗ (∃ d, owns (c : Thread nD τ) (st1 a t) fullShare ((dats m a 0 c).before ((1 : Fin 10) : Fin (cfg0 a).W) t d))
    ∗ (∃ d, owns (c : Thread nD τ) (st2 a t) fullShare ((dats m a 0 c).before ((2 : Fin 10) : Fin (cfg0 a).W) t d))
    ∗ (∃ d, owns (c : Thread nD τ) (st3 a t) fullShare ((dats m a 0 c).before ((3 : Fin 10) : Fin (cfg0 a).W) t d))
    ∗ (∃ d, owns (c : Thread nD τ) (st4 a t) fullShare ((dats m a 0 c).before ((4 : Fin 10) : Fin (cfg0 a).W) t d))
    ∗ (∃ d, owns (c : Thread nD τ) (st5 a t) fullShare ((dats m a 0 c).before ((5 : Fin 10) : Fin (cfg0 a).W) t d))
    ∗ (∃ d, owns (c : Thread nD τ) (st6 a t) fullShare ((dats m a 0 c).before ((6 : Fin 10) : Fin (cfg0 a).W) t d))
    ∗ (∃ d, owns (c : Thread nD τ) (st7 a t) fullShare ((dats m a 0 c).before ((7 : Fin 10) : Fin (cfg0 a).W) t d))
    ∗ (∃ d, owns (c : Thread nD τ) (st8 a t) fullShare ((dats m a 0 c).before ((8 : Fin 10) : Fin (cfg0 a).W) t d))
    ∗ (∃ d, owns (c : Thread nD τ) (st9 a t) fullShare ((dats m a 0 c).before ((9 : Fin 10) : Fin (cfg0 a).W) t d)))

def bodyPost (c : Dev nD) (t : Fin (cfg0 a).N) : sProp 𝕄 :=
  iprop((dats m a 0 c).Φ t.succ ∗ (dats m a 0 c).owesAt () t.succ
    ∗ owns (c : Thread nD τ) (st0 a t) fullShare ((dats m a 0 c).after ((0 : Fin 10) : Fin (cfg0 a).W) t)
    ∗ owns (c : Thread nD τ) (st1 a t) fullShare ((dats m a 0 c).after ((1 : Fin 10) : Fin (cfg0 a).W) t)
    ∗ owns (c : Thread nD τ) (st2 a t) fullShare ((dats m a 0 c).after ((2 : Fin 10) : Fin (cfg0 a).W) t)
    ∗ owns (c : Thread nD τ) (st3 a t) fullShare ((dats m a 0 c).after ((3 : Fin 10) : Fin (cfg0 a).W) t)
    ∗ owns (c : Thread nD τ) (st4 a t) fullShare ((dats m a 0 c).after ((4 : Fin 10) : Fin (cfg0 a).W) t)
    ∗ owns (c : Thread nD τ) (st5 a t) fullShare ((dats m a 0 c).after ((5 : Fin 10) : Fin (cfg0 a).W) t)
    ∗ owns (c : Thread nD τ) (st6 a t) fullShare ((dats m a 0 c).after ((6 : Fin 10) : Fin (cfg0 a).W) t)
    ∗ owns (c : Thread nD τ) (st7 a t) fullShare ((dats m a 0 c).after ((7 : Fin 10) : Fin (cfg0 a).W) t)
    ∗ owns (c : Thread nD τ) (st8 a t) fullShare ((dats m a 0 c).after ((8 : Fin 10) : Fin (cfg0 a).W) t)
    ∗ owns (c : Thread nD τ) (st9 a t) fullShare ((dats m a 0 c).after ((9 : Fin 10) : Fin (cfg0 a).W) t))

set_option maxHeartbeats 6400000 in
theorem sound_body (c : Dev nD) (t : Fin (cfg0 a).N) :
    bodyPre m a c t ⊢ wp Idealize.ShloMosaic.frame (wpE (defs₀ (F := F)) Variants.none c none) Set.univ (bodyAt a t) (fun _ => bodyPost m a c t) := by
  unfold bodyPre bodyPost bodyAt
  simp only [before_0, before_1, before_2, before_3, before_4, before_5, before_6, before_7, before_8]
  rw [show (dats m a 0 c).owesAt () t.succ = (dats m a 0 c).owesAt () t.castSucc from rfl,
    after_0, after_1, after_2, after_3, after_4, after_5, after_6, after_7, after_8, after_9]
  rw [show (dats m a 0 c).Φ t.succ = iprop(Pipeline.ΦA spec0 c ∗ Pipeline.ΦT pre0 a.1 c) from rfl,
    show (dats m a 0 c).Φ t.castSucc = iprop(Pipeline.ΦA spec0 c ∗ Pipeline.ΦT pre0 a.1 c) from rfl, Pipeline.ΦT, prefHeld_eq]
  by_cases h : k0_cond1 (grid0.coords t) (used a) = 1#1
  · have h2 : ¬k0_cond2 (grid0.coords t) (used a) = 1#1 := fun h2 => (cond2_iff _ _).mp h2 h
    unfold outAt; rw [if_pos h]
    iintro ⟨⟨Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLive c (grid0.coords t) _ (hst0 a t) _ (hst1 a t) _ (hst2 a t) _ (hst3 a t) _ (hst4 a t) _ (hst5 a t) _ (hst6 a t) _ (hst7 a t) _ (hst8 a t) _ (hst9 a t) (a.1 0) (a.1 1) (a.1 2) (iblk m a c 0 t) (iblk m a c 1 t) (iblk m a c 2 t) (iblk m a c 3 t) (iblk m a c 4 t) (iblk m a c 5 t) (iblk m a c 6 t) (iblk m a c 7 t) (iblk m a c 8 t) h h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, ⟨%e9, H9⟩⟩
    isplitl [Hg HT0 HT1 HT2]
    · isplitl [Hg]
      · iexact Hg
      isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr
    swap; · iexact H9
    ipureintro; exact live_read ..
  · have h2 : k0_cond2 (grid0.coords t) (used a) = 1#1 := (cond2_iff _ _).mpr h
    unfold outAt; rw [if_neg h]
    iintro ⟨⟨Hg, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runDead c (grid0.coords t) _ (hst0 a t) _ (hst1 a t) _ (hst2 a t) _ (hst3 a t) _ (hst4 a t) _ (hst5 a t) _ (hst6 a t) _ (hst7 a t) _ (hst8 a t) _ (hst9 a t) (a.1 0) (a.1 1) (a.1 2) (iblk m a c 0 t) (iblk m a c 1 t) (iblk m a c 2 t) (iblk m a c 3 t) (iblk m a c 4 t) (iblk m a c 5 t) (iblk m a c 6 t) (iblk m a c 7 t) (iblk m a c 8 t) h h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [HT2]; · iexact HT2
    isplitl [H9]; · iexists _; iexact H9
    iintro ⟨H0, H1, H2, H3, H4, H5, H6, H7, H8, HT0, HT1, HT2, ⟨%e9, H9⟩⟩
    isplitl [Hg HT0 HT1 HT2]
    · isplitl [Hg]
      · iexact Hg
      isplitl [HT0]
      · iexact HT0
      isplitl [HT1]
      · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr
    swap; · iexact H9
    ipureintro; exact dead_read ..

theorem defs_row (t : Fin (cfg0 a).N) :
    defs₀ (F := F) .tc (cfg0 a).body ((cfg0 a).bodyArgs t ((cfg0 a).slots t)) = bodyAt a t := by
  unfold defs₀; rw [Defs.onTc_tc]

theorem body_obligation (c : Dev nD) : BodyObligation (dats m a 0 c) (defs₀ (F := F)) Variants.none () Set.univ := fun t => by
  rw [bigSep_W0, bigSep_W0, defs_row]
  rewrite [idle_eq a 9 t]
  exact triple_restated (sound_body m a c t) rfl .rfl fun _ => .rfl

/-! ## The launch -/

set_option backward.isDefEq.respectTransparency.types false in
/-- Every execution ends, with each array at what the proof data computes, every other buffer as the call found it, and
    every semaphore counter at zero, the tables' contents `a` being those the host operations leave. -/
theorem run_main (ha : ∀ (c : Dev nD) k, V m c (pre0.ref k) = a.1 k) : θ_run defs (onTc (τ := τ) (main (F := F))) ⟨m, fun _ => 0, ρ⟩
    (fun r => Pipeline.FramePost (Pipeline.pin pcfgs fun _ => a) (dats m a) 0 (V m) r ∧ r.2.sem = fun _ => 0) :=
  Pipeline.θ_run_frameP_shared pcfgs (fun _ => a) (dats m a) (0 : Fin 1) launch₀0 defs₀ Variants.none m ρ main
    (hbody := fun c => (body_obligation m a c).loose) (hq := fun _ _ _ => rfl) (howed := fun _ _ => rfl) (V := V m)
    (hmain := Pipeline.hmainP_prefix pcfgs 0 defs₀ Variants.none m main hostOps0 hostOps0_sub
      (by repeat' constructor) (fun c => main_chain c))
    (hA := fun _ _ => rfl) (hpf := ha) (hΦ := fun _ _ => rfl)
    (Q' := fun r => Pipeline.FramePost (Pipeline.pin pcfgs fun _ => a) (dats m a) 0 (V m) r ∧ r.2.sem = fun _ => 0)

/-- The frame: the arguments end as they were and every counter at zero. -/
theorem frame_of (ha : ∀ (c : Dev nD) k, V m c (pre0.ref k) = a.1 k) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).1 0).trans (((dats m a 0 c).arrAt_in 0 rfl _).trans (V_arg0 m c)),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).2 main_arg3 (Pipeline.mem_restRefs_of (win := spec0) main_arg3 (by decide) (by decide))).trans (V_arg3 m c),
      ((h.1 c).2 main_arg4 (Pipeline.mem_restRefs_of (win := spec0) main_arg4 (by decide) (by decide))).trans (V_arg4 m c),
      ((h.1 c).2 main_arg5 (Pipeline.mem_restRefs_of (win := spec0) main_arg5 (by decide) (by decide))).trans (V_arg5 m c),
      ((h.1 c).1 3).trans (((dats m a 0 c).arrAt_in 3 rfl _).trans (V_arg6 m c)),
      ((h.1 c).1 5).trans (((dats m a 0 c).arrAt_in 5 rfl _).trans (V_arg7 m c)),
      ((h.1 c).1 7).trans (((dats m a 0 c).arrAt_in 7 rfl _).trans (V_arg8 m c))⟩, h.2⟩) (run_main m ρ a ha)

end Cert.LastIdeal.Moe

end
-- ==== Proof.LastLaunch.lean ====
module

public import proofs.«01_k».proof.Proof.LastFrame
public import proofs.«01_k».proof.Proof.FfnLaunch
public import proofs.«01_k».proof.Proof.Gen.Pre_in_range

@[expose] public section

set_option maxRecDepth 16384

noncomputable section

namespace Cert.LastIdeal.Moe

open Cert.LastIdeal Cert.LastIdeal.Gen
open Cert.FfnIdeal.Moe (clamp_lt gather_word starts word_range and_left and_right and_both)
open Idealize.ShloMosaic Idealize.ShloMosaic.TcCoe Idealize.ShloMosaic.Tactic
open Idealize.SL Idealize.SL.Sem

variable {F : FTy → Type} [FloatOps F]

/-! ## Every block of the call lies inside its array -/

theorem ok_of (pf : pre0.Contents (Elt F)) (h0 : ∀ y : S152.Idx, (show BitVec 32 from pf 0 y).toNat < 16)
    (h1 : ∀ y : S152.Idx, (show BitVec 32 from pf 1 y).toNat < 16) : ok0 pf := by
  refine ⟨fun i => ?_, fun i => by
      refine ⟨fun b => ?_, .inl rfl⟩
      have hv := h0 ((Rect.unit (s := S152) (k0_off1 i) S1.size (k0_off1_inb i)).emb (Shape.Idx.first (numel1_S1.symm ▸ Nat.one_pos)))
      have hv' : ∀ v : BitVec 32, v.toNat < 16 → ∀ b, ((![(1#32 : BitVec 32).toNat, v.toNat, (0#32 : BitVec 32).toNat, (0#32 : BitVec 32).toNat] : Fin 4 → Nat) b + 1) * S1x1x1024x256.size b ≤ S2x16x1024x256.size b := by
        intro v hv b; fin_cases b
        · show (1 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h1 ((Rect.unit (s := S152) (k0_off1 i) S1.size (k0_off1_inb i)).emb (Shape.Idx.first (numel1_S1.symm ▸ Nat.one_pos)))
      have hv' : ∀ v : BitVec 32, v.toNat < 16 → ∀ b, ((![(1#32 : BitVec 32).toNat, v.toNat, (0#32 : BitVec 32).toNat, (0#32 : BitVec 32).toNat] : Fin 4 → Nat) b + 1) * S1x1x1024x256.size b ≤ S2x16x1024x256.size b := by
        intro v hv b; fin_cases b
        · show (1 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h0 ((Rect.unit (s := S152) (k0_off1 i) S1.size (k0_off1_inb i)).emb (Shape.Idx.first (numel1_S1.symm ▸ Nat.one_pos)))
      have hv' : ∀ v : BitVec 32, v.toNat < 16 → ∀ b, ((![(1#32 : BitVec 32).toNat, v.toNat, (0#32 : BitVec 32).toNat, (0#32 : BitVec 32).toNat] : Fin 4 → Nat) b + 1) * S1x1x1024x256.size b ≤ S2x16x1024x256.size b := by
        intro v hv b; fin_cases b
        · show (1 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h1 ((Rect.unit (s := S152) (k0_off1 i) S1.size (k0_off1_inb i)).emb (Shape.Idx.first (numel1_S1.symm ▸ Nat.one_pos)))
      have hv' : ∀ v : BitVec 32, v.toNat < 16 → ∀ b, ((![(1#32 : BitVec 32).toNat, v.toNat, (0#32 : BitVec 32).toNat, (0#32 : BitVec 32).toNat] : Fin 4 → Nat) b + 1) * S1x1x1024x256.size b ≤ S2x16x1024x256.size b := by
        intro v hv b; fin_cases b
        · show (1 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h0 ((Rect.unit (s := S152) (k0_off1 i) S1.size (k0_off1_inb i)).emb (Shape.Idx.first (numel1_S1.symm ▸ Nat.one_pos)))
      have hv' : ∀ v : BitVec 32, v.toNat < 16 → ∀ b, ((![(1#32 : BitVec 32).toNat, v.toNat, (0#32 : BitVec 32).toNat, (0#32 : BitVec 32).toNat] : Fin 4 → Nat) b + 1) * S1x1x256x1024.size b ≤ S2x16x256x1024.size b := by
        intro v hv b; fin_cases b
        · show (1 + 1) * 1 ≤ 2; omega
        · show (v.toNat + 1) * 1 ≤ 16; omega
        · exact Nat.le_of_eq (Nat.one_mul _)
        · exact Nat.le_of_eq (Nat.one_mul _)
      exact hv' _ hv b,
    fun i => by
      refine ⟨fun b => ?_, .inl rfl⟩
      have hv := h1 ((Rect.unit (s := S152) (k0_off1 i) S1.size (k0_off1_inb i)).emb (Shape.Idx.first (numel1_S1.symm ▸ Nat.one_pos)))
      have hv' : ∀ v : BitVec 32, v.toNat < 16 → ∀ b, ((![(1#32 : BitVec 32).toNat, v.toNat, (0#32 : BitVec 32).toNat, (0#32 : BitVec 32).toNat] : Fin 4 → Nat) b + 1) * S1x1x256x1024.size b ≤ S2x16x256x1024.size b := by
        intro v hv b; fin_cases b
        · show (1 + 1) * 1 ≤ 2; omega
        · show (v.toNat + 1) * 1 ≤ 16; omega
        · exact Nat.le_of_eq (Nat.one_mul _)
        · exact Nat.le_of_eq (Nat.one_mul _)
      exact hv' _ hv b⟩
  refine ⟨fun b => ?_, .inl rfl⟩
  have hv' : ∀ v : BitVec 32, v.toNat < 152 → ∀ b, ((![v.toNat, (0#32 : BitVec 32).toNat] : Fin 2 → Nat) b + 1) * S2304x128.size b ≤ S350208x128.size b := by
    intro v hv b; fin_cases b
    · show (v.toNat + 1) * 2304 ≤ 350208; omega
    · exact Nat.le_of_eq (Nat.one_mul _)
  exact hv' _ (clamp_lt (i 0).val (i 0).isLt _) b

/-! ## The tables the host operations leave -/

variable (m : (ℓ : Loc nD τ sig) → Buf (Elt F) ℓ) (ρ : Dev nD → PrngReg)

theorem V_low (c : Dev nD) : V m c main_v14 = Host.gather gather_S152_S152x1_S152_n_0_n_n_0_1_1 (m ((c : Thread nD τ).loc main_arg1)) (starts (m ((c : Thread nD τ).loc main_arg3))) := by
  unfold V; entry_read; rfl
theorem V_high (c : Dev nD) : V m c main_v21 = Host.gather gather_S152_S152x1_S152_n_0_n_n_0_1_1 (m ((c : Thread nD τ).loc main_arg2)) (starts (m ((c : Thread nD τ).loc main_arg3))) := by
  unfold V; entry_read; rfl

/-- The tables when the call is reached. -/
def tabs : pre0.Contents (Elt F) := fun k => V m 0 (pre0.ref k)

theorem tabs_eq (c : Dev nD) (k) : V m c (pre0.ref k) = tabs m k := by
  obtain rfl : c = 0 := Subsingleton.elim _ _; rfl

/-- The expert numbers of every tile are in range. -/
def InRange : Prop := ∀ c : Dev nD, ∀ j : Fin 152,
  (show BitVec 32 from m ((c : Thread nD τ).loc main_arg1) (ix1 j)).toNat < 16 ∧ (show BitVec 32 from m ((c : Thread nD τ).loc main_arg2) (ix1 j)).toNat < 16

theorem inRange_of (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = (fun _ => 1#1)) : InRange m := fun c j => by
  have h10 : IntOp.andi (IntOp.andi (IntOp.andi (IntOp.cmpi .sge (show BitVec 32 from m ((c : Thread nD τ).loc main_arg1) (ix1 j)) 0#32) (IntOp.cmpi .slt (show BitVec 32 from m ((c : Thread nD τ).loc main_arg1) (ix1 j)) 16#32))
      (IntOp.cmpi .sge (show BitVec 32 from m ((c : Thread nD τ).loc main_arg2) (ix1 j)) 0#32)) (IntOp.cmpi .slt (show BitVec 32 from m ((c : Thread nD τ).loc main_arg2) (ix1 j)) 16#32) = 1#1 := congrFun (h c) (ix1 j)
  have h7 := and_left _ _ h10
  exact ⟨word_range _ (and_left _ _ h7), word_range _ (and_both _ _ (and_right _ _ h7) (and_right _ _ h10))⟩

theorem ok_tabs (h : InRange m) : ok0 (tabs m) := by
  refine ok_of _ (fun y => ?_) (fun y => ?_)
  · obtain ⟨j, rfl⟩ : ∃ j : Fin 152, y = ix1 j := ⟨y 0, (ix1_eta y).symm⟩
    exact lt_of_eq_of_lt (congrArg BitVec.toNat ((congrFun (V_low m 0) (ix1 j)).trans (gather_word _ _ j))) (h 0 _).1
  · obtain ⟨j, rfl⟩ : ∃ j : Fin 152, y = ix1 j := ⟨y 0, (ix1_eta y).symm⟩
    exact lt_of_eq_of_lt (congrArg BitVec.toNat ((congrFun (V_high m 0) (ix1 j)).trans (gather_word _ _ j))) (h 0 _).2

/-- The frame: with every expert number in range the call ends, the arguments end as they were, and every counter at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame_of m ρ ⟨tabs m, ok_tabs m h⟩ (tabs_eq m)

end Cert.LastIdeal.Moe

end
-- ==== Proof.LastRef.lean ====
module

public import proofs.«01_k».proof.Proof.FfnRef
public import proofs.«01_k».proof.Proof.Gen.LastRefIdeal.Run

@[expose] public section

set_option maxRecDepth 16384

noncomputable section

open Idealize.ShloMosaic Idealize.ShloMosaic.TcCoe Idealize.SL.Sem

namespace Cert.LastRefIdeal.Val

open Cert.LastRefIdeal Cert.LastRefIdeal.Gen Cert.Moe
open Cert.FfnRefIdeal.Val (tokens normed combine hidden mixed placed)

/-! ## The second layer's reference, by way of the first layer's

Both references take the same steps. The second takes the second layer's matrices out of each stack of two and norms the
rows once more before they go back. -/

/-- Rows against every expert's matrix of the second layer. -/
def against (T : FVec Ideal S38912x1024 .f32) (W : FVec Ideal S2x16x1024x256 .f32) : FVec Ideal S38912x16x256 .f32 :=
  Host.dotGeneral dot_S38912x1024_S16x1024x256_S38912x16x256_1_1_0_02_n_n none T (shapeCast _ (extractStridedSlice S1x16x1024x256 ![1, 0, 0, 0] W slices_S2x16x1024x256_S1x16x1024x256_1_0_0_0) shapeCasts_S1x16x1024x256_S16x1024x256)

/-- The outputs of the second layer's experts. -/
def down (H : FVec Ideal S38912x16x256 .f32) (W : FVec Ideal S2x16x256x1024 .f32) : FVec Ideal S38912x16x1024 .f32 :=
  transpose S38912x16x1024 [2, 0, 1] (Host.dotGeneral dot_S16x256x1024_S38912x16x256_S16x1024x38912_1_2_2_0_0_1 none (shapeCast _ (extractStridedSlice S1x16x256x1024 ![1, 0, 0, 0] W slices_S2x16x256x1024_S1x16x256x1024_1_0_0_0) shapeCasts_S1x16x256x1024_S16x256x1024) H) transposes_S16x1024x38912_S38912x16x1024_2_0_1

/-- The whole reference. -/
def result (A : FVec Ideal S350208x128 .f32) (ea eb : IVec S152 32) (nu : IVec S1 32) (nw fw : FVec Ideal S1024 .f32)
    (wg wu : FVec Ideal S2x16x1024x256 .f32) (wd : FVec Ideal S2x16x256x1024 .f32) : FVec Ideal S350208x128 .f32 :=
  placed A (normed (mixed (tokens A) (combine A ea eb) (down (hidden (against (normed (tokens A) nw) wg) (against (normed (tokens A) nw) wu)) wd)) fw) nu

theorem res_eq (m : (ℓ : Loc nD τ sig) → Buf (Elt Ideal) ℓ) (c : Dev nD) : Cert.LastRefIdeal.Value.res_main_v72 m c = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

/-! ## The second layer's matrices in the first layer's place -/

/-- A stack with the second layer's matrices everywhere. -/
def upper {p q : Nat} (W : (⟨4, ![2, 16, p, q]⟩ : Shape).Idx → EReal) : (⟨4, ![2, 16, p, q]⟩ : Shape).Idx → EReal :=
  fun y => W (ix4 1 (y 1) (y 2) (y 3))

theorem against_upper (T : FVec Ideal S38912x1024 .f32) (W : FVec Ideal S2x16x1024x256 .f32) :
    against T W = FfnRefIdeal.Val.against T (upper W) := by
  funext y
  obtain ⟨r, e, f, rfl⟩ : ∃ (r : Fin 38912) (e : Fin 16) (f : Fin 256), y = ix3 r e f := ⟨y 0, y 1, y 2, (ix3_eta y).symm⟩
  refine Eq.trans ?_ (FfnRefIdeal.Val.against_apply T (upper W) r e f).symm
  pointwise [against]
  rfl

theorem down_upper (H : FVec Ideal S38912x16x256 .f32) (W : FVec Ideal S2x16x256x1024 .f32) :
    down H W = FfnRefIdeal.Val.down H (upper W) := by
  funext y
  obtain ⟨r, e, k, rfl⟩ : ∃ (r : Fin 38912) (e : Fin 16) (k : Fin 1024), y = ix3 r e k := ⟨y 0, y 1, y 2, (ix3_eta y).symm⟩
  refine Eq.trans ?_ (FfnRefIdeal.Val.down_apply H (upper W) r e k).symm
  pointwise [down]
  rfl

end Cert.LastRefIdeal.Val

end
-- ==== Proof.LastValue.lean ====
module

public import proofs.«01_k».proof.Proof.LastLaunch
public import proofs.«01_k».proof.Proof.LastRef
public import proofs.«01_k».proof.Proof.FfnResult

@[expose] public section

set_option maxRecDepth 16384

noncomputable section

namespace Cert.LastIdeal.Moe

open Cert.LastIdeal Cert.LastIdeal.Gen Cert.Moe
open Cert.FfnIdeal.Moe (tokens low high clamp_live gather_live)
open Idealize.ShloMosaic Idealize.ShloMosaic.TcCoe Idealize.SL.Sem
open Idealize.ShloMosaic.Pipeline (Dat)

/-! ## The entries of what the body computes -/

/-- The tokens of a tile with the experts' shares added, before the last norm. -/
abbrev blend (x0 : Vec Ideal S2304x128 .f32) (x1 x2 : Vec Ideal S1x1024 .f32) (x3 x4 x5 x6 : Vec Ideal S1x1x1024x256 .f32) (x7 x8 : Vec Ideal S1x1x256x1024 .f32) : FVec Ideal S256x1024 .f32 :=
  Cert.FfnIdeal.Moe.mixed (F := Ideal) x0 x1 x2 x3 x4 x5 x6 x7 x8

theorem mixed_apply (x0 : Vec Ideal S2304x128 .f32) (x1 x2 : Vec Ideal S1x1024 .f32) (x3 x4 x5 x6 : Vec Ideal S1x1x1024x256 .f32) (x7 x8 : Vec Ideal S1x1x256x1024 .f32) (i : Fin 256) (k : Fin 1024) :
    mixed (F := Ideal) x0 x1 x2 x3 x4 x5 x6 x7 x8 (ix2 i k) = rms (fun j => blend x0 x1 x2 x3 x4 x5 x6 x7 x8 (ix2 i j)) (x2 (ix2 0 k)) k := by
  show k0_pay10 _ _ _ _ _ _ = _
  unfold blend Cert.FfnIdeal.Moe.mixed
  generalize tokens (F := Ideal) x0 = X
  generalize low (F := Ideal) x0 x1 x2 x3 x4 x5 x6 x7 x8 = L
  generalize high (F := Ideal) x0 x1 x2 x3 x4 x5 x6 x7 x8 = H
  pointwise [k0_pay10, Cert.FfnIdeal.Gen.k0_pay1, rms]

/-! ## The blocks -/

variable (m : (ℓ : Loc nD τ sig) → Buf (Elt Ideal) ℓ)

/-- The number of tiles in use. -/
abbrev nu (c : Dev nD) : BitVec 32 := (show S1.Idx → BitVec 32 from m ((c : Thread nD τ).loc main_arg3)) (ix1 0)

variable (h : InRange m)

/-- The tables, with what makes them usable. -/
abbrev adm : (pcfg0 (F := Ideal)).Adm := ⟨tabs m, ok_tabs m h⟩

theorem idx1 (a : (pcfg0 (F := Ideal)).Adm) (t : Fin (cfg0 a).N) : (pcfg0.win a 1).index t = ![0, 0] := rfl
theorem idx2 (a : (pcfg0 (F := Ideal)).Adm) (t : Fin (cfg0 a).N) : (pcfg0.win a 2).index t = ![0, 0] := rfl
theorem idx9 (a : (pcfg0 (F := Ideal)).Adm) : ∀ t : Fin (cfg0 a).N, (pcfg0.win a 9).index t = ![t.val, 0] :=
  (by decide +kernel : ∀ t : Fin grid0.N, cc0_transform_9 (grid0.coords t) = ![t.val, 0])

theorem coord : ∀ t : Fin grid0.N, (grid0.coords t 0).val = t.val := by decide +kernel

/-- The word the index maps clamp with is the number of tiles in use. -/
theorem used_word (c : Dev nD) (y : S1.Idx) : (show S1.Idx → BitVec 32 from tabs m 2) y = nu m c := by
  obtain rfl : c = 0 := Subsingleton.elim _ _
  obtain ⟨j, rfl⟩ : ∃ j : Fin 1, y = ix1 j := ⟨y 0, (ix1_eta y).symm⟩
  obtain rfl : j = 0 := Subsingleton.elim _ _
  exact congrFun (V_arg3 m 0) (ix1 0)

theorem idx0 (c : Dev nD) (t : Fin (cfg0 (adm m h)).N) (hl : (BitVec.ofNat 32 t.val).slt (nu m c) = true) :
    (pcfg0.win (adm m h) 0).index t = ![t.val, 0] := by
  refine (congrArg (fun w : BitVec 32 => (![(IntOp.minsi (BitVec.ofNat 32 (grid0.coords t 0).val) (IntOp.maxsi (IntOp.subi w 1#32) 0#32)).toNat, 0] : Fin 2 → Nat)) (used_word m c _)).trans ?_
  have ht : (t.val : Nat) < 152 := t.isLt
  have : (BitVec.ofNat 32 t.val).toNat = t.val := by rw [BitVec.toNat_ofNat]; omega
  show ![(IntOp.minsi (BitVec.ofNat 32 (grid0.coords t 0).val) _).toNat, 0] = _
  rw [coord t, clamp_live t.val t.isLt _ hl, this]

theorem tile_block (c : Dev nD) (t : Fin (cfg0 (adm m h)).N) (hl : (BitVec.ofNat 32 t.val).slt (nu m c) = true) (r : Fin 2304) (l : Fin 128) :
    iblk m (adm m h) c 0 t (ix2 r l) = (show S350208x128.Idx → EReal from m ((c : Thread nD τ).loc main_arg0)) (ix2 (⟨t.val * 2304 + r.val, by have : t.val < 152 := t.isLt; omega⟩ : Fin 350208) l) := by
  have : iblk m (adm m h) c 0 t (ix2 r l) = V m c main_arg0 (ix2 (⟨t.val * 2304 + r.val, by have : t.val < 152 := t.isLt; omega⟩ : Fin 350208) l) := by
    blk_ext [iblk]
    · exact congrArg (· * 2304 + r.val) (congrFun (idx0 m h c t hl) 0)
    · exact (congrArg (· * 128 + l.val) (congrFun (idx0 m h c t hl) 1)).trans (by show 0 * 128 + l.val = l.val; omega)
  rw [this, V_arg0]

theorem norm_block (c : Dev nD) (t : Fin (cfg0 (adm m h)).N) (k : Fin 1024) :
    iblk m (adm m h) c 1 t (ix2 0 k) = (show S1024.Idx → EReal from m ((c : Thread nD τ).loc main_arg4)) (ix1 k) := by
  have : iblk m (adm m h) c 1 t (ix2 0 k) = V m c main_v0 (ix2 0 k) := by
    blk_ext [iblk]
    · exact congrArg (· + 0) (congrFun (idx1 (adm m h) t) 0)
    · exact (congrArg (· * 1024 + k.val) (congrFun (idx1 (adm m h) t) 1)).trans (by show 0 * 1024 + k.val = k.val; omega)
  rw [this]; unfold V; entry_read; pointwise

theorem last_norm_block (c : Dev nD) (t : Fin (cfg0 (adm m h)).N) (k : Fin 1024) :
    iblk m (adm m h) c 2 t (ix2 0 k) = (show S1024.Idx → EReal from m ((c : Thread nD τ).loc main_arg5)) (ix1 k) := by
  have : iblk m (adm m h) c 2 t (ix2 0 k) = V m c main_v1 (ix2 0 k) := by
    blk_ext [iblk]
    · exact congrArg (· + 0) (congrFun (idx2 (adm m h) t) 0)
    · exact (congrArg (· * 1024 + k.val) (congrFun (idx2 (adm m h) t) 1)).trans (by show 0 * 1024 + k.val = k.val; omega)
  rw [this]; unfold V; entry_read; pointwise

/-- The experts of a point. -/
abbrev lo (c : Dev nD) (t : Fin (cfg0 (adm m h)).N) : Fin 16 := ⟨(show BitVec 32 from (show S152.Idx → BitVec 32 from m ((c : Thread nD τ).loc main_arg1)) (ix1 (⟨t.val, t.isLt⟩ : Fin 152))).toNat, (h c _).1⟩
abbrev hi (c : Dev nD) (t : Fin (cfg0 (adm m h)).N) : Fin 16 := ⟨(show BitVec 32 from (show S152.Idx → BitVec 32 from m ((c : Thread nD τ).loc main_arg2)) (ix1 (⟨t.val, t.isLt⟩ : Fin 152))).toNat, (h c _).2⟩

theorem entry_at (t : Fin grid0.N) (y : S152.Idx) (hy : (y 0).val = k0_off1 (grid0.coords t) 0) : y = ix1 (⟨t.val, t.isLt⟩ : Fin 152) := by
  have e : k0_off1 (grid0.coords t) 0 = t.val := (congrFun (k0_off1_eq (grid0.coords t)) 0).trans (coord t)
  obtain ⟨j, rfl⟩ : ∃ j : Fin 152, y = ix1 j := ⟨y 0, (ix1_eta y).symm⟩
  exact congrArg (ix1 (n0 := 152)) (Fin.ext (hy.trans e))

theorem lo_word (c : Dev nD) (t : Fin grid0.N) (hl : (BitVec.ofNat 32 t.val).slt (nu m c) = true) (y : S152.Idx) (hy : (y 0).val = k0_off1 (grid0.coords t) 0) :
    (show S152.Idx → BitVec 32 from tabs m 0) y = (show S152.Idx → BitVec 32 from m ((c : Thread nD τ).loc main_arg1)) (ix1 (⟨t.val, t.isLt⟩ : Fin 152)) := by
  obtain rfl : c = 0 := Subsingleton.elim _ _
  rw [entry_at t y hy]; exact (congrFun (V_low m 0) _).trans (gather_live _ _ _ hl)

theorem hi_word (c : Dev nD) (t : Fin grid0.N) (hl : (BitVec.ofNat 32 t.val).slt (nu m c) = true) (y : S152.Idx) (hy : (y 0).val = k0_off1 (grid0.coords t) 0) :
    (show S152.Idx → BitVec 32 from tabs m 1) y = (show S152.Idx → BitVec 32 from m ((c : Thread nD τ).loc main_arg2)) (ix1 (⟨t.val, t.isLt⟩ : Fin 152)) := by
  obtain rfl : c = 0 := Subsingleton.elim _ _
  rw [entry_at t y hy]; exact (congrFun (V_high m 0) _).trans (gather_live _ _ _ hl)

theorem idx3 (c : Dev nD) (t : Fin (cfg0 (adm m h)).N) (hl : (BitVec.ofNat 32 t.val).slt (nu m c) = true) :
    (pcfg0.win (adm m h) 3).index t = ![1, (lo m h c t).val, 0, 0] :=
  congrArg (fun w : BitVec 32 => (![1, w.toNat, 0, 0] : Fin 4 → Nat)) (lo_word m c t hl _ rfl)

theorem gate_low_block (c : Dev nD) (t : Fin (cfg0 (adm m h)).N) (hl : (BitVec.ofNat 32 t.val).slt (nu m c) = true) (k : Fin 1024) (f : Fin 256) :
    iblk m (adm m h) c 3 t (ix4 0 0 k f) = (show S2x16x1024x256.Idx → EReal from m ((c : Thread nD τ).loc main_arg6)) (ix4 1 (lo m h c t) k f) := by
  have : iblk m (adm m h) c 3 t (ix4 0 0 k f) = V m c main_arg6 (ix4 1 (lo m h c t) k f) := by
    blk_ext [iblk]
    · exact congrArg (· + 0) (congrFun (idx3 m h c t hl) 0)
    · exact congrArg (· + 0) (congrFun (idx3 m h c t hl) 1)
    · exact (congrArg (· * 1024 + k.val) (congrFun (idx3 m h c t hl) 2)).trans (by show 0 * 1024 + k.val = k.val; omega)
    · exact (congrArg (· * 256 + f.val) (congrFun (idx3 m h c t hl) 3)).trans (by show 0 * 256 + f.val = f.val; omega)
  rw [this, V_arg6]

theorem idx4 (c : Dev nD) (t : Fin (cfg0 (adm m h)).N) (hl : (BitVec.ofNat 32 t.val).slt (nu m c) = true) :
    (pcfg0.win (adm m h) 4).index t = ![1, (hi m h c t).val, 0, 0] :=
  congrArg (fun w : BitVec 32 => (![1, w.toNat, 0, 0] : Fin 4 → Nat)) (hi_word m c t hl _ rfl)

theorem gate_high_block (c : Dev nD) (t : Fin (cfg0 (adm m h)).N) (hl : (BitVec.ofNat 32 t.val).slt (nu m c) = true) (k : Fin 1024) (f : Fin 256) :
    iblk m (adm m h) c 4 t (ix4 0 0 k f) = (show S2x16x1024x256.Idx → EReal from m ((c : Thread nD τ).loc main_arg6)) (ix4 1 (hi m h c t) k f) := by
  have : iblk m (adm m h) c 4 t (ix4 0 0 k f) = V m c main_arg6 (ix4 1 (hi m h c t) k f) := by
    blk_ext [iblk]
    · exact congrArg (· + 0) (congrFun (idx4 m h c t hl) 0)
    · exact congrArg (· + 0) (congrFun (idx4 m h c t hl) 1)
    · exact (congrArg (· * 1024 + k.val) (congrFun (idx4 m h c t hl) 2)).trans (by show 0 * 1024 + k.val = k.val; omega)
    · exact (congrArg (· * 256 + f.val) (congrFun (idx4 m h c t hl) 3)).trans (by show 0 * 256 + f.val = f.val; omega)
  rw [this, V_arg6]

theorem idx5 (c : Dev nD) (t : Fin (cfg0 (adm m h)).N) (hl : (BitVec.ofNat 32 t.val).slt (nu m c) = true) :
    (pcfg0.win (adm m h) 5).index t = ![1, (lo m h c t).val, 0, 0] :=
  congrArg (fun w : BitVec 32 => (![1, w.toNat, 0, 0] : Fin 4 → Nat)) (lo_word m c t hl _ rfl)

theorem up_low_block (c : Dev nD) (t : Fin (cfg0 (adm m h)).N) (hl : (BitVec.ofNat 32 t.val).slt (nu m c) = true) (k : Fin 1024) (f : Fin 256) :
    iblk m (adm m h) c 5 t (ix4 0 0 k f) = (show S2x16x1024x256.Idx → EReal from m ((c : Thread nD τ).loc main_arg7)) (ix4 1 (lo m h c t) k f) := by
  have : iblk m (adm m h) c 5 t (ix4 0 0 k f) = V m c main_arg7 (ix4 1 (lo m h c t) k f) := by
    blk_ext [iblk]
    · exact congrArg (· + 0) (congrFun (idx5 m h c t hl) 0)
    · exact congrArg (· + 0) (congrFun (idx5 m h c t hl) 1)
    · exact (congrArg (· * 1024 + k.val) (congrFun (idx5 m h c t hl) 2)).trans (by show 0 * 1024 + k.val = k.val; omega)
    · exact (congrArg (· * 256 + f.val) (congrFun (idx5 m h c t hl) 3)).trans (by show 0 * 256 + f.val = f.val; omega)
  rw [this, V_arg7]

theorem idx6 (c : Dev nD) (t : Fin (cfg0 (adm m h)).N) (hl : (BitVec.ofNat 32 t.val).slt (nu m c) = true) :
    (pcfg0.win (adm m h) 6).index t = ![1, (hi m h c t).val, 0, 0] :=
  congrArg (fun w : BitVec 32 => (![1, w.toNat, 0, 0] : Fin 4 → Nat)) (hi_word m c t hl _ rfl)

theorem up_high_block (c : Dev nD) (t : Fin (cfg0 (adm m h)).N) (hl : (BitVec.ofNat 32 t.val).slt (nu m c) = true) (k : Fin 1024) (f : Fin 256) :
    iblk m (adm m h) c 6 t (ix4 0 0 k f) = (show S2x16x1024x256.Idx → EReal from m ((c : Thread nD τ).loc main_arg7)) (ix4 1 (hi m h c t) k f) := by
  have : iblk m (adm m h) c 6 t (ix4 0 0 k f) = V m c main_arg7 (ix4 1 (hi m h c t) k f) := by
    blk_ext [iblk]
    · exact congrArg (· + 0) (congrFun (idx6 m h c t hl) 0)
    · exact congrArg (· + 0) (congrFun (idx6 m h c t hl) 1)
    · exact (congrArg (· * 1024 + k.val) (congrFun (idx6 m h c t hl) 2)).trans (by show 0 * 1024 + k.val = k.val; omega)
    · exact (congrArg (· * 256 + f.val) (congrFun (idx6 m h c t hl) 3)).trans (by show 0 * 256 + f.val = f.val; omega)
  rw [this, V_arg7]

theorem idx7 (c : Dev nD) (t : Fin (cfg0 (adm m h)).N) (hl : (BitVec.ofNat 32 t.val).slt (nu m c) = true) :
    (pcfg0.win (adm m h) 7).index t = ![1, (lo m h c t).val, 0, 0] :=
  congrArg (fun w : BitVec 32 => (![1, w.toNat, 0, 0] : Fin 4 → Nat)) (lo_word m c t hl _ rfl)

theorem down_low_block (c : Dev nD) (t : Fin (cfg0 (adm m h)).N) (hl : (BitVec.ofNat 32 t.val).slt (nu m c) = true) (k : Fin 256) (f : Fin 1024) :
    iblk m (adm m h) c 7 t (ix4 0 0 k f) = (show S2x16x256x1024.Idx → EReal from m ((c : Thread nD τ).loc main_arg8)) (ix4 1 (lo m h c t) k f) := by
  have : iblk m (adm m h) c 7 t (ix4 0 0 k f) = V m c main_arg8 (ix4 1 (lo m h c t) k f) := by
    blk_ext [iblk]
    · exact congrArg (· + 0) (congrFun (idx7 m h c t hl) 0)
    · exact congrArg (· + 0) (congrFun (idx7 m h c t hl) 1)
    · exact (congrArg (· * 256 + k.val) (congrFun (idx7 m h c t hl) 2)).trans (by show 0 * 256 + k.val = k.val; omega)
    · exact (congrArg (· * 1024 + f.val) (congrFun (idx7 m h c t hl) 3)).trans (by show 0 * 1024 + f.val = f.val; omega)
  rw [this, V_arg8]

theorem idx8 (c : Dev nD) (t : Fin (cfg0 (adm m h)).N) (hl : (BitVec.ofNat 32 t.val).slt (nu m c) = true) :
    (pcfg0.win (adm m h) 8).index t = ![1, (hi m h c t).val, 0, 0] :=
  congrArg (fun w : BitVec 32 => (![1, w.toNat, 0, 0] : Fin 4 → Nat)) (hi_word m c t hl _ rfl)

theorem down_high_block (c : Dev nD) (t : Fin (cfg0 (adm m h)).N) (hl : (BitVec.ofNat 32 t.val).slt (nu m c) = true) (k : Fin 256) (f : Fin 1024) :
    iblk m (adm m h) c 8 t (ix4 0 0 k f) = (show S2x16x256x1024.Idx → EReal from m ((c : Thread nD τ).loc main_arg8)) (ix4 1 (hi m h c t) k f) := by
  have : iblk m (adm m h) c 8 t (ix4 0 0 k f) = V m c main_arg8 (ix4 1 (hi m h c t) k f) := by
    blk_ext [iblk]
    · exact congrArg (· + 0) (congrFun (idx8 m h c t hl) 0)
    · exact congrArg (· + 0) (congrFun (idx8 m h c t hl) 1)
    · exact (congrArg (· * 256 + k.val) (congrFun (idx8 m h c t hl) 2)).trans (by show 0 * 256 + k.val = k.val; omega)
    · exact (congrArg (· * 1024 + f.val) (congrFun (idx8 m h c t hl) 3)).trans (by show 0 * 1024 + f.val = f.val; omega)
  rw [this, V_arg8]

end Cert.LastIdeal.Moe

end
-- ==== Proof.LastResult.lean ====
module

public import proofs.«01_k».proof.Proof.LastValue
public import proofs.«01_k».proof.Proof.FfnRouted

@[expose] public section

set_option maxRecDepth 16384

noncomputable section

namespace Cert.LastIdeal.Moe

open Cert.LastIdeal Cert.LastIdeal.Gen Cert.Moe
open Cert.LastRefIdeal.Val (upper against_upper down_upper)
open Cert.FfnIdeal.Moe (pieceRow tok cut8 cut8_apply slot_eq)
open Idealize.ShloMosaic Idealize.ShloMosaic.TcCoe Idealize.SL.Sem
open Idealize.ShloMosaic.Pipeline (Dat)

/-! # The array the second expert layer leaves is its reference's -/

/-- The second layer's mixed rows: the first layer's reference, given the second layer's matrices. -/
abbrev refMixed (A : FVec Ideal S350208x128 .f32) (ea eb : IVec S152 32) (nw : FVec Ideal S1024 .f32) (wg wu : FVec Ideal S2x16x1024x256 .f32) (wd : FVec Ideal S2x16x256x1024 .f32) : FVec Ideal FfnRefIdeal.S38912x1024 .f32 :=
  Cert.FfnIdeal.Moe.refMixed A ea eb nw (upper wg) (upper wu) (upper wd)

theorem result_eq (A : FVec Ideal S350208x128 .f32) (ea eb : IVec S152 32) (nu : IVec S1 32) (nw fw : FVec Ideal S1024 .f32)
    (wg wu : FVec Ideal S2x16x1024x256 .f32) (wd : FVec Ideal S2x16x256x1024 .f32) :
    LastRefIdeal.Val.result A ea eb nu nw fw wg wu wd = FfnRefIdeal.Val.placed A (FfnRefIdeal.Val.normed (refMixed A ea eb nw wg wu wd) fw) nu := by
  unfold LastRefIdeal.Val.result
  rw [against_upper, against_upper, down_upper]

/-! ## The whole array -/

variable (m : (ℓ : Loc nD τ sig) → Buf (Elt Ideal) ℓ) (h : InRange m)

theorem cond1_iff (t : Fin grid0.N) (w : BitVec 32) : k0_cond1 (grid0.coords t) w = 1#1 ↔ (BitVec.ofNat 32 t.val).slt w = true := by
  have e : ∀ b : Bool, Scalar.cmpi .ne (Scalar.extui (BitVec.ofBool b) : BitVec 32) 0#32 = 1#1 ↔ b = true := by decide
  show Scalar.cmpi .ne (Scalar.extui (BitVec.ofBool ((BitVec.ofNat 32 (grid0.coords t 0).val).slt w)) : BitVec 32) 0#32 = 1#1 ↔ _
  rw [e, coord]

theorem used_eq (c : Dev nD) : used (adm m h) = nu m c := used_word m c _

/-- Every block is written back: no two points share one. -/
theorem flush9 (a : (pcfg0 (F := Ideal)).Adm) (t : Fin (cfg0 a).N) : (pcfg0.win a 9).flush t = true := by
  refine (Pipeline.Window.flush_out _ rfl _).2 ?_
  have ht : t.val < 152 := t.isLt
  by_cases e : t.val + 1 = 152
  · exact Or.inl e
  · refine Or.inr ⟨(show t.val + 1 < 152 by omega), fun q => ?_⟩
    rw [idx9, idx9] at q
    have := congrFun q 0
    have : t.val + 1 = t.val := this
    omega

/-- The blocks written cover the array, whatever the tables. -/
theorem covers (a : (pcfg0 (F := Ideal)).Adm) : (pcfg0.win a 9).Covers := by
  refine ⟨(by decide : ∀ a : Fin 2, 0 < (![2304, 128] : Fin 2 → Nat) a), fun β => ?_⟩
  have hβ : (β 0).val < 152 := by have q := (β 0).isLt; change (β 0).val < (350208 + 2304 - 1) / 2304 at q; omega
  have hβ1 : (β 1).val < 1 := by have q := (β 1).isLt; change (β 1).val < (128 + 128 - 1) / 128 at q; omega
  refine ⟨⟨(β 0).val, hβ⟩, flush9 a _, fun b => ?_⟩
  rw [idx9]
  refine ⟨?_, Or.inl rfl⟩
  revert b
  exact Fin.forall_fin_two.2 ⟨rfl, by show 0 = (β 1).val; omega⟩

/-- The slot of the whole array that slot `i` of tile `t` is. -/
abbrev slotAt (t : Fin (cfg0 (adm m h)).N) (i : Fin 256) : Fin 38912 := ⟨t.val * 256 + i.val, by have : t.val < 152 := t.isLt; omega⟩

theorem row_eq (c : Dev nD) (t : Fin (cfg0 (adm m h)).N) (hl : (BitVec.ofNat 32 t.val).slt (nu m c) = true) (i : Fin 256) (p : Fin 9) (l : Fin 128) :
    iblk m (adm m h) c 0 t (ix2 (pieceRow i p) l) = (show S350208x128.Idx → EReal from m ((c : Thread nD τ).loc main_arg0)) (ix2 (FfnRefIdeal.Val.rowOf (slotAt m h t i) p) l) := by
  rw [tile_block m h c t hl]
  exact congrArg (fun q => (show S350208x128.Idx → EReal from m ((c : Thread nD τ).loc main_arg0)) (ix2 q l)) (Fin.ext (by show t.val * 2304 + (9 * i.val + p.val) = (t.val * 256 + i.val) * 9 + p.val; omega))

theorem blend_eq (c : Dev nD) (hr : Routed (m ((c : Thread nD τ).loc main_arg0)) (m ((c : Thread nD τ).loc main_arg4)) (m ((c : Thread nD τ).loc main_arg6)))
    (t : Fin (cfg0 (adm m h)).N) (hl : (BitVec.ofNat 32 t.val).slt (nu m c) = true) (i : Fin 256) (k : Fin 1024) :
    blend (iblk m (adm m h) c 0 t) (iblk m (adm m h) c 1 t) (iblk m (adm m h) c 2 t) (iblk m (adm m h) c 3 t) (iblk m (adm m h) c 4 t) (iblk m (adm m h) c 5 t) (iblk m (adm m h) c 6 t) (iblk m (adm m h) c 7 t) (iblk m (adm m h) c 8 t) (ix2 i k)
      = refMixed (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (ix2 (slotAt m h t i) k) := by
  have ht : FfnRefIdeal.Val.tileOf (slotAt m h t i) = (⟨t.val, t.isLt⟩ : Fin 152) := Fin.ext (by show (t.val * 256 + i.val) / 256 = t.val; omega)
  have hx : ∀ k, tok (iblk m (adm m h) c 0 t) i k = FfnRefIdeal.Val.tok (m ((c : Thread nD τ).loc main_arg0)) (slotAt m h t i) k := fun k => row_eq m h c t hl i _ _
  exact slot_eq (m ((c : Thread nD τ).loc main_arg0)) (m ((c : Thread nD τ).loc main_arg4)) (upper (m ((c : Thread nD τ).loc main_arg6))) (upper (m ((c : Thread nD τ).loc main_arg7))) (upper (m ((c : Thread nD τ).loc main_arg8))) _ _ i (slotAt m h t i) hx (norm_block m h c t) { hr with gate := fun _ => hr.gate _ }
    (m ((c : Thread nD τ).loc main_arg1)) (m ((c : Thread nD τ).loc main_arg2)) _ _ (h c _).1 (h c _).2 (by rw [ht]) (by rw [ht]) _ _ _ _ _ _ _
    (row_eq m h c t hl i 8 1) (row_eq m h c t hl i 8 2) (gate_low_block m h c t hl) (gate_high_block m h c t hl) (up_low_block m h c t hl) (up_high_block m h c t hl) (down_low_block m h c t hl) (down_high_block m h c t hl) k

theorem mixed_eq (c : Dev nD) (hr : Routed (m ((c : Thread nD τ).loc main_arg0)) (m ((c : Thread nD τ).loc main_arg4)) (m ((c : Thread nD τ).loc main_arg6)))
    (t : Fin (cfg0 (adm m h)).N) (hl : (BitVec.ofNat 32 t.val).slt (nu m c) = true) (i : Fin 256) (k : Fin 1024) :
    mixed (F := Ideal) (iblk m (adm m h) c 0 t) (iblk m (adm m h) c 1 t) (iblk m (adm m h) c 2 t) (iblk m (adm m h) c 3 t) (iblk m (adm m h) c 4 t) (iblk m (adm m h) c 5 t) (iblk m (adm m h) c 6 t) (iblk m (adm m h) c 7 t) (iblk m (adm m h) c 8 t) (ix2 i k)
      = FfnRefIdeal.Val.normed (refMixed (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8))) (m ((c : Thread nD τ).loc main_arg5)) (ix2 (slotAt m h t i) k) := by
  refine (mixed_apply _ _ _ _ _ _ _ _ _ i k).trans (Eq.trans ?_ (FfnRefIdeal.Val.normed_apply _ _ _ _).symm)
  exact congrArg₂ (fun X w => rms X w k) (funext fun j => blend_eq m h c hr t hl i j) (last_norm_block m h c t k)

theorem final (c : Dev nD) (hr : Routed (m ((c : Thread nD τ).loc main_arg0)) (m ((c : Thread nD τ).loc main_arg4)) (m ((c : Thread nD τ).loc main_arg6))) :
    (dats m (adm m h) 0 c).arrAt 9 (cfg0 (adm m h)).N = LastRefIdeal.Val.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_eq]
  refine (dats m (adm m h) 0 c).arrAt_eq_of_covers 9 _ (covers (adm m h)) fun t _ y => ?_
  blk_simp
  rw [after_9]
  obtain ⟨r, l, hy⟩ : ∃ (r : Fin 2304) (l : Fin 128), (show S2304x128.Idx from y) = ix2 r l := ⟨(show S2304x128.Idx from y) 0, (show S2304x128.Idx from y) 1, (ix2_eta _).symm⟩
  obtain rfl : y = ix2 r l := hy
  have ht : t.val < 152 := t.isLt
  have e : ((cfg0 (adm m h)).win 9 |>.blk t).view.emb (ix2 r l) = (ix2 (⟨t.val * 2304 + r.val, by omega⟩ : Fin 350208) l : S350208x128.Idx) := by
    blk_ext
    · exact congrArg (· * 2304 + r.val) (congrFun (idx9 (adm m h) t) 0)
    · exact (congrArg (· * 128 + l.val) (congrFun (idx9 (adm m h) t) 1)).trans (by show 0 * 128 + l.val = l.val; omega)
  refine Eq.trans ?_ (congrArg _ e.symm)
  refine Eq.trans ?_ (FfnRefIdeal.Val.placed_apply _ _ _ _ _).symm
  have hd : (t.val * 2304 + r.val) / 9 / 256 = t.val := by omega
  show outAt m (adm m h) c t (ix2 r l) = if (BitVec.ofNat 32 ((t.val * 2304 + r.val) / 9 / 256)).slt (nu m c) then _ else _
  unfold outAt
  rw [used_eq m h c, hd]
  by_cases hl : (BitVec.ofNat 32 t.val).slt (nu m c) = true
  · rw [if_pos ((cond1_iff t _).2 hl), if_pos hl]
    unfold outLive
    by_cases h8 : r.val % 9 = 8
    · rw [dif_neg (by show ¬(t.val * 2304 + r.val) % 9 < 8; omega)]
      refine (if_pos h8).trans ((cut8_apply _ _ _).trans ((row_eq m h c t hl _ 8 l).trans ?_))
      exact congrArg (fun q => (show S350208x128.Idx → EReal from m ((c : Thread nD τ).loc main_arg0)) (ix2 q l)) (Fin.ext (by show (t.val * 256 + r.val / 9) * 9 + 8 = t.val * 2304 + r.val; omega))
    · rw [dif_pos (by show (t.val * 2304 + r.val) % 9 < 8; omega)]
      refine (if_neg h8).trans ((mixed_eq m h c hr t hl _ _).trans ?_)
      exact congrArg₂ (fun a b => FfnRefIdeal.Val.normed (refMixed (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8))) (m ((c : Thread nD τ).loc main_arg5)) (ix2 a b)) (Fin.ext (by show t.val * 256 + r.val / 9 = (t.val * 2304 + r.val) / 9; omega)) (Fin.ext (by show r.val % 9 % 8 * 128 + l.val = (t.val * 2304 + r.val) % 9 * 128 + l.val; omega))
  · rw [if_neg (fun hc => hl ((cond1_iff t _).1 hc)), if_neg hl]
    pointwise [k0_pay2]

include h in
/-- The call ends with the reference's array as its result and the arguments as they were. -/
theorem run_value (ρ : Dev nD → PrngReg) (hr : ∀ c : Dev nD, Routed (m ((c : Thread nD τ).loc main_arg0)) (m ((c : Thread nD τ).loc main_arg4)) (m ((c : Thread nD τ).loc main_arg6))) :
    θ_run defs (onTc (τ := τ) (main (F := Ideal))) ⟨m, fun _ => 0, ρ⟩ (fun r => ∀ c : Dev nD,
      r.2.mem ((c : Thread nD τ).loc main_v22) = LastRefIdeal.Val.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r q c => ⟨((q.1 c).1 9).trans (final m h c (hr c)),
      ((q.1 c).1 0).trans (((dats m (adm m h) 0 c).arrAt_in 0 rfl _).trans (V_arg0 m c)),
      ((q.1 c).2 main_arg1 (Pipeline.mem_restRefs_of (win := spec0) main_arg1 (by decide) (by decide))).trans (V_arg1 m c),
      ((q.1 c).2 main_arg2 (Pipeline.mem_restRefs_of (win := spec0) main_arg2 (by decide) (by decide))).trans (V_arg2 m c),
      ((q.1 c).2 main_arg3 (Pipeline.mem_restRefs_of (win := spec0) main_arg3 (by decide) (by decide))).trans (V_arg3 m c),
      ((q.1 c).2 main_arg4 (Pipeline.mem_restRefs_of (win := spec0) main_arg4 (by decide) (by decide))).trans (V_arg4 m c),
      ((q.1 c).2 main_arg5 (Pipeline.mem_restRefs_of (win := spec0) main_arg5 (by decide) (by decide))).trans (V_arg5 m c),
      ((q.1 c).1 3).trans (((dats m (adm m h) 0 c).arrAt_in 3 rfl _).trans (V_arg6 m c)),
      ((q.1 c).1 5).trans (((dats m (adm m h) 0 c).arrAt_in 5 rfl _).trans (V_arg7 m c)),
      ((q.1 c).1 7).trans (((dats m (adm m h) 0 c).arrAt_in 7 rfl _).trans (V_arg8 m c))⟩) (run_main m ρ (adm m h) (tabs_eq m))

end Cert.LastIdeal.Moe

end
-- ==== Proof.OutBody.lean ====
module

public import proofs.«01_k».proof.Proof.Gen.OutIdeal.Frame
public import proofs.«01_k».proof.Proof.Gen.OutIdeal.Skeleton

@[expose] public section

set_option maxRecDepth 16384

noncomputable section

namespace Cert.OutIdeal.Router

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken: the grid point is the first. -/
abbrev first (i : grid0.Coords) : Prop :=
  (Scalar.cmpi .ne (Scalar.extui (Scalar.cmpi .eq (BitVec.ofNat 32 (i 0).val) 0#32)) 0#32) = 1#1

theorem first_iff : ∀ t : Fin cfg0.N, first (grid0.coords t) ↔ t.val = 0 :=
  (fun t => by
    have ht : t.val < 64 := Nat.lt_of_lt_of_eq t.isLt N_0
    have e1 : (grid0.coords t 0).val = t.val / 1 % 64 := Pipeline.Grid.coords_val t 0 (by decide) rfl
    simp only [first, e1]
    word_cmp
   : ∀ t : Fin grid0.N, first (grid0.coords t) ↔ t.val = 0)

set_option maxHeartbeats 8000000 in
/-- The body's run at the first grid point, where the branch zeroes the carried counts: the pieces its stores leave in the three
    results' staging buffers and in the carried counts (last first), with the proof that the body, called on whole
    buffers, ends with the inputs as they were and those pieces written. -/
noncomputable def runA (c : Dev nD) (i : grid0.Coords)
    (arg1 : Memref sig .tc .vmem S512x512 .bf16) (harg1 : arg1.IsWhole)
    (arg2 : Memref sig .tc .vmem S512x512 .bf16) (harg2 : arg2.IsWhole)
    (arg3 : Memref sig .tc .vmem S512x1024 .f32) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S128x1024 .bf16) (harg7 : arg7.IsWhole)
    (arg8 : Memref sig .tc .vmem S4608x128 .f32) (harg8 : arg8.IsWhole)
    (arg9 : Memref sig .tc .vmem S1x8x512 .i32) (harg9 : arg9.IsWhole)
    (arg10 : Memref sig .tc .vmem S128x128 .f32) (harg10 : arg10.IsWhole)
    (arg11 : Memref sig .tc .vmem S128x128 .f32) (harg11 : arg11.IsWhole)
    (hc : first i)
    (x0 : Vec F S512x512 .bf16) (x1 : Vec F S512x512 .bf16) (x2 : Vec F S512x1024 .f32) (x3 : Vec F S512x1024 .bf16) (x4 : Vec F S512x1024 .bf16) (x5 : Vec F S1x1024 .f32) (x6 : Vec F S128x1024 .bf16) :
    Σ' (L7 : List (View.Piece (Elt F) S4608x128 .f32)) (L8 : List (View.Piece (Elt F) S1x8x512 .i32)) (L9 : List (View.Piece (Elt F) S128x128 .f32)), { LS : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_outproj_router_eq_skeleton]; unfold cc0_outproj_router_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    set_option sl_exec.squeezeSlice true in sl_exec! (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS

set_option maxHeartbeats 8000000 in
/-- The body's run at a later grid point, where the carried counts are `xs`: the pieces its stores leave in the three
    results' staging buffers and in the carried counts (last first), with the proof that the body, called on whole
    buffers, ends with the inputs as they were and those pieces written. -/
noncomputable def runB (c : Dev nD) (i : grid0.Coords)
    (arg1 : Memref sig .tc .vmem S512x512 .bf16) (harg1 : arg1.IsWhole)
    (arg2 : Memref sig .tc .vmem S512x512 .bf16) (harg2 : arg2.IsWhole)
    (arg3 : Memref sig .tc .vmem S512x1024 .f32) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S128x1024 .bf16) (harg7 : arg7.IsWhole)
    (arg8 : Memref sig .tc .vmem S4608x128 .f32) (harg8 : arg8.IsWhole)
    (arg9 : Memref sig .tc .vmem S1x8x512 .i32) (harg9 : arg9.IsWhole)
    (arg10 : Memref sig .tc .vmem S128x128 .f32) (harg10 : arg10.IsWhole)
    (arg11 : Memref sig .tc .vmem S128x128 .f32) (harg11 : arg11.IsWhole)
    (hc : ¬first i)
    (x0 : Vec F S512x512 .bf16) (x1 : Vec F S512x512 .bf16) (x2 : Vec F S512x1024 .f32) (x3 : Vec F S512x1024 .bf16) (x4 : Vec F S512x1024 .bf16) (x5 : Vec F S1x1024 .f32) (x6 : Vec F S128x1024 .bf16) (xs : Vec F S128x128 .f32) :
    Σ' (L7 : List (View.Piece (Elt F) S4608x128 .f32)) (L8 : List (View.Piece (Elt F) S1x8x512 .i32)) (L9 : List (View.Piece (Elt F) S128x128 .f32)), { LS : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0_outproj_router i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_outproj_router_eq_skeleton]; unfold cc0_outproj_router_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs
    set_option sl_exec.squeezeSlice true in sl_exec! (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS

end Cert.OutIdeal.Router

end
-- ==== Proof.OutFrame.lean ====
module

public import proofs.«01_k».proof.Proof.OutBody
public import Idealize.ShloMosaic.Lib.Claim
public import Idealize.ShloMosaic.Lib.Pipeline.ValueKit

@[expose] public section

set_option maxRecDepth 16384

noncomputable section

namespace Cert.OutIdeal.Router

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the views the results are read through -/

abbrev st0 (t : Fin cfg0.N) : Memref sig .tc .vmem S512x512 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S512x512 .bf16 := win0_1.stage (cfg0.slots t 1)
abbrev hst1 (t : Fin cfg0.N) : (st1 t).IsWhole := hstage0_1 ((cfg0.slots t 1).cast nbuf0_1)
abbrev st2 (t : Fin cfg0.N) : Memref sig .tc .vmem S512x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S512x1024 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S512x1024 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S1x1024 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S128x1024 .bf16 := win0_6.stage (cfg0.slots t 6)
abbrev hst6 (t : Fin cfg0.N) : (st6 t).IsWhole := hstage0_6 ((cfg0.slots t 6).cast nbuf0_6)
abbrev st7 (t : Fin cfg0.N) : Memref sig .tc .vmem S4608x128 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S1x8x512 .i32 := win0_8.stage (cfg0.slots t 8)
abbrev hst8 (t : Fin cfg0.N) : (st8 t).IsWhole := hstage0_8 ((cfg0.slots t 8).cast nbuf0_8)
abbrev st9 (t : Fin cfg0.N) : Memref sig .tc .vmem S128x128 .f32 := win0_9.stage (cfg0.slots t 9)
abbrev hst9 (t : Fin cfg0.N) : (st9 t).IsWhole := hstage0_9 ((cfg0.slots t 9).cast nbuf0_9)
/-- The carried counts, a scoped buffer of the kernel's own. -/
abbrev scM : Memref sig .tc .vmem S128x128 .f32 := Memref.whole cc0_scratch0
abbrev VO7 : View sig .tc .vmem S4608x128 .f32 := (Memref.whole cc0_stg7_0 : Memref sig .tc .vmem S4608x128 .f32).view
abbrev VO8 : View sig .tc .vmem S1x8x512 .i32 := (Memref.whole cc0_stg8_0 : Memref sig .tc .vmem S1x8x512 .i32).view
abbrev VO9 : View sig .tc .vmem S128x128 .f32 := (Memref.whole cc0_stg9_0 : Memref sig .tc .vmem S128x128 .f32).view
abbrev VS : View sig .tc .vmem S128x128 .f32 := scM.view

/-- What the region hands over before its first point: the counts at anything, the generator at some state. -/
theorem handed (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What one point leaves -/

theorem emb_strided (p : Nat) (hp : p < 9) (inb) (spos) (x : S512x128.Idx) :
    (⟨⟨![p, 0], S512x128.size, ![9, 1], inb⟩, spos⟩ : Rect S4608x128).emb x
      = ix2 (⟨9 * (x 0).val + p, by have : (x 0).val < 512 := (x 0).isLt; omega⟩ : Fin 4608) (x 1) := by
  refine Rect.emb_eq_of_coords _ _ _ fun b => ?_
  fin_cases b
  · show 9 * (x 0).val + p = p + 9 * (x 0).val; omega
  · show (x 1).val = 0 + 1 * (x 1).val; omega

theorem mem_strided (p : Nat) (hp : p < 9) (inb) (spos) (y : S4608x128.Idx) (h : (y 0).val % 9 = p) :
    y ∈ (⟨⟨![p, 0], S512x128.size, ![9, 1], inb⟩, spos⟩ : Rect S4608x128).set := by
  have e := emb_strided p hp inb spos (ix2 (⟨(y 0).val / 9, by have : (y 0).val < 4608 := (y 0).isLt; omega⟩ : Fin 512) (y 1))
  have hy : y = ix2 (⟨9 * ((y 0).val / 9) + p, by have : (y 0).val < 4608 := (y 0).isLt; omega⟩ : Fin 4608) (y 1) := by
    funext b; apply Fin.ext; fin_cases b
    · show (y 0).val = 9 * ((y 0).val / 9) + p; omega
    · rfl
  rw [hy, ← Rect.map_emb_univ]
  exact Finset.mem_map.mpr ⟨_, Finset.mem_univ _, e⟩

/-- The nine strided pieces cover the slots' block. -/
theorem strided_cover (w0 w1 w2 w3 w4 w5 w6 w7 w8 : S512x128.Idx → Elt F .f32) (y : S4608x128.Idx) :
    ∃ p ∈ ([⟨⟨(⟨![8, 0], S512x128.size, ![9, 1], inb_S4608x128_S512x128_8_0_s_9_1⟩ : LoadRect S4608x128), spos_9_1⟩, w8⟩, ⟨⟨(⟨![7, 0], S512x128.size, ![9, 1], inb_S4608x128_S512x128_7_0_s_9_1⟩ : LoadRect S4608x128), spos_9_1⟩, w7⟩, ⟨⟨(⟨![6, 0], S512x128.size, ![9, 1], inb_S4608x128_S512x128_6_0_s_9_1⟩ : LoadRect S4608x128), spos_9_1⟩, w6⟩, ⟨⟨(⟨![5, 0], S512x128.size, ![9, 1], inb_S4608x128_S512x128_5_0_s_9_1⟩ : LoadRect S4608x128), spos_9_1⟩, w5⟩, ⟨⟨(⟨![4, 0], S512x128.size, ![9, 1], inb_S4608x128_S512x128_4_0_s_9_1⟩ : LoadRect S4608x128), spos_9_1⟩, w4⟩, ⟨⟨(⟨![3, 0], S512x128.size, ![9, 1], inb_S4608x128_S512x128_3_0_s_9_1⟩ : LoadRect S4608x128), spos_9_1⟩, w3⟩, ⟨⟨(⟨![2, 0], S512x128.size, ![9, 1], inb_S4608x128_S512x128_2_0_s_9_1⟩ : LoadRect S4608x128), spos_9_1⟩, w2⟩, ⟨⟨(⟨![1, 0], S512x128.size, ![9, 1], inb_S4608x128_S512x128_1_0_s_9_1⟩ : LoadRect S4608x128), spos_9_1⟩, w1⟩, ⟨⟨(⟨![0, 0], S512x128.size, ![9, 1], inb_S4608x128_S512x128_0_0_s_9_1⟩ : LoadRect S4608x128), spos_9_1⟩, w0⟩] : List (View.Piece (Elt F) S4608x128 .f32)), y ∈ p.1.set := by
  have h9 : (y 0).val % 9 < 9 := Nat.mod_lt _ (by decide)
  simp only [List.exists_mem_cons_iff]
  by_cases h8 : (y 0).val % 9 = 8; · exact .inl (mem_strided 8 (by decide) _ spos_9_1 y h8)
  refine .inr ?_
  by_cases h7 : (y 0).val % 9 = 7; · exact .inl (mem_strided 7 (by decide) _ spos_9_1 y h7)
  refine .inr ?_
  by_cases h6 : (y 0).val % 9 = 6; · exact .inl (mem_strided 6 (by decide) _ spos_9_1 y h6)
  refine .inr ?_
  by_cases h5 : (y 0).val % 9 = 5; · exact .inl (mem_strided 5 (by decide) _ spos_9_1 y h5)
  refine .inr ?_
  by_cases h4 : (y 0).val % 9 = 4; · exact .inl (mem_strided 4 (by decide) _ spos_9_1 y h4)
  refine .inr ?_
  by_cases h3 : (y 0).val % 9 = 3; · exact .inl (mem_strided 3 (by decide) _ spos_9_1 y h3)
  refine .inr ?_
  by_cases h2 : (y 0).val % 9 = 2; · exact .inl (mem_strided 2 (by decide) _ spos_9_1 y h2)
  refine .inr ?_
  by_cases h1 : (y 0).val % 9 = 1; · exact .inl (mem_strided 1 (by decide) _ spos_9_1 y h1)
  refine .inr ?_
  exact .inl (mem_strided 0 (by decide) _ spos_9_1 y (by omega))

/-- The run at point `t` (the first), on the point's staging buffers and input blocks. -/
abbrev atA (c : Dev nD) (t : Fin cfg0.N) (h : t.val = 0) :=
  runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) scM (Memref.isWhole_whole _) ((first_iff t).mpr h) (iblk m c 0 t) (iblk m c 1 t) (iblk m c 2 t) (iblk m c 3 t) (iblk m c 4 t) (iblk m c 5 t) (iblk m c 6 t)

theorem slots_coverA (c : Dev nD) (t : Fin cfg0.N) (h : t.val = 0) (y : S4608x128.Idx) :
    ∃ pc ∈ (atA m c t h).1, y ∈ pc.1.set :=
  strided_cover _ _ _ _ _ _ _ _ _ y

def slotsA (c : Dev nD) (t : Fin cfg0.N) (h : t.val = 0) : Vec F S4608x128 .f32 :=
  VO7.read (Elt F) (VO7.writes (Elt F) VO7.junk (atA m c t h).1)

theorem route_coverA (c : Dev nD) (t : Fin cfg0.N) (h : t.val = 0) (y : S1x8x512.Idx) :
    ∃ pc ∈ (atA m c t h).2.1, y ∈ pc.1.set :=
  View.cover_of_tiledL (atA m c t h).2.1 S1x8x512.size (by sl_kernel_rfl) y

def routeA (c : Dev nD) (t : Fin cfg0.N) (h : t.val = 0) : Vec F S1x8x512 .i32 :=
  VO8.read (Elt F) (VO8.writes (Elt F) VO8.junk (atA m c t h).2.1)

theorem counts_coverA (c : Dev nD) (t : Fin cfg0.N) (h : t.val = 0) (y : S128x128.Idx) :
    ∃ pc ∈ (atA m c t h).2.2.1, y ∈ pc.1.set :=
  View.cover_of_tiledL (atA m c t h).2.2.1 S128x128.size (by sl_kernel_rfl) y

def countsA (c : Dev nD) (t : Fin cfg0.N) (h : t.val = 0) : Vec F S128x128 .f32 :=
  VO9.read (Elt F) (VO9.writes (Elt F) VO9.junk (atA m c t h).2.2.1)

theorem carried_coverA (c : Dev nD) (t : Fin cfg0.N) (h : t.val = 0) (y : S128x128.Idx) :
    ∃ pc ∈ (atA m c t h).2.2.2.1, y ∈ pc.1.set :=
  View.cover_of_tiledL (atA m c t h).2.2.2.1 S128x128.size (by sl_kernel_rfl) y

def carriedA (c : Dev nD) (t : Fin cfg0.N) (h : t.val = 0) : Vec F S128x128 .f32 :=
  VS.read (Elt F) (VS.writes (Elt F) VS.junk (atA m c t h).2.2.2.1)

/-- The run at point `t` (a later one), on the point's staging buffers and input blocks. -/
abbrev atB (c : Dev nD) (t : Fin cfg0.N) (h : ¬ t.val = 0) (xs : Vec F S128x128 .f32) :=
  runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) scM (Memref.isWhole_whole _) (fun h' => h ((first_iff t).mp h')) (iblk m c 0 t) (iblk m c 1 t) (iblk m c 2 t) (iblk m c 3 t) (iblk m c 4 t) (iblk m c 5 t) (iblk m c 6 t) xs

theorem slots_coverB (c : Dev nD) (t : Fin cfg0.N) (h : ¬ t.val = 0) (xs : Vec F S128x128 .f32) (y : S4608x128.Idx) :
    ∃ pc ∈ (atB m c t h xs).1, y ∈ pc.1.set :=
  strided_cover _ _ _ _ _ _ _ _ _ y

def slotsB (c : Dev nD) (t : Fin cfg0.N) (h : ¬ t.val = 0) (xs : Vec F S128x128 .f32) : Vec F S4608x128 .f32 :=
  VO7.read (Elt F) (VO7.writes (Elt F) VO7.junk (atB m c t h xs).1)

theorem route_coverB (c : Dev nD) (t : Fin cfg0.N) (h : ¬ t.val = 0) (xs : Vec F S128x128 .f32) (y : S1x8x512.Idx) :
    ∃ pc ∈ (atB m c t h xs).2.1, y ∈ pc.1.set :=
  View.cover_of_tiledL (atB m c t h xs).2.1 S1x8x512.size (by sl_kernel_rfl) y

def routeB (c : Dev nD) (t : Fin cfg0.N) (h : ¬ t.val = 0) (xs : Vec F S128x128 .f32) : Vec F S1x8x512 .i32 :=
  VO8.read (Elt F) (VO8.writes (Elt F) VO8.junk (atB m c t h xs).2.1)

theorem counts_coverB (c : Dev nD) (t : Fin cfg0.N) (h : ¬ t.val = 0) (xs : Vec F S128x128 .f32) (y : S128x128.Idx) :
    ∃ pc ∈ (atB m c t h xs).2.2.1, y ∈ pc.1.set :=
  View.cover_of_tiledL (atB m c t h xs).2.2.1 S128x128.size (by sl_kernel_rfl) y

def countsB (c : Dev nD) (t : Fin cfg0.N) (h : ¬ t.val = 0) (xs : Vec F S128x128 .f32) : Vec F S128x128 .f32 :=
  VO9.read (Elt F) (VO9.writes (Elt F) VO9.junk (atB m c t h xs).2.2.1)

theorem carried_coverB (c : Dev nD) (t : Fin cfg0.N) (h : ¬ t.val = 0) (xs : Vec F S128x128 .f32) (y : S128x128.Idx) :
    ∃ pc ∈ (atB m c t h xs).2.2.2.1, y ∈ pc.1.set :=
  View.cover_of_tiledL (atB m c t h xs).2.2.2.1 S128x128.size (by sl_kernel_rfl) y

def carriedB (c : Dev nD) (t : Fin cfg0.N) (h : ¬ t.val = 0) (xs : Vec F S128x128 .f32) : Vec F S128x128 .f32 :=
  VS.read (Elt F) (VS.writes (Elt F) VS.junk (atB m c t h xs).2.2.2.1)

/-- What each point leaves in the results' staging buffers and in the carried counts: from the counts the point before left. -/
def left (c : Dev nD) : (n : ℕ) → n < cfg0.N → Vec F S4608x128 .f32 × Vec F S1x8x512 .i32 × Vec F S128x128 .f32 × Vec F S128x128 .f32
  | 0, hn => (slotsA m c ⟨0, hn⟩ rfl, routeA m c ⟨0, hn⟩ rfl, countsA m c ⟨0, hn⟩ rfl, carriedA m c ⟨0, hn⟩ rfl)
  | n + 1, hn => (slotsB m c ⟨n + 1, hn⟩ (Nat.succ_ne_zero n) (left c n (Nat.lt_of_succ_lt hn)).2.2.2, routeB m c ⟨n + 1, hn⟩ (Nat.succ_ne_zero n) (left c n (Nat.lt_of_succ_lt hn)).2.2.2, countsB m c ⟨n + 1, hn⟩ (Nat.succ_ne_zero n) (left c n (Nat.lt_of_succ_lt hn)).2.2.2, carriedB m c ⟨n + 1, hn⟩ (Nat.succ_ne_zero n) (left c n (Nat.lt_of_succ_lt hn)).2.2.2)

theorem left_A (c : Dev nD) (t : Fin cfg0.N) (h : t.val = 0) :
    left m c t.val t.isLt = (slotsA m c t h, routeA m c t h, countsA m c t h, carriedA m c t h) := by
  obtain ⟨n, hn⟩ := t
  cases n with
  | zero => exact rfl
  | succ n => exact absurd h (Nat.succ_ne_zero n)

theorem left_B (c : Dev nD) (t : Fin cfg0.N) (h : ¬ t.val = 0) :
    left m c t.val t.isLt = (slotsB m c t h (left m c (t.val - 1) (Nat.lt_of_le_of_lt (Nat.sub_le _ _) t.isLt)).2.2.2, routeB m c t h (left m c (t.val - 1) (Nat.lt_of_le_of_lt (Nat.sub_le _ _) t.isLt)).2.2.2, countsB m c t h (left m c (t.val - 1) (Nat.lt_of_le_of_lt (Nat.sub_le _ _) t.isLt)).2.2.2, carriedB m c t h (left m c (t.val - 1) (Nat.lt_of_le_of_lt (Nat.sub_le _ _) t.isLt)).2.2.2) := by
  obtain ⟨n, hn⟩ := t
  cases n with
  | zero => exact absurd rfl h
  | succ n => exact rfl

/-- The region's invariant before point `n`: at first what the region hands over, then the carried counts at what the
    point before left. -/
def inv (c : Dev nD) : (n : ℕ) → n ≤ cfg0.N → sProp 𝕄
  | 0, _ => Pipeline.ΦA spec0 c
  | n + 1, hn => iprop(iprop(owns (c : Thread nD τ) scM fullShare ((left m c n hn).2.2.2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scM fullShare ((left m c n hn).2.2.2)) ∗ (∃ r, prngReg c r)) := rfl

theorem inv_pos (c : Dev nD) (n : ℕ) (h : n ≤ cfg0.N) (hz : n ≠ 0) :
    inv m c n h = iprop(iprop(owns (c : Thread nD τ) scM fullShare ((left m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).1
    | ⟨8, _⟩ => (left m c t.val t.isLt).2.1
    | ⟨9, _⟩ => (left m c t.val t.isLt).2.2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = (left m c t.val t.isLt).1 := by dsimp only [dats]
theorem after_8 (c : Dev nD) (t : Fin cfg0.N) : (dats m 0 c).after 8 t = (left m c t.val t.isLt).2.1 := by dsimp only [dats]
theorem after_9 (c : Dev nD) (t : Fin cfg0.N) : (dats m 0 c).after 9 t = (left m c t.val t.isLt).2.2.1 := by dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t))

set_option maxHeartbeats 6400000 in
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9]
  rw [show (dats m 0 c).Φ t.succ = inv m c (t.val + 1) t.isLt from rfl, inv_succ]
  by_cases h : t.val = 0
  · rw [inv_castSucc m c t, inv_zero m c _ _ h, handed, left_A m c t h]
    unfold slotsA routeA countsA carriedA; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((first_iff t).mpr h) (iblk m c 0 t) (iblk m c 1 t) (iblk m c 2 t) (iblk m c 3 t) (iblk m c 4 t) (iblk m c 5 t) (iblk m c 6 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, ⟨%es, HS⟩⟩
    isplitl [HS Hg]
    · isplitl [HS]
      · unfold owns; iexists _; isplitr
        swap; · iexact HS
        ipureintro; exact View.read_writes_of_cover _ _ _ _ _ (carried_coverA m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (slots_coverA m c t h)
    isplitl [H8]
    · unfold owns; iexists _; isplitr
      swap; · iexact H8
      ipureintro; exact View.read_writes_of_cover _ _ _ _ _ (route_coverA m c t h)
    unfold owns; iexists _; isplitr
    swap; · iexact H9
    ipureintro; exact View.read_writes_of_cover _ _ _ _ _ (counts_coverA m c t h)
  · rw [inv_castSucc m c t, inv_pos m c _ _ h, left_B m c t h]
    unfold slotsB routeB countsB carriedB; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ (fun h' => h ((first_iff t).mp h')) (iblk m c 0 t) (iblk m c 1 t) (iblk m c 2 t) (iblk m c 3 t) (iblk m c 4 t) (iblk m c 5 t) (iblk m c 6 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, ⟨%es, HS⟩⟩
    isplitl [HS Hg]
    · isplitl [HS]
      · unfold owns; iexists _; isplitr
        swap; · iexact HS
        ipureintro; exact View.read_writes_of_cover _ _ _ _ _ (carried_coverB m c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (slots_coverB m c t h _)
    isplitl [H8]
    · unfold owns; iexists _; isplitr
      swap; · iexact H8
      ipureintro; exact View.read_writes_of_cover _ _ _ _ _ (route_coverB m c t h _)
    unfold owns; iexists _; isplitr
    swap; · iexact H9
    ipureintro; exact View.read_writes_of_cover _ _ _ _ _ (counts_coverB m c t h _)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 64 := N_0; omega
  rw [show (dats m 0 c).Φ (Fin.last cfg0.N) = inv m c (Fin.last cfg0.N).val (Nat.le_of_lt_succ (Fin.last cfg0.N).isLt) from rfl,
    inv_pos m c _ _ hz, handed]
  iintro ⟨HS, Hg⟩
  isplitl [HS]
  · iexists _; iexact HS
  iexact Hg

/-! ## The launch -/

set_option backward.isDefEq.respectTransparency.types false in
/-- Every execution of the program ends, with each array of the pipeline at what the proof data computes, every other
    buffer as the region found it, and every semaphore counter at zero. -/
theorem run_main : θ_run defs (onTc (τ := τ) (main (F := F))) (s₀ m ρ) (fun r => (Pipeline.FramePost cfgs (dats m) 0
    (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps
    (hmain m Variants.none) (hA := A_eq m) (hin := hin m) (hout := hout m)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OutIdeal.Router

end
-- ==== Proof.OutValue.lean ====
module

public import proofs.«01_k».proof.Proof.OutFrame
public import proofs.«01_k».proof.Proof.Gen.OutRefIdeal.Run
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.OutIdeal.Router

open Cert.OutIdeal Cert.OutIdeal.Gen

/-! ## The slots a point leaves: eight rows of a token, then the row of route weights -/

section
variable {F : FTy → Type} [FloatOps F]

/-- The pieces a point writes its slots in. -/
def slotPieces (w8 : FVec F S512x128 .f32) (M : FVec F S512x1024 .f32) : List (View.Piece (Elt F) S4608x128 .f32) :=
  [⟨⟨(⟨![8, 0], S512x128.size, ![9, 1], inb_S4608x128_S512x128_8_0_s_9_1⟩ : LoadRect S4608x128), spos_9_1⟩, w8⟩,
    ⟨⟨(⟨![7, 0], S512x128.size, ![9, 1], inb_S4608x128_S512x128_7_0_s_9_1⟩ : LoadRect S4608x128), spos_9_1⟩, k0_pay2 M⟩,
    ⟨⟨(⟨![6, 0], S512x128.size, ![9, 1], inb_S4608x128_S512x128_6_0_s_9_1⟩ : LoadRect S4608x128), spos_9_1⟩, k0_pay1 M⟩,
    ⟨⟨(⟨![5, 0], S512x128.size, ![9, 1], inb_S4608x128_S512x128_5_0_s_9_1⟩ : LoadRect S4608x128), spos_9_1⟩, k0_pay53 M⟩,
    ⟨⟨(⟨![4, 0], S512x128.size, ![9, 1], inb_S4608x128_S512x128_4_0_s_9_1⟩ : LoadRect S4608x128), spos_9_1⟩, k0_pay52 M⟩,
    ⟨⟨(⟨![3, 0], S512x128.size, ![9, 1], inb_S4608x128_S512x128_3_0_s_9_1⟩ : LoadRect S4608x128), spos_9_1⟩, k0_pay51 M⟩,
    ⟨⟨(⟨![2, 0], S512x128.size, ![9, 1], inb_S4608x128_S512x128_2_0_s_9_1⟩ : LoadRect S4608x128), spos_9_1⟩, k0_pay50 M⟩,
    ⟨⟨(⟨![1, 0], S512x128.size, ![9, 1], inb_S4608x128_S512x128_1_0_s_9_1⟩ : LoadRect S4608x128), spos_9_1⟩, k0_pay49 M⟩,
    ⟨⟨(⟨![0, 0], S512x128.size, ![9, 1], inb_S4608x128_S512x128_0_0_s_9_1⟩ : LoadRect S4608x128), spos_9_1⟩, k0_pay48 M⟩]

/-- What those pieces leave, entry by entry. -/
def slotOf (w8 : FVec F S512x128 .f32) (M : FVec F S512x1024 .f32) (y : S4608x128.Idx) : F .f32 :=
  if (y 0).val % 9 = 8 then w8 (ix2 (⟨(y 0).val / 9, by have : (y 0).val < 4608 := (y 0).isLt; omega⟩ : Fin 512) (y 1))
  else M (ix2 (⟨(y 0).val / 9, by have : (y 0).val < 4608 := (y 0).isLt; omega⟩ : Fin 512)
    (⟨(y 0).val % 9 % 8 * 128 + (y 1).val, by have : (y 1).val < 128 := (y 1).isLt; omega⟩ : Fin 1024))

theorem token_row (p o : Nat) (hp : p < 8) (ho : o = p * 128) (w8 : FVec F S512x128 .f32) (M : FVec F S512x1024 .f32) (inb) (spos) (sl) (x : S512x128.Idx) :
    extractStridedSlice S512x128 ![0, o] M sl x = slotOf w8 M ((⟨⟨![p, 0], S512x128.size, ![9, 1], inb⟩, spos⟩ : Rect S4608x128).emb x) := by
  rw [emb_strided p (by omega)]; unfold slotOf
  refine Eq.trans ?_ (if_neg (show ¬(9 * (x 0).val + p) % 9 = 8 by omega)).symm
  refine congrArg M (funext fun b => Fin.ext ?_)
  fin_cases b
  · show 0 + (x 0).val = (9 * (x 0).val + p) / 9; omega
  · show o + (x 1).val = (9 * (x 0).val + p) % 9 % 8 * 128 + (x 1).val; omega

theorem slot_agree (w8 : FVec F S512x128 .f32) (M : FVec F S512x1024 .f32) :
    ∀ p ∈ slotPieces w8 M, ∀ x : p.1.shape.Idx, p.2 x = slotOf w8 M (p.1.emb x) := by
  unfold slotPieces
  simp only [List.forall_mem_cons, List.not_mem_nil, false_implies, implies_true, and_true]
  refine ⟨fun x => ?_, fun x => ?_, fun x => ?_, fun x => ?_, fun x => ?_, fun x => ?_, fun x => ?_, fun x => ?_, fun x => ?_⟩
  · rw [emb_strided 8 (by decide)]; unfold slotOf
    refine Eq.trans ?_ (if_pos (show (9 * (x 0).val + 8) % 9 = 8 by omega)).symm
    refine congrArg w8 (funext fun b => Fin.ext ?_)
    fin_cases b
    · show (x 0).val = (9 * (x 0).val + 8) / 9; omega
    · rfl
  · exact token_row 7 896 (by decide) rfl w8 M _ _ slices_S512x1024_o0_896_S512x128 x
  · exact token_row 6 768 (by decide) rfl w8 M _ _ slices_S512x1024_o0_768_S512x128 x
  · exact token_row 5 640 (by decide) rfl w8 M _ _ slices_S512x1024_o0_640_S512x128 x
  · exact token_row 4 512 (by decide) rfl w8 M _ _ slices_S512x1024_o0_512_S512x128 x
  · exact token_row 3 384 (by decide) rfl w8 M _ _ slices_S512x1024_o0_384_S512x128 x
  · exact token_row 2 256 (by decide) rfl w8 M _ _ slices_S512x1024_o0_256_S512x128 x
  · exact token_row 1 128 (by decide) rfl w8 M _ _ slices_S512x1024_o0_128_S512x128 x
  · exact token_row 0 0 (by decide) rfl w8 M _ _ slices_S512x1024_o0_0_S512x128 x

/-- Row `p` of token `i`'s slot, for a row of the token, is the token's columns from `128 p` on. -/
theorem slot_read (w8 : FVec F S512x128 .f32) (M : FVec F S512x1024 .f32) (i : Fin 512) (p : Fin 8) (l : Fin 128) :
    VO7.read (Elt F) (VO7.writes (Elt F) VO7.junk (slotPieces w8 M)) (ix2 (⟨9 * i.val + p.val, by omega⟩ : Fin 4608) l)
      = M (ix2 i (⟨p.val * 128 + l.val, by omega⟩ : Fin 1024)) := by
  refine (View.read_writes_apply_of_pieces (Val := Elt F) (e := .f32) VO7 _ (slotOf w8 M) _ (slot_agree w8 M) _ (strided_cover _ _ _ _ _ _ _ _ _ _)).trans ?_
  unfold slotOf
  refine (if_neg (show ¬(9 * i.val + p.val) % 9 = 8 by omega)).trans (congrArg M (funext fun b => Fin.ext ?_))
  fin_cases b
  · show (9 * i.val + p.val) / 9 = i.val; omega
  · show (9 * i.val + p.val) % 9 % 8 * 128 + l.val = p.val * 128 + l.val; omega

variable (m : (ℓ : Loc nD τ sig) → Buf (Elt F) ℓ)

/-- The residual rows of a point's tokens. -/
abbrev resid (c : Dev nD) (t : Fin cfg0.N) : FVec F S512x1024 .f32 :=
  k0_pay5 (iblk m c 2 t) (iblk m c 0 t) (iblk m c 3 t) (iblk m c 1 t) (iblk m c 4 t)

set_option maxHeartbeats 4000000 in
theorem piecesA (c : Dev nD) (t : Fin cfg0.N) (h : t.val = 0) : ∃ w8, (atA m c t h).1 = slotPieces w8 (resid m c t) := by
  have e : ∃ w8 M, (atA m c t h).1 = slotPieces w8 M ∧ M = resid m c t := by
    refine ⟨_, _, rfl, ?_⟩
    simp only [View.readAt_eq_ld, View.read_rep, (hst0 t).read_unread, (hst1 t).read_unread, (hst2 t).read_unread, (hst3 t).read_unread, (hst4 t).read_unread,
      View.ld_unit_zero (S := S512x1024) (off := ![0, 0]) (by decide), View.ld_unit_zero (S := S512x512) (off := ![0, 0]) (by decide)]
  obtain ⟨w8, M, e, rfl⟩ := e
  exact ⟨w8, e⟩

set_option maxHeartbeats 4000000 in
theorem piecesB (c : Dev nD) (t : Fin cfg0.N) (h : ¬t.val = 0) (xs : Vec F S128x128 .f32) : ∃ w8, (atB m c t h xs).1 = slotPieces w8 (resid m c t) := by
  have e : ∃ w8 M, (atB m c t h xs).1 = slotPieces w8 M ∧ M = resid m c t := by
    refine ⟨_, _, rfl, ?_⟩
    simp only [View.readAt_eq_ld, View.read_rep, (hst0 t).read_unread, (hst1 t).read_unread, (hst2 t).read_unread, (hst3 t).read_unread, (hst4 t).read_unread,
      View.ld_unit_zero (S := S512x1024) (off := ![0, 0]) (by decide), View.ld_unit_zero (S := S512x512) (off := ![0, 0]) (by decide)]
  obtain ⟨w8, M, e, rfl⟩ := e
  exact ⟨w8, e⟩

theorem row_of_pieces (L : List (View.Piece (Elt F) S4608x128 .f32)) (M : FVec F S512x1024 .f32) (h : ∃ w8, L = slotPieces w8 M) (i : Fin 512) (p : Fin 8) (l : Fin 128) :
    VO7.read (Elt F) (VO7.writes (Elt F) VO7.junk L) (ix2 (⟨9 * i.val + p.val, by omega⟩ : Fin 4608) l)
      = M (ix2 i (⟨p.val * 128 + l.val, by omega⟩ : Fin 1024)) := by
  obtain ⟨w8, rfl⟩ := h
  exact slot_read w8 M i p l

theorem slotsA_row (c : Dev nD) (t : Fin cfg0.N) (h : t.val = 0) (i : Fin 512) (p : Fin 8) (l : Fin 128) :
    slotsA m c t h (ix2 (⟨9 * i.val + p.val, by omega⟩ : Fin 4608) l) = resid m c t (ix2 i (⟨p.val * 128 + l.val, by omega⟩ : Fin 1024)) := by
  unfold slotsA; exact row_of_pieces _ _ (piecesA m c t h) i p l

theorem slotsB_row (c : Dev nD) (t : Fin cfg0.N) (h : ¬t.val = 0) (xs : Vec F S128x128 .f32) (i : Fin 512) (p : Fin 8) (l : Fin 128) :
    slotsB m c t h xs (ix2 (⟨9 * i.val + p.val, by omega⟩ : Fin 4608) l) = resid m c t (ix2 i (⟨p.val * 128 + l.val, by omega⟩ : Fin 1024)) := by
  unfold slotsB; exact row_of_pieces _ _ (piecesB m c t h xs) i p l

/-- A token's row of the slots a point leaves, whichever run the point takes. -/
theorem left_slot (c : Dev nD) (t : Fin cfg0.N) (i : Fin 512) (p : Fin 8) (l : Fin 128) :
    (left m c t.val t.isLt).1 (ix2 (⟨9 * i.val + p.val, by omega⟩ : Fin 4608) l)
      = resid m c t (ix2 i (⟨p.val * 128 + l.val, by omega⟩ : Fin 1024)) := by
  by_cases h : t.val = 0
  · rw [left_A m c t h]; dsimp only; exact slotsA_row m c t h i p l
  · rw [left_B m c t h]; dsimp only; exact slotsB_row m c t h _ i p l

end

/-! ## The windows' blocks, at the extended reals -/

variable (m : (ℓ : Loc nD τ sig) → Buf (Elt Ideal) ℓ) (ρ : Dev nD → PrngReg)

theorem resid_apply (x : FVec Ideal S512x1024 .f32) (ys yh : FVec Ideal S512x512 .bf16) (w1 w2 : FVec Ideal S512x1024 .bf16) (i : Fin 512) (n : Fin 1024) :
    k0_pay5 (F := Ideal) x ys w1 yh w2 (ix2 i n)
      = x (ix2 i n) + (∑ k, ys (ix2 i k) * w1 (ix2 k n)) + ∑ k, yh (ix2 i k) * w2 (ix2 k n) := by
  pointwise [k0_pay5]

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_7.index t = ![t.val, 0] :=
  (by decide +kernel : ∀ t : Fin grid0.N, _)

/-- The row of the token axis that row `r` of point `t`'s block is. -/
abbrev rowAt (t : Fin cfg0.N) (r : Fin 512) : Fin 32768 :=
  ⟨t.val * 512 + r.val, by have : t.val < 64 := lt_of_lt_of_eq t.isLt (show cfg0.N = 64 from N_0); omega⟩

theorem ys_block (c : Dev nD) (t : Fin cfg0.N) (r : Fin 512) (k : Fin 512) :
    iblk m c 0 t (ix2 r k) = m ((c : Thread nD τ).loc main_arg0) (ix2 (rowAt t r) k) := by
  have : iblk m c 0 t (ix2 r k) = V m c main_arg0 (ix2 (rowAt t r) k) := by blk_ext [iblk, idx t]
  rw [this, V_main_arg0]

theorem yh_block (c : Dev nD) (t : Fin cfg0.N) (r : Fin 512) (k : Fin 512) :
    iblk m c 1 t (ix2 r k) = m ((c : Thread nD τ).loc main_arg1) (ix2 (rowAt t r) k) := by
  have : iblk m c 1 t (ix2 r k) = V m c main_arg1 (ix2 (rowAt t r) k) := by blk_ext [iblk, idx t]
  rw [this, V_main_arg1]

theorem x_block (c : Dev nD) (t : Fin cfg0.N) (r : Fin 512) (k : Fin 1024) :
    iblk m c 2 t (ix2 r k) = m ((c : Thread nD τ).loc main_arg2) (ix2 (rowAt t r) k) := by
  have : iblk m c 2 t (ix2 r k) = V m c main_arg2 (ix2 (rowAt t r) k) := by blk_ext [iblk, idx t]
  rw [this, V_main_arg2]

theorem w1_block (c : Dev nD) (t : Fin cfg0.N) (k : Fin 512) (n : Fin 1024) :
    iblk m c 3 t (ix2 k n) = m ((c : Thread nD τ).loc main_arg3) (ix2 (⟨k.val, by omega⟩ : Fin 1024) n) := by
  have : iblk m c 3 t (ix2 k n) = V m c main_v5 (ix2 k n) := by blk_ext [iblk, idx t]
  rw [this]; show StableHlo.after (List.flatten [hostOps0, hostOps0_1, hostOps0_2]) (fun b => m (c, b)) (Proc.devRef .tc main_v5) (ix2 k n) = _; simp only [hostOps0, hostOps0_1, hostOps0_2, List.flatten_cons, List.flatten_nil, List.append_nil, List.cons_append, List.nil_append]; entry_read; pointwise

theorem w2_block (c : Dev nD) (t : Fin cfg0.N) (k : Fin 512) (n : Fin 1024) :
    iblk m c 4 t (ix2 k n) = m ((c : Thread nD τ).loc main_arg3) (ix2 (⟨512 + k.val, by omega⟩ : Fin 1024) n) := by
  have : iblk m c 4 t (ix2 k n) = V m c main_v6 (ix2 k n) := by blk_ext [iblk, idx t]
  rw [this]; show StableHlo.after (List.flatten [hostOps0, hostOps0_1, hostOps0_2]) (fun b => m (c, b)) (Proc.devRef .tc main_v6) (ix2 k n) = _; simp only [hostOps0, hostOps0_1, hostOps0_2, List.flatten_cons, List.flatten_nil, List.append_nil, List.cons_append, List.nil_append]; entry_read; pointwise

/-! ## The reference -/

/-- The reference's residual stream after the output projection. -/
def result (Ys Yh : FVec Ideal S32768x512 .bf16) (X : FVec Ideal S32768x1024 .f32) (W : FVec Ideal S1024x1024 .f32) : FVec Ideal S32768x1024 .f32 :=
  addf X (Host.dotGeneral Cert.OutRefIdeal.dot_S32768x1024_S1024x1024_S32768x1024_1_0_0_1_n_n none (concatenate Cert.OutRefIdeal.S32768x1024 1 [⟨Cert.OutRefIdeal.S32768x512, (extf .f32 Ys Cert.OutRefIdeal.Gen.bitsLt_bf16_f32)⟩, ⟨Cert.OutRefIdeal.S32768x512, (extf .f32 Yh Cert.OutRefIdeal.Gen.bitsLt_bf16_f32)⟩] Cert.OutRefIdeal.Gen.concatenates_S32768x512_S32768x512_S32768x1024_d1) W)

/-- Its entries: the sum over the concatenated columns is the two parts' sums. -/
theorem result_apply (Ys Yh : FVec Ideal S32768x512 .bf16) (X : FVec Ideal S32768x1024 .f32) (W : FVec Ideal S1024x1024 .f32) (r : Fin 32768) (n : Fin 1024) :
    result Ys Yh X W (ix2 r n) = X (ix2 r n) + (∑ k : Fin 512, Ys (ix2 r k) * W (ix2 (⟨k.val, by omega⟩ : Fin 1024) n))
      + ∑ k : Fin 512, Yh (ix2 r k) * W (ix2 (⟨512 + k.val, by omega⟩ : Fin 1024) n) := by
  have e : result Ys Yh X W (ix2 r n) = X (ix2 r n) + ∑ k : Fin (512 + 512), (concatenate Cert.OutRefIdeal.S32768x1024 1 [⟨Cert.OutRefIdeal.S32768x512, (extf .f32 Ys Cert.OutRefIdeal.Gen.bitsLt_bf16_f32 : FVec Ideal _ .f32)⟩, ⟨Cert.OutRefIdeal.S32768x512, (extf .f32 Yh Cert.OutRefIdeal.Gen.bitsLt_bf16_f32 : FVec Ideal _ .f32)⟩] Cert.OutRefIdeal.Gen.concatenates_S32768x512_S32768x512_S32768x1024_d1) (ix2 r k) * W (ix2 k n) := by
    unfold result
    generalize (concatenate Cert.OutRefIdeal.S32768x1024 1 [⟨Cert.OutRefIdeal.S32768x512, (extf .f32 Ys Cert.OutRefIdeal.Gen.bitsLt_bf16_f32 : FVec Ideal _ .f32)⟩, ⟨Cert.OutRefIdeal.S32768x512, (extf .f32 Yh Cert.OutRefIdeal.Gen.bitsLt_bf16_f32 : FVec Ideal _ .f32)⟩] Cert.OutRefIdeal.Gen.concatenates_S32768x512_S32768x512_S32768x1024_d1) = Y
    pointwise
  rw [e, Fin.sum_univ_add, ← add_assoc]
  refine congrArg₂ (· + ·) (congrArg (X (ix2 r n) + ·) (Finset.sum_congr rfl fun k _ => congrArg₂ (· * ·) ?_ rfl)) (Finset.sum_congr rfl fun k _ => congrArg₂ (· * ·) ?_ rfl)
  · refine concatenate_pair_apply_left 1 (extf .f32 Ys Cert.OutRefIdeal.Gen.bitsLt_bf16_f32 : FVec Ideal Cert.OutRefIdeal.S32768x512 .f32) (extf .f32 Yh Cert.OutRefIdeal.Gen.bitsLt_bf16_f32 : FVec Ideal Cert.OutRefIdeal.S32768x512 .f32) Cert.OutRefIdeal.Gen.concatenates_S32768x512_S32768x512_S32768x1024_d1 (ix2 r (Fin.castAdd 512 k)) rfl (ix2 r k) fun b => ?_
    match b with
    | ⟨0, _⟩ => rfl
    | ⟨1, _⟩ => rfl
  · refine concatenate_pair_apply_right 1 (extf .f32 Ys Cert.OutRefIdeal.Gen.bitsLt_bf16_f32 : FVec Ideal Cert.OutRefIdeal.S32768x512 .f32) (extf .f32 Yh Cert.OutRefIdeal.Gen.bitsLt_bf16_f32 : FVec Ideal Cert.OutRefIdeal.S32768x512 .f32) Cert.OutRefIdeal.Gen.concatenates_S32768x512_S32768x512_S32768x1024_d1 (ix2 r (Fin.natAdd 512 k)) rfl rfl (ix2 r k) (fun b hb => ?_) (show k.val + 512 = 512 + k.val from Nat.add_comm _ _)
    match b with
    | ⟨0, _⟩ => rfl
    | ⟨1, _⟩ => exact absurd rfl hb

/-! ## The array after the region, and the lines after it -/

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem flush7 : ∀ t : Fin cfg0.N, (cfg0.win 7).flush t = true := by decide +kernel

/-- A row of a token in the slots after the region. -/
theorem slots_final (c : Dev nD) (t : Fin cfg0.N) (i : Fin 512) (p : Fin 8) (l : Fin 128) :
    (dats m 0 c).arrAt 7 cfg0.N (ix2 (⟨(rowAt t i).val * 9 + p.val, by omega⟩ : Fin 294912) l)
      = result (m ((c : Thread nD τ).loc main_arg0)) (m ((c : Thread nD τ).loc main_arg1)) (m ((c : Thread nD τ).loc main_arg2)) (m ((c : Thread nD τ).loc main_arg3))
          (ix2 (rowAt t i) (⟨p.val * 128 + l.val, by omega⟩ : Fin 1024)) := by
  have e : ((cfg0.win 7).blk t).view.emb (ix2 (⟨9 * i.val + p.val, by omega⟩ : Fin 4608) l)
      = (ix2 (⟨(rowAt t i).val * 9 + p.val, by omega⟩ : Fin 294912) l : S294912x128.Idx) := by
    blk_ext
    · refine (congrArg (· * 4608 + (9 * i.val + p.val)) (congrFun (idx t).2.2.2.2.2 0)).trans ?_
      show t.val * 4608 + (9 * i.val + p.val) = (t.val * 512 + i.val) * 9 + p.val; omega
    · exact (congrArg (· * 128 + l.val) (congrFun (idx t).2.2.2.2.2 1)).trans (by show 0 * 128 + l.val = l.val; omega)
  have b := congrFun ((dats m 0 c).read_blk_arrAt_eq_flushed 7 disjoint7 cfg0.N t t.isLt (flush7 t)) (ix2 (⟨9 * i.val + p.val, by omega⟩ : Fin 4608) l)
  rw [← e]
  refine b.trans ?_
  show (dats m 0 c).after 7 t (ix2 (⟨9 * i.val + p.val, by omega⟩ : Fin 4608) l) = _
  rw [after_7, left_slot]
  refine (resid_apply _ _ _ _ _ i _).trans ?_
  rw [result_apply, x_block]
  simp only [ys_block, yh_block, w1_block, w2_block]

/-- The program's result: the slots' token rows, put back in one row per token. -/
theorem result_final (c : Dev nD) : Pipeline.afterTail₀ cfgs (dats m) 0 (V0 m) [hostOps1] c main_v11
    = result (m ((c : Thread nD τ).loc main_arg0)) (m ((c : Thread nD τ).loc main_arg1)) (m ((c : Thread nD τ).loc main_arg2)) (m ((c : Thread nD τ).loc main_arg3)) := by
  have a : Pipeline.afterTail₀ cfgs (dats m) 0 (V0 m) [hostOps1] c main_v11
      = shapeCast _ (extractStridedSlice S32768x8x128 ![0, 0, 0] (shapeCast S32768x9x128 (show FVec Ideal S294912x128 .f32 from (dats m 0 c).arrAt 7 cfg0.N) shapeCasts_S294912x128_S32768x9x128)
          slices_S32768x9x128_S32768x8x128_0_0_0) shapeCasts_S32768x8x128_S32768x1024 := by
    unfold Pipeline.afterTail₀
    simp only [hostOps1, List.flatten_cons, List.flatten_nil, List.append_nil]
    entry_read
    rw [Pipeline.withArrays_arr spec0 launch0.win.arr_inj c (V0 m c) _ 7]
    rfl
  rw [a]
  funext y
  obtain ⟨r, n, rfl⟩ : ∃ (r : Fin 32768) (n : Fin 1024), y = ix2 r n := ⟨y 0, y 1, (ix2_eta y).symm⟩
  have f := slots_final m c (⟨r.val / 512, by have : cfg0.N = 64 := N_0; omega⟩ : Fin cfg0.N) (⟨r.val % 512, by omega⟩ : Fin 512) (⟨n.val / 128, by omega⟩ : Fin 8) (⟨n.val % 128, by omega⟩ : Fin 128)
  refine Eq.trans ?_ (f.trans (congrArg _ ?_))
  · generalize (dats m 0 c).arrAt 7 cfg0.N = A
    pointwise
    refine congrArg A (funext fun b => Fin.ext ?_)
    fin_cases b
    · show r.val * 9 + n.val / 128 = (r.val / 512 * 512 + r.val % 512) * 9 + n.val / 128; omega
    · rfl
  · funext b; apply Fin.ext; fin_cases b
    · show r.val / 512 * 512 + r.val % 512 = r.val; omega
    · show n.val / 128 * 128 + n.val % 128 = n.val; omega

/-- The program's run, with its result. -/
theorem run_value : θ_run defs (onTc (τ := τ) (main (F := Ideal))) ⟨m, fun _ => 0, ρ⟩ (fun r => ∀ c : Dev nD,
      r.2.mem ((c.tc : Thread nD τ).loc main_v11)
        = result (m ((c : Thread nD τ).loc main_arg0)) (m ((c : Thread nD τ).loc main_arg1)) (m ((c : Thread nD τ).loc main_arg2)) (m ((c : Thread nD τ).loc main_arg3))) :=
  (θ_run defs _ _).mono (fun r h c =>
    ((h.1 c).2 main_v11 (Pipeline.mem_restRefs_of main_v11 (by decide) (by decide))).trans (result_final m c)) (run_main m ρ)

end Cert.OutIdeal.Router

end
-- ==== Proof.lean ====
module

public import proofs.«01_k».proof.Defs
public import proofs.«01_k».proof.Proof.HgrnFrame
public import proofs.«01_k».proof.Proof.HgrnKernelFrame
public import proofs.«01_k».proof.Proof.ProjValue
public import proofs.«01_k».proof.Proof.Gen.Proj.Frame
public import proofs.«01_k».proof.Proof.Gen.ProjIdeal.Value
public import proofs.«01_k».proof.Proof.Gen.ProjRefIdeal.Run
public import proofs.«01_k».proof.Proof.FfnResult
public import proofs.«01_k».proof.Proof.FfnKernelLaunch
public import proofs.«01_k».proof.Proof.Gen.FfnRefIdeal.Run
public import proofs.«01_k».proof.Proof.LastResult
public import proofs.«01_k».proof.Proof.LastKernelLaunch
public import proofs.«01_k».proof.Proof.Gen.LastRefIdeal.Run
public import proofs.«01_k».proof.Proof.Gen.OutRefIdeal.Run
public import proofs.«01_k».proof.Proof.OutFrame
public import proofs.«01_k».proof.Proof.OutValue
public import proofs.«01_k».proof.Proof.OutKernelFrame
public import proofs.«01_k».proof.Proof.FfnRouted
public import proofs.«01_k».proof.Proof.Gen.Pre_in_range
public import proofs.«01_k».proof.Proof.Gen.Pre_routed
public import Idealize.ShloMosaic.Adequacy
public import Idealize.ShloMosaic.Init

@[expose] public section

set_option maxRecDepth 16384

noncomputable section

namespace Cert.Proof

open Idealize.ShloMosaic Idealize.SL.Sem

/-- The reference's projection runs and leaves its arguments alone. -/
theorem proj_reference_frame : Cert.quiescent_ProjRefIdeal := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)

/-- The kernel's seven arrays are the reference's. -/
theorem proj_algebraic : Cert.algebraic_ProjIdeal_ProjRefIdeal := by
  intro m g m' g' _ hagree
  refine ⟨fun c => ProjIdeal.Val.z (m (c.tc.loc ProjIdeal.main_arg0)) (m (c.tc.loc ProjIdeal.main_arg1)) (m (c.tc.loc ProjIdeal.main_arg2)),
    fun c => ProjIdeal.Val.xbc (m (c.tc.loc ProjIdeal.main_arg0)) (m (c.tc.loc ProjIdeal.main_arg1)) (m (c.tc.loc ProjIdeal.main_arg2)),
    fun c => ProjIdeal.Val.q (m (c.tc.loc ProjIdeal.main_arg0)) (m (c.tc.loc ProjIdeal.main_arg1)) (m (c.tc.loc ProjIdeal.main_arg2)),
    fun c => ProjIdeal.Val.f (m (c.tc.loc ProjIdeal.main_arg0)) (m (c.tc.loc ProjIdeal.main_arg1)) (m (c.tc.loc ProjIdeal.main_arg2)),
    fun c => ProjIdeal.Val.i (m (c.tc.loc ProjIdeal.main_arg0)) (m (c.tc.loc ProjIdeal.main_arg1)) (m (c.tc.loc ProjIdeal.main_arg2)),
    fun c => ProjIdeal.Val.g (m (c.tc.loc ProjIdeal.main_arg0)) (m (c.tc.loc ProjIdeal.main_arg1)) (m (c.tc.loc ProjIdeal.main_arg2)),
    fun c => ProjIdeal.Val.dt (m (c.tc.loc ProjIdeal.main_arg0)) (m (c.tc.loc ProjIdeal.main_arg1)) (m (c.tc.loc ProjIdeal.main_arg2)), ?_, ?_⟩
  · refine (θ_run _ _ _).mono (fun r h c => ?_) (ProjIdeal.Value.run_blocks (F := Ideal) m g)
    obtain ⟨h0, h1, h2, h3, h4, h5, h6, a0, a1, a2⟩ := h c
    exact ⟨h0.trans (ProjIdeal.Val.z_final m c), h1.trans (ProjIdeal.Val.xbc_final m c), h2.trans (ProjIdeal.Val.q_final m c),
      h3.trans (ProjIdeal.Val.f_final m c), h4.trans (ProjIdeal.Val.i_final m c), h5.trans (ProjIdeal.Val.g_final m c),
      h6.trans (ProjIdeal.Val.dt_final m c), a0, a1, a2⟩
  · refine (θ_run _ _ _).mono (fun r h c => ?_) (ProjRefIdeal.Value.run (F := Ideal) m' g')
    obtain ⟨h0, h1, h2, h3, h4, h5, h6, a0, a1, a2⟩ := h c
    obtain ⟨e0, e1, e2⟩ := hagree c
    rw [e0, e1, e2] at h0 h1 h2 h3 h4 h5 h6
    exact ⟨h0, h1, h2, h3, h4, h5, h6, a0, a1, a2⟩

/-- The reference's expert layer (the first layer) runs and leaves its arguments alone. -/
theorem ffn_reference_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The precondition of the value claim gives the one of the frames. -/
theorem ffn_in_range (m : (ℓ : Loc Cert.FfnIdeal.nD Cert.FfnIdeal.τ Cert.FfnIdeal.sig) → Buf (Elt Ideal) ℓ) (h : Cert.Pre_FfnIdeal_routed m) : FfnIdeal.Moe.InRange m :=
  FfnIdeal.Moe.inRange_of m fun c => (Cert.Moe.routed_of _ _ _ _ _ _ _ _ _ (h c)).1

/-- The kernel's expert layer (the first layer) computes the reference's. -/
theorem ffn_algebraic : Cert.algebraic_FfnIdeal_FfnRefIdeal_pre_routed := by
  intro m g m' g' hp hagree
  refine ⟨fun c => FfnRefIdeal.Val.result (m (c.tc.loc FfnIdeal.main_arg0)) (m (c.tc.loc FfnIdeal.main_arg1)) (m (c.tc.loc FfnIdeal.main_arg2)) (m (c.tc.loc FfnIdeal.main_arg3)) (m (c.tc.loc FfnIdeal.main_arg4)) (m (c.tc.loc FfnIdeal.main_arg5)) (m (c.tc.loc FfnIdeal.main_arg6)) (m (c.tc.loc FfnIdeal.main_arg7)) (m (c.tc.loc FfnIdeal.main_arg8)), ?_, ?_⟩
  · exact FfnIdeal.Moe.run_value m (ffn_in_range m hp) g fun c => (Cert.Moe.routed_of _ _ _ _ _ _ _ _ _ (hp c)).2
  · refine (θ_run _ _ _).mono (fun r h c => ?_) (FfnRefIdeal.Value.run (F := Ideal) m' g')
    obtain ⟨h0, rest⟩ := h c
    obtain ⟨e0, e1, e2, e3, e4, e5, e6, e7, e8⟩ := hagree c
    rw [FfnRefIdeal.Val.res_eq, e0, e1, e2, e3, e4, e5, e6, e7, e8] at h0
    exact ⟨h0, rest⟩

/-- The reference's expert layer (the last layer) runs and leaves its arguments alone. -/
theorem last_reference_frame : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The precondition of the value claim gives the one of the frames. -/
theorem last_in_range (m : (ℓ : Loc Cert.LastIdeal.nD Cert.LastIdeal.τ Cert.LastIdeal.sig) → Buf (Elt Ideal) ℓ) (h : Cert.Pre_LastIdeal_routed m) : LastIdeal.Moe.InRange m :=
  LastIdeal.Moe.inRange_of m fun c => (Cert.Moe.routed_of _ _ _ _ _ _ _ _ _ (h c)).1

/-- The kernel's expert layer (the last layer) computes the reference's. -/
theorem last_algebraic : Cert.algebraic_LastIdeal_LastRefIdeal_pre_routed := by
  intro m g m' g' hp hagree
  refine ⟨fun c => LastRefIdeal.Val.result (m (c.tc.loc LastIdeal.main_arg0)) (m (c.tc.loc LastIdeal.main_arg1)) (m (c.tc.loc LastIdeal.main_arg2)) (m (c.tc.loc LastIdeal.main_arg3)) (m (c.tc.loc LastIdeal.main_arg4)) (m (c.tc.loc LastIdeal.main_arg5)) (m (c.tc.loc LastIdeal.main_arg6)) (m (c.tc.loc LastIdeal.main_arg7)) (m (c.tc.loc LastIdeal.main_arg8)), ?_, ?_⟩
  · exact LastIdeal.Moe.run_value m (last_in_range m hp) g fun c => (Cert.Moe.routed_of _ _ _ _ _ _ _ _ _ (hp c)).2
  · refine (θ_run _ _ _).mono (fun r h c => ?_) (LastRefIdeal.Value.run (F := Ideal) m' g')
    obtain ⟨h0, rest⟩ := h c
    obtain ⟨e0, e1, e2, e3, e4, e5, e6, e7, e8⟩ := hagree c
    rw [LastRefIdeal.Val.res_eq, e0, e1, e2, e3, e4, e5, e6, e7, e8] at h0
    exact ⟨h0, rest⟩

/-- The reference's output projection runs and leaves its arguments alone. -/
theorem out_reference_frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel's residual stream after the output projection is the reference's. -/
theorem out_algebraic : Cert.algebraic_OutIdeal_OutRefIdeal := by
  intro m g m' g' _ hagree
  refine ⟨fun c => OutIdeal.Router.result (m (c.tc.loc OutIdeal.main_arg0)) (m (c.tc.loc OutIdeal.main_arg1)) (m (c.tc.loc OutIdeal.main_arg2)) (m (c.tc.loc OutIdeal.main_arg3)), ?_, ?_⟩
  · exact θ_run_and (OutIdeal.Router.run_value m g) (OutIdeal.Router.frame m g) |> (θ_run _ _ _).mono fun r h c => ⟨h.1 c, h.2.1 c⟩
  · refine (θ_run _ _ _).mono (fun r h c => ?_) (OutRefIdeal.Value.run (F := Ideal) m' g')
    obtain ⟨h0, rest⟩ := h c
    obtain ⟨e0, e1, e2, e3, e4, e5, e6⟩ := hagree c
    rw [e0, e1, e2, e3] at h0
    exact ⟨h0, rest⟩

theorem claim : Cert.Claim :=
  ⟨Cert.Kernel.Gen.facts, Cert.KernelIdeal.Gen.facts, Cert.Ffn.Gen.facts, Cert.FfnIdeal.Gen.facts, Cert.FfnRefIdeal.Gen.facts, Cert.Last.Gen.facts, Cert.LastIdeal.Gen.facts, Cert.LastRefIdeal.Gen.facts, Cert.Out.Gen.facts, Cert.OutIdeal.Gen.facts, Cert.OutRefIdeal.Gen.facts, Cert.Proj.Gen.facts, Cert.ProjIdeal.Gen.facts, Cert.ProjRefIdeal.Gen.facts, Cert.Pre_in_range.Gen.facts, Cert.Pre_routed.Gen.facts,
    fun m ρ _ => Cert.Kernel.Hgrn.frame m ρ, fun m ρ _ => Cert.KernelIdeal.Hgrn.frame m ρ,
    fun m ρ h => Cert.Ffn.Moe.frame m ρ (Cert.Ffn.Moe.inRange_of m h), fun m ρ h => Cert.FfnIdeal.Moe.frame m ρ (Cert.FfnIdeal.Moe.inRange_of m h),
    fun m ρ h => Cert.FfnIdeal.Moe.frame m ρ (ffn_in_range m h), ffn_reference_frame, fun m ρ _ => ffn_reference_frame m ρ trivial,
    fun m ρ h => Cert.Last.Moe.frame m ρ (Cert.Last.Moe.inRange_of m h), fun m ρ h => Cert.LastIdeal.Moe.frame m ρ (Cert.LastIdeal.Moe.inRange_of m h),
    fun m ρ h => Cert.LastIdeal.Moe.frame m ρ (last_in_range m h), last_reference_frame, fun m ρ _ => last_reference_frame m ρ trivial,
    fun m ρ _ => Cert.Out.Router.frame m ρ, fun m ρ _ => Cert.OutIdeal.Router.frame m ρ, out_reference_frame,
    fun m ρ _ => Cert.Proj.Gen.frame m ρ, fun m ρ _ => Cert.ProjIdeal.Gen.frame m ρ, proj_reference_frame,
    Idealize.ShloMosaic.IdealRules.named_const.statement Cert.KernelIdeal.κ "log2e" .f32 0x3FB8AA3B#32 (((Real.log 2)⁻¹ : ℝ) : EReal) rfl,
    trivial, ffn_algebraic,
    trivial, last_algebraic,
    trivial, out_algebraic,
    trivial, proj_algebraic⟩

end Cert.Proof

end
